-- ==== Defs.lean ====
def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_ProjR (m : (ℓ : Loc Cert.ProjR.nD Cert.ProjR.τ Cert.ProjR.sig) → Buf (Elt Bits) ℓ) : Prop :=
  True

def Pre_ProjRIdeal (m : (ℓ : Loc Cert.ProjRIdeal.nD Cert.ProjRIdeal.τ Cert.ProjRIdeal.sig) → Buf (Elt Ideal) ℓ) : Prop :=
  True

def Pre_ProjRRefIdeal (m : (ℓ : Loc Cert.ProjRRefIdeal.nD Cert.ProjRRefIdeal.τ Cert.ProjRRefIdeal.sig) → Buf (Elt Ideal) ℓ) : Prop :=
  True

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_ProjR [hProjR : Cert.ProjR.Facts] : Prop :=
  ∀ (m : (ℓ : Loc Cert.ProjR.nD Cert.ProjR.τ Cert.ProjR.sig) → Buf (Elt Bits) ℓ) (g : Dev Cert.ProjR.nD → PrngReg), Pre_ProjR m →
    θ_run (Cert.ProjR.defs (F := Bits)) (onTc (τ := Cert.ProjR.τ) (Cert.ProjR.main (F := Bits))) ⟨m, fun _ => 0, g⟩ (fun r => (∀ c : Dev Cert.ProjR.nD,
      r.2.mem ((c.tc : Thread Cert.ProjR.nD Cert.ProjR.τ).loc Cert.ProjR.main_arg0) = m ((c.tc : Thread Cert.ProjR.nD Cert.ProjR.τ).loc Cert.ProjR.main_arg0)
      ∧ r.2.mem ((c.tc : Thread Cert.ProjR.nD Cert.ProjR.τ).loc Cert.ProjR.main_arg1) = m ((c.tc : Thread Cert.ProjR.nD Cert.ProjR.τ).loc Cert.ProjR.main_arg1)
      ∧ r.2.mem ((c.tc : Thread Cert.ProjR.nD Cert.ProjR.τ).loc Cert.ProjR.main_arg2) = m ((c.tc : Thread Cert.ProjR.nD Cert.ProjR.τ).loc Cert.ProjR.main_arg2)
      ∧ r.2.mem ((c.tc : Thread Cert.ProjR.nD Cert.ProjR.τ).loc Cert.ProjR.main_arg3) = m ((c.tc : Thread Cert.ProjR.nD Cert.ProjR.τ).loc Cert.ProjR.main_arg3)
      ∧ r.2.mem ((c.tc : Thread Cert.ProjR.nD Cert.ProjR.τ).loc Cert.ProjR.main_arg4) = m ((c.tc : Thread Cert.ProjR.nD Cert.ProjR.τ).loc Cert.ProjR.main_arg4)
      ∧ r.2.mem ((c.tc : Thread Cert.ProjR.nD Cert.ProjR.τ).loc Cert.ProjR.main_arg5) = m ((c.tc : Thread Cert.ProjR.nD Cert.ProjR.τ).loc Cert.ProjR.main_arg5)
      ∧ r.2.mem ((c.tc : Thread Cert.ProjR.nD Cert.ProjR.τ).loc Cert.ProjR.main_arg6) = m ((c.tc : Thread Cert.ProjR.nD Cert.ProjR.τ).loc Cert.ProjR.main_arg6)
      ∧ r.2.mem ((c.tc : Thread Cert.ProjR.nD Cert.ProjR.τ).loc Cert.ProjR.main_arg7) = m ((c.tc : Thread Cert.ProjR.nD Cert.ProjR.τ).loc Cert.ProjR.main_arg7)
      ∧ r.2.mem ((c.tc : Thread Cert.ProjR.nD Cert.ProjR.τ).loc Cert.ProjR.main_arg8) = m ((c.tc : Thread Cert.ProjR.nD Cert.ProjR.τ).loc Cert.ProjR.main_arg8)
      ∧ r.2.mem ((c.tc : Thread Cert.ProjR.nD Cert.ProjR.τ).loc Cert.ProjR.main_arg9) = m ((c.tc : Thread Cert.ProjR.nD Cert.ProjR.τ).loc Cert.ProjR.main_arg9))
      ∧ r.2.sem = fun _ => 0)

def quiescent_ProjRIdeal [hProjRIdeal : Cert.ProjRIdeal.Facts] : Prop :=
  ∀ (m : (ℓ : Loc Cert.ProjRIdeal.nD Cert.ProjRIdeal.τ Cert.ProjRIdeal.sig) → Buf (Elt Ideal) ℓ) (g : Dev Cert.ProjRIdeal.nD → PrngReg), Pre_ProjRIdeal m →
    θ_run (Cert.ProjRIdeal.defs (F := Ideal)) (onTc (τ := Cert.ProjRIdeal.τ) (Cert.ProjRIdeal.main (F := Ideal))) ⟨m, fun _ => 0, g⟩ (fun r => (∀ c : Dev Cert.ProjRIdeal.nD,
      r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
      ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
      ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2)
      ∧ r.2.mem ((c.tc : Thread Cert.ProjRIdeal.nD Cert.ProjRIdeal.τ).loc Cert.ProjRIdeal.main_arg3) = m ((c.tc : Thread Cert.ProjRIdeal.nD Cert.ProjRIdeal.τ).loc Cert.ProjRIdeal.main_arg3)
      ∧ r.2.mem ((c.tc : Thread Cert.ProjRIdeal.nD Cert.ProjRIdeal.τ).loc Cert.ProjRIdeal.main_arg4) = m ((c.tc : Thread Cert.ProjRIdeal.nD Cert.ProjRIdeal.τ).loc Cert.ProjRIdeal.main_arg4)
      ∧ r.2.mem ((c.tc : Thread Cert.ProjRIdeal.nD Cert.ProjRIdeal.τ).loc Cert.ProjRIdeal.main_arg5) = m ((c.tc : Thread Cert.ProjRIdeal.nD Cert.ProjRIdeal.τ).loc Cert.ProjRIdeal.main_arg5)
      ∧ r.2.mem ((c.tc : Thread Cert.ProjRIdeal.nD Cert.ProjRIdeal.τ).loc Cert.ProjRIdeal.main_arg6) = m ((c.tc : Thread Cert.ProjRIdeal.nD Cert.ProjRIdeal.τ).loc Cert.ProjRIdeal.main_arg6)
      ∧ r.2.mem ((c.tc : Thread Cert.ProjRIdeal.nD Cert.ProjRIdeal.τ).loc Cert.ProjRIdeal.main_arg7) = m ((c.tc : Thread Cert.ProjRIdeal.nD Cert.ProjRIdeal.τ).loc Cert.ProjRIdeal.main_arg7)
      ∧ r.2.mem ((c.tc : Thread Cert.ProjRIdeal.nD Cert.ProjRIdeal.τ).loc Cert.ProjRIdeal.main_arg8) = m ((c.tc : Thread Cert.ProjRIdeal.nD Cert.ProjRIdeal.τ).loc Cert.ProjRIdeal.main_arg8)
      ∧ r.2.mem ((c.tc : Thread Cert.ProjRIdeal.nD Cert.ProjRIdeal.τ).loc Cert.ProjRIdeal.main_arg9) = m ((c.tc : Thread Cert.ProjRIdeal.nD Cert.ProjRIdeal.τ).loc Cert.ProjRIdeal.main_arg9))
      ∧ r.2.sem = fun _ => 0)

def quiescent_ProjRRefIdeal [hProjRRefIdeal : Cert.ProjRRefIdeal.Facts] : Prop :=
  ∀ (m : (ℓ : Loc Cert.ProjRRefIdeal.nD Cert.ProjRRefIdeal.τ Cert.ProjRRefIdeal.sig) → Buf (Elt Ideal) ℓ) (g : Dev Cert.ProjRRefIdeal.nD → PrngReg), Pre_ProjRRefIdeal m →
    θ_run (Cert.ProjRRefIdeal.defs (F := Ideal)) (onTc (τ := Cert.ProjRRefIdeal.τ) (Cert.ProjRRefIdeal.main (F := Ideal))) ⟨m, fun _ => 0, g⟩ (fun r => (∀ c : Dev Cert.ProjRRefIdeal.nD,
      r.2.mem ((c.tc : Thread Cert.ProjRRefIdeal.nD Cert.ProjRRefIdeal.τ).loc Cert.ProjRRefIdeal.main_arg0) = m ((c.tc : Thread Cert.ProjRRefIdeal.nD Cert.ProjRRefIdeal.τ).loc Cert.ProjRRefIdeal.main_arg0)
      ∧ r.2.mem ((c.tc : Thread Cert.ProjRRefIdeal.nD Cert.ProjRRefIdeal.τ).loc Cert.ProjRRefIdeal.main_arg1) = m ((c.tc : Thread Cert.ProjRRefIdeal.nD Cert.ProjRRefIdeal.τ).loc Cert.ProjRRefIdeal.main_arg1)
      ∧ r.2.mem ((c.tc : Thread Cert.ProjRRefIdeal.nD Cert.ProjRRefIdeal.τ).loc Cert.ProjRRefIdeal.main_arg2) = m ((c.tc : Thread Cert.ProjRRefIdeal.nD Cert.ProjRRefIdeal.τ).loc Cert.ProjRRefIdeal.main_arg2)
      ∧ r.2.mem ((c.tc : Thread Cert.ProjRRefIdeal.nD Cert.ProjRRefIdeal.τ).loc Cert.ProjRRefIdeal.main_arg3) = m ((c.tc : Thread Cert.ProjRRefIdeal.nD Cert.ProjRRefIdeal.τ).loc Cert.ProjRRefIdeal.main_arg3)
      ∧ r.2.mem ((c.tc : Thread Cert.ProjRRefIdeal.nD Cert.ProjRRefIdeal.τ).loc Cert.ProjRRefIdeal.main_arg4) = m ((c.tc : Thread Cert.ProjRRefIdeal.nD Cert.ProjRRefIdeal.τ).loc Cert.ProjRRefIdeal.main_arg4)
      ∧ r.2.mem ((c.tc : Thread Cert.ProjRRefIdeal.nD Cert.ProjRRefIdeal.τ).loc Cert.ProjRRefIdeal.main_arg5) = m ((c.tc : Thread Cert.ProjRRefIdeal.nD Cert.ProjRRefIdeal.τ).loc Cert.ProjRRefIdeal.main_arg5)
      ∧ r.2.mem ((c.tc : Thread Cert.ProjRRefIdeal.nD Cert.ProjRRefIdeal.τ).loc Cert.ProjRRefIdeal.main_arg6) = m ((c.tc : Thread Cert.ProjRRefIdeal.nD Cert.ProjRRefIdeal.τ).loc Cert.ProjRRefIdeal.main_arg6)
      ∧ r.2.mem ((c.tc : Thread Cert.ProjRRefIdeal.nD Cert.ProjRRefIdeal.τ).loc Cert.ProjRRefIdeal.main_arg7) = m ((c.tc : Thread Cert.ProjRRefIdeal.nD Cert.ProjRRefIdeal.τ).loc Cert.ProjRRefIdeal.main_arg7)
      ∧ r.2.mem ((c.tc : Thread Cert.ProjRRefIdeal.nD Cert.ProjRRefIdeal.τ).loc Cert.ProjRRefIdeal.main_arg8) = m ((c.tc : Thread Cert.ProjRRefIdeal.nD Cert.ProjRRefIdeal.τ).loc Cert.ProjRRefIdeal.main_arg8)
      ∧ r.2.mem ((c.tc : Thread Cert.ProjRRefIdeal.nD Cert.ProjRRefIdeal.τ).loc Cert.ProjRRefIdeal.main_arg9) = m ((c.tc : Thread Cert.ProjRRefIdeal.nD Cert.ProjRRefIdeal.τ).loc Cert.ProjRRefIdeal.main_arg9))
      ∧ r.2.sem = fun _ => 0)

def preserves_FfnA_FfnAIdeal : Prop :=
  True

def algebraic_FfnAIdeal_FfnRefIdeal [hFfnAIdeal : Cert.FfnAIdeal.Facts] [hFfnRefIdeal : Cert.FfnRefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnAIdeal m →
    (∀ c : Dev Cert.FfnAIdeal.nD,
      m' ((c.tc : Thread Cert.FfnRefIdeal.nD Cert.FfnRefIdeal.τ).loc Cert.FfnRefIdeal.main_arg0) = m ((c.tc : Thread Cert.FfnAIdeal.nD Cert.FfnAIdeal.τ).loc Cert.FfnAIdeal.main_arg0)
      ∧ m' ((c.tc : Thread Cert.FfnRefIdeal.nD Cert.FfnRefIdeal.τ).loc Cert.FfnRefIdeal.main_arg1) = m ((c.tc : Thread Cert.FfnAIdeal.nD Cert.FfnAIdeal.τ).loc Cert.FfnAIdeal.main_arg1)
      ∧ m' ((c.tc : Thread Cert.FfnRefIdeal.nD Cert.FfnRefIdeal.τ).loc Cert.FfnRefIdeal.main_arg2) = m ((c.tc : Thread Cert.FfnAIdeal.nD Cert.FfnAIdeal.τ).loc Cert.FfnAIdeal.main_arg2)
      ∧ m' ((c.tc : Thread Cert.FfnRefIdeal.nD Cert.FfnRefIdeal.τ).loc Cert.FfnRefIdeal.main_arg3) = m ((c.tc : Thread Cert.FfnAIdeal.nD Cert.FfnAIdeal.τ).loc Cert.FfnAIdeal.main_arg3)
      ∧ m' ((c.tc : Thread Cert.FfnRefIdeal.nD Cert.FfnRefIdeal.τ).loc Cert.FfnRefIdeal.main_arg4) = m ((c.tc : Thread Cert.FfnAIdeal.nD Cert.FfnAIdeal.τ).loc Cert.FfnAIdeal.main_arg4)
      ∧ m' ((c.tc : Thread Cert.FfnRefIdeal.nD Cert.FfnRefIdeal.τ).loc Cert.FfnRefIdeal.main_arg5) = m ((c.tc : Thread Cert.FfnAIdeal.nD Cert.FfnAIdeal.τ).loc Cert.FfnAIdeal.main_arg5)) →
    ∃ (v0 : (c : Dev Cert.FfnAIdeal.nD) → Buf (Elt Ideal) ((c.tc : Thread Cert.FfnAIdeal.nD Cert.FfnAIdeal.τ).loc Cert.FfnAIdeal.main_v7)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v7) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnB_FfnBIdeal : Prop :=
  True

def algebraic_FfnBIdeal_FfnRefIdeal [hFfnBIdeal : Cert.FfnBIdeal.Facts] [hFfnRefIdeal : Cert.FfnRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBIdeal m →
    (∀ c : Dev Cert.FfnBIdeal.nD,
      m' ((c.tc : Thread Cert.FfnRefIdeal.nD Cert.FfnRefIdeal.τ).loc Cert.FfnRefIdeal.main_arg0) = m ((c.tc : Thread Cert.FfnBIdeal.nD Cert.FfnBIdeal.τ).loc Cert.FfnBIdeal.main_arg0)
      ∧ m' ((c.tc : Thread Cert.FfnRefIdeal.nD Cert.FfnRefIdeal.τ).loc Cert.FfnRefIdeal.main_arg1) = m ((c.tc : Thread Cert.FfnBIdeal.nD Cert.FfnBIdeal.τ).loc Cert.FfnBIdeal.main_arg1)
      ∧ m' ((c.tc : Thread Cert.FfnRefIdeal.nD Cert.FfnRefIdeal.τ).loc Cert.FfnRefIdeal.main_arg2) = m ((c.tc : Thread Cert.FfnBIdeal.nD Cert.FfnBIdeal.τ).loc Cert.FfnBIdeal.main_arg2)
      ∧ m' ((c.tc : Thread Cert.FfnRefIdeal.nD Cert.FfnRefIdeal.τ).loc Cert.FfnRefIdeal.main_arg3) = m ((c.tc : Thread Cert.FfnBIdeal.nD Cert.FfnBIdeal.τ).loc Cert.FfnBIdeal.main_arg3)
      ∧ m' ((c.tc : Thread Cert.FfnRefIdeal.nD Cert.FfnRefIdeal.τ).loc Cert.FfnRefIdeal.main_arg4) = m ((c.tc : Thread Cert.FfnBIdeal.nD Cert.FfnBIdeal.τ).loc Cert.FfnBIdeal.main_arg4)
      ∧ m' ((c.tc : Thread Cert.FfnRefIdeal.nD Cert.FfnRefIdeal.τ).loc Cert.FfnRefIdeal.main_arg5) = m ((c.tc : Thread Cert.FfnBIdeal.nD Cert.FfnBIdeal.τ).loc Cert.FfnBIdeal.main_arg5)) →
    ∃ (v0 : (c : Dev Cert.FfnBIdeal.nD) → Buf (Elt Ideal) ((c.tc : Thread Cert.FfnBIdeal.nD Cert.FfnBIdeal.τ).loc Cert.FfnBIdeal.main_v10)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v10) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)) →
    ∃ (v0 : (c : Dev Cert.OutLnIdeal.nD) → Buf (Elt Ideal) ((c.tc : Thread Cert.OutLnIdeal.nD Cert.OutLnIdeal.τ).loc Cert.OutLnIdeal.main_v8)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v8) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v31) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5))

def preserves_ProjA_ProjAIdeal : Prop :=
  IdealRules.named_const.Statement Cert.ProjAIdeal.κ "scale" .f32 0x3E38AA3B#32 (((1 / 8) * (Real.log 2)⁻¹ : ℝ) : EReal)

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v11) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_Attn_AttnIdeal : Prop :=
  True

def preserves_ProjR_ProjRIdeal : Prop :=
  True

def algebraic_ProjRIdeal_ProjRRefIdeal [hProjRIdeal : Cert.ProjRIdeal.Facts] [hProjRRefIdeal : Cert.ProjRRefIdeal.Facts] : Prop :=
  ∀ (m : (ℓ : Loc Cert.ProjRIdeal.nD Cert.ProjRIdeal.τ Cert.ProjRIdeal.sig) → Buf (Elt Ideal) ℓ) (g : Dev Cert.ProjRIdeal.nD → PrngReg)
    (m' : (ℓ : Loc Cert.ProjRRefIdeal.nD Cert.ProjRRefIdeal.τ Cert.ProjRRefIdeal.sig) → Buf (Elt Ideal) ℓ) (g' : Dev Cert.ProjRRefIdeal.nD → PrngReg), Pre_ProjRIdeal m →
    (∀ c : Dev Cert.ProjRIdeal.nD,
      m' ((c.tc : Thread Cert.ProjRRefIdeal.nD Cert.ProjRRefIdeal.τ).loc Cert.ProjRRefIdeal.main_arg0) = m ((c.tc : Thread Cert.ProjRIdeal.nD Cert.ProjRIdeal.τ).loc Cert.ProjRIdeal.main_arg0)
      ∧ m' ((c.tc : Thread Cert.ProjRRefIdeal.nD Cert.ProjRRefIdeal.τ).loc Cert.ProjRRefIdeal.main_arg1) = m ((c.tc : Thread Cert.ProjRIdeal.nD Cert.ProjRIdeal.τ).loc Cert.ProjRIdeal.main_arg1)
      ∧ m' ((c.tc : Thread Cert.ProjRRefIdeal.nD Cert.ProjRRefIdeal.τ).loc Cert.ProjRRefIdeal.main_arg2) = m ((c.tc : Thread Cert.ProjRIdeal.nD Cert.ProjRIdeal.τ).loc Cert.ProjRIdeal.main_arg2)
      ∧ m' ((c.tc : Thread Cert.ProjRRefIdeal.nD Cert.ProjRRefIdeal.τ).loc Cert.ProjRRefIdeal.main_arg3) = m ((c.tc : Thread Cert.ProjRIdeal.nD Cert.ProjRIdeal.τ).loc Cert.ProjRIdeal.main_arg3)
      ∧ m' ((c.tc : Thread Cert.ProjRRefIdeal.nD Cert.ProjRRefIdeal.τ).loc Cert.ProjRRefIdeal.main_arg4) = m ((c.tc : Thread Cert.ProjRIdeal.nD Cert.ProjRIdeal.τ).loc Cert.ProjRIdeal.main_arg4)
      ∧ m' ((c.tc : Thread Cert.ProjRRefIdeal.nD Cert.ProjRRefIdeal.τ).loc Cert.ProjRRefIdeal.main_arg5) = m ((c.tc : Thread Cert.ProjRIdeal.nD Cert.ProjRIdeal.τ).loc Cert.ProjRIdeal.main_arg5)
      ∧ m' ((c.tc : Thread Cert.ProjRRefIdeal.nD Cert.ProjRRefIdeal.τ).loc Cert.ProjRRefIdeal.main_arg6) = m ((c.tc : Thread Cert.ProjRIdeal.nD Cert.ProjRIdeal.τ).loc Cert.ProjRIdeal.main_arg6)
      ∧ m' ((c.tc : Thread Cert.ProjRRefIdeal.nD Cert.ProjRRefIdeal.τ).loc Cert.ProjRRefIdeal.main_arg7) = m ((c.tc : Thread Cert.ProjRIdeal.nD Cert.ProjRIdeal.τ).loc Cert.ProjRIdeal.main_arg7)
      ∧ m' ((c.tc : Thread Cert.ProjRRefIdeal.nD Cert.ProjRRefIdeal.τ).loc Cert.ProjRRefIdeal.main_arg8) = m ((c.tc : Thread Cert.ProjRIdeal.nD Cert.ProjRIdeal.τ).loc Cert.ProjRIdeal.main_arg8)
      ∧ m' ((c.tc : Thread Cert.ProjRRefIdeal.nD Cert.ProjRRefIdeal.τ).loc Cert.ProjRRefIdeal.main_arg9) = m ((c.tc : Thread Cert.ProjRIdeal.nD Cert.ProjRIdeal.τ).loc Cert.ProjRIdeal.main_arg9)) →
    ∃ (v0 : (c : Dev Cert.ProjRIdeal.nD) → Buf (Elt Ideal) ((c.tc : Thread Cert.ProjRIdeal.nD Cert.ProjRIdeal.τ).loc Cert.ProjRIdeal.main_v28_0)) (v1 : (c : Dev Cert.ProjRIdeal.nD) → Buf (Elt Ideal) ((c.tc : Thread Cert.ProjRIdeal.nD Cert.ProjRIdeal.τ).loc Cert.ProjRIdeal.main_v28_2)) (v2 : (c : Dev Cert.ProjRIdeal.nD) → Buf (Elt Ideal) ((c.tc : Thread Cert.ProjRIdeal.nD Cert.ProjRIdeal.τ).loc Cert.ProjRIdeal.main_v28_3)) (v3 : (c : Dev Cert.ProjRIdeal.nD) → Buf (Elt Ideal) ((c.tc : Thread Cert.ProjRIdeal.nD Cert.ProjRIdeal.τ).loc Cert.ProjRIdeal.main_v28_6)),
      θ_run (Cert.ProjRIdeal.defs (F := Ideal)) (onTc (τ := Cert.ProjRIdeal.τ) (Cert.ProjRIdeal.main (F := Ideal))) ⟨m, fun _ => 0, g⟩ (fun r => ∀ c : Dev Cert.ProjRIdeal.nD,
          r.2.mem ((c.tc : Thread Cert.ProjRIdeal.nD Cert.ProjRIdeal.τ).loc Cert.ProjRIdeal.main_v28_0) = v0 c
          ∧ r.2.mem ((c.tc : Thread Cert.ProjRIdeal.nD Cert.ProjRIdeal.τ).loc Cert.ProjRIdeal.main_v28_2) = v1 c
          ∧ r.2.mem ((c.tc : Thread Cert.ProjRIdeal.nD Cert.ProjRIdeal.τ).loc Cert.ProjRIdeal.main_v28_3) = v2 c
          ∧ r.2.mem ((c.tc : Thread Cert.ProjRIdeal.nD Cert.ProjRIdeal.τ).loc Cert.ProjRIdeal.main_v28_6) = v3 c
          ∧ r.2.mem ((c.tc : Thread Cert.ProjRIdeal.nD Cert.ProjRIdeal.τ).loc Cert.ProjRIdeal.main_arg0) = m ((c.tc : Thread Cert.ProjRIdeal.nD Cert.ProjRIdeal.τ).loc Cert.ProjRIdeal.main_arg0)
          ∧ r.2.mem ((c.tc : Thread Cert.ProjRIdeal.nD Cert.ProjRIdeal.τ).loc Cert.ProjRIdeal.main_arg1) = m ((c.tc : Thread Cert.ProjRIdeal.nD Cert.ProjRIdeal.τ).loc Cert.ProjRIdeal.main_arg1)
          ∧ r.2.mem ((c.tc : Thread Cert.ProjRIdeal.nD Cert.ProjRIdeal.τ).loc Cert.ProjRIdeal.main_arg2) = m ((c.tc : Thread Cert.ProjRIdeal.nD Cert.ProjRIdeal.τ).loc Cert.ProjRIdeal.main_arg2)
          ∧ r.2.mem ((c.tc : Thread Cert.ProjRIdeal.nD Cert.ProjRIdeal.τ).loc Cert.ProjRIdeal.main_arg3) = m ((c.tc : Thread Cert.ProjRIdeal.nD Cert.ProjRIdeal.τ).loc Cert.ProjRIdeal.main_arg3)
          ∧ r.2.mem ((c.tc : Thread Cert.ProjRIdeal.nD Cert.ProjRIdeal.τ).loc Cert.ProjRIdeal.main_arg4) = m ((c.tc : Thread Cert.ProjRIdeal.nD Cert.ProjRIdeal.τ).loc Cert.ProjRIdeal.main_arg4)
          ∧ r.2.mem ((c.tc : Thread Cert.ProjRIdeal.nD Cert.ProjRIdeal.τ).loc Cert.ProjRIdeal.main_arg5) = m ((c.tc : Thread Cert.ProjRIdeal.nD Cert.ProjRIdeal.τ).loc Cert.ProjRIdeal.main_arg5)
          ∧ r.2.mem ((c.tc : Thread Cert.ProjRIdeal.nD Cert.ProjRIdeal.τ).loc Cert.ProjRIdeal.main_arg6) = m ((c.tc : Thread Cert.ProjRIdeal.nD Cert.ProjRIdeal.τ).loc Cert.ProjRIdeal.main_arg6)
          ∧ r.2.mem ((c.tc : Thread Cert.ProjRIdeal.nD Cert.ProjRIdeal.τ).loc Cert.ProjRIdeal.main_arg7) = m ((c.tc : Thread Cert.ProjRIdeal.nD Cert.ProjRIdeal.τ).loc Cert.ProjRIdeal.main_arg7)
          ∧ r.2.mem ((c.tc : Thread Cert.ProjRIdeal.nD Cert.ProjRIdeal.τ).loc Cert.ProjRIdeal.main_arg8) = m ((c.tc : Thread Cert.ProjRIdeal.nD Cert.ProjRIdeal.τ).loc Cert.ProjRIdeal.main_arg8)
          ∧ r.2.mem ((c.tc : Thread Cert.ProjRIdeal.nD Cert.ProjRIdeal.τ).loc Cert.ProjRIdeal.main_arg9) = m ((c.tc : Thread Cert.ProjRIdeal.nD Cert.ProjRIdeal.τ).loc Cert.ProjRIdeal.main_arg9))
      ∧ θ_run (Cert.ProjRRefIdeal.defs (F := Ideal)) (onTc (τ := Cert.ProjRRefIdeal.τ) (Cert.ProjRRefIdeal.main (F := Ideal))) ⟨m', fun _ => 0, g'⟩ (fun r => ∀ c : Dev Cert.ProjRRefIdeal.nD,
          r.2.mem ((c.tc : Thread Cert.ProjRRefIdeal.nD Cert.ProjRRefIdeal.τ).loc Cert.ProjRRefIdeal.main_v46) = v0 c
          ∧ r.2.mem ((c.tc : Thread Cert.ProjRRefIdeal.nD Cert.ProjRRefIdeal.τ).loc Cert.ProjRRefIdeal.main_v47) = v1 c
          ∧ r.2.mem ((c.tc : Thread Cert.ProjRRefIdeal.nD Cert.ProjRRefIdeal.τ).loc Cert.ProjRRefIdeal.main_v48) = v2 c
          ∧ r.2.mem ((c.tc : Thread Cert.ProjRRefIdeal.nD Cert.ProjRRefIdeal.τ).loc Cert.ProjRRefIdeal.main_v49) = v3 c
          ∧ r.2.mem ((c.tc : Thread Cert.ProjRRefIdeal.nD Cert.ProjRRefIdeal.τ).loc Cert.ProjRRefIdeal.main_arg0) = m' ((c.tc : Thread Cert.ProjRRefIdeal.nD Cert.ProjRRefIdeal.τ).loc Cert.ProjRRefIdeal.main_arg0)
          ∧ r.2.mem ((c.tc : Thread Cert.ProjRRefIdeal.nD Cert.ProjRRefIdeal.τ).loc Cert.ProjRRefIdeal.main_arg1) = m' ((c.tc : Thread Cert.ProjRRefIdeal.nD Cert.ProjRRefIdeal.τ).loc Cert.ProjRRefIdeal.main_arg1)
          ∧ r.2.mem ((c.tc : Thread Cert.ProjRRefIdeal.nD Cert.ProjRRefIdeal.τ).loc Cert.ProjRRefIdeal.main_arg2) = m' ((c.tc : Thread Cert.ProjRRefIdeal.nD Cert.ProjRRefIdeal.τ).loc Cert.ProjRRefIdeal.main_arg2)
          ∧ r.2.mem ((c.tc : Thread Cert.ProjRRefIdeal.nD Cert.ProjRRefIdeal.τ).loc Cert.ProjRRefIdeal.main_arg3) = m' ((c.tc : Thread Cert.ProjRRefIdeal.nD Cert.ProjRRefIdeal.τ).loc Cert.ProjRRefIdeal.main_arg3)
          ∧ r.2.mem ((c.tc : Thread Cert.ProjRRefIdeal.nD Cert.ProjRRefIdeal.τ).loc Cert.ProjRRefIdeal.main_arg4) = m' ((c.tc : Thread Cert.ProjRRefIdeal.nD Cert.ProjRRefIdeal.τ).loc Cert.ProjRRefIdeal.main_arg4)
          ∧ r.2.mem ((c.tc : Thread Cert.ProjRRefIdeal.nD Cert.ProjRRefIdeal.τ).loc Cert.ProjRRefIdeal.main_arg5) = m' ((c.tc : Thread Cert.ProjRRefIdeal.nD Cert.ProjRRefIdeal.τ).loc Cert.ProjRRefIdeal.main_arg5)
          ∧ r.2.mem ((c.tc : Thread Cert.ProjRRefIdeal.nD Cert.ProjRRefIdeal.τ).loc Cert.ProjRRefIdeal.main_arg6) = m' ((c.tc : Thread Cert.ProjRRefIdeal.nD Cert.ProjRRefIdeal.τ).loc Cert.ProjRRefIdeal.main_arg6)
          ∧ r.2.mem ((c.tc : Thread Cert.ProjRRefIdeal.nD Cert.ProjRRefIdeal.τ).loc Cert.ProjRRefIdeal.main_arg7) = m' ((c.tc : Thread Cert.ProjRRefIdeal.nD Cert.ProjRRefIdeal.τ).loc Cert.ProjRRefIdeal.main_arg7)
          ∧ r.2.mem ((c.tc : Thread Cert.ProjRRefIdeal.nD Cert.ProjRRefIdeal.τ).loc Cert.ProjRRefIdeal.main_arg8) = m' ((c.tc : Thread Cert.ProjRRefIdeal.nD Cert.ProjRRefIdeal.τ).loc Cert.ProjRRefIdeal.main_arg8)
          ∧ r.2.mem ((c.tc : Thread Cert.ProjRRefIdeal.nD Cert.ProjRRefIdeal.τ).loc Cert.ProjRRefIdeal.main_arg9) = m' ((c.tc : Thread Cert.ProjRRefIdeal.nD Cert.ProjRRefIdeal.τ).loc Cert.ProjRRefIdeal.main_arg9))

def Claim : Prop :=
  ∃ (hFfnA : Cert.FfnA.Facts) (hFfnAIdeal : Cert.FfnAIdeal.Facts) (hFfnRefIdeal : Cert.FfnRefIdeal.Facts) (hFfnB : Cert.FfnB.Facts) (hFfnBIdeal : Cert.FfnBIdeal.Facts) (hOutLn : Cert.OutLn.Facts) (hOutLnIdeal : Cert.OutLnIdeal.Facts) (hOutLnRefIdeal : Cert.OutLnRefIdeal.Facts) (hProjA : Cert.ProjA.Facts) (hProjAIdeal : Cert.ProjAIdeal.Facts) (hProjARefIdeal : Cert.ProjARefIdeal.Facts) (hAttn : Cert.Attn.Facts) (hAttnIdeal : Cert.AttnIdeal.Facts) (hAttnRefIdeal : Cert.AttnRefIdeal.Facts) (hProjR : Cert.ProjR.Facts) (hProjRIdeal : Cert.ProjRIdeal.Facts) (hProjRRefIdeal : Cert.ProjRRefIdeal.Facts),
    quiescent_FfnA (hFfnA := hFfnA)
    ∧ quiescent_FfnAIdeal (hFfnAIdeal := hFfnAIdeal)
    ∧ quiescent_FfnRefIdeal (hFfnRefIdeal := hFfnRefIdeal)
    ∧ quiescent_FfnB (hFfnB := hFfnB)
    ∧ quiescent_FfnBIdeal (hFfnBIdeal := hFfnBIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_ProjA (hProjA := hProjA)
    ∧ quiescent_ProjAIdeal (hProjAIdeal := hProjAIdeal)
    ∧ quiescent_ProjARefIdeal (hProjARefIdeal := hProjARefIdeal)
    ∧ quiescent_Attn (hAttn := hAttn)
    ∧ quiescent_AttnIdeal (hAttnIdeal := hAttnIdeal)
    ∧ quiescent_AttnRefIdeal (hAttnRefIdeal := hAttnRefIdeal)
    ∧ quiescent_ProjR (hProjR := hProjR)
    ∧ quiescent_ProjRIdeal (hProjRIdeal := hProjRIdeal)
    ∧ quiescent_ProjRRefIdeal (hProjRRefIdeal := hProjRRefIdeal)
    ∧ preserves_FfnA_FfnAIdeal
    ∧ algebraic_FfnAIdeal_FfnRefIdeal (hFfnAIdeal := hFfnAIdeal) (hFfnRefIdeal := hFfnRefIdeal)
    ∧ preserves_FfnB_FfnBIdeal
    ∧ algebraic_FfnBIdeal_FfnRefIdeal (hFfnBIdeal := hFfnBIdeal) (hFfnRefIdeal := hFfnRefIdeal)
    ∧ preserves_OutLn_OutLnIdeal
    ∧ algebraic_OutLnIdeal_OutLnRefIdeal (hOutLnIdeal := hOutLnIdeal) (hOutLnRefIdeal := hOutLnRefIdeal)
    ∧ preserves_ProjA_ProjAIdeal
    ∧ algebraic_ProjAIdeal_ProjARefIdeal (hProjAIdeal := hProjAIdeal) (hProjARefIdeal := hProjARefIdeal)
    ∧ preserves_Attn_AttnIdeal
    ∧ preserves_ProjR_ProjRIdeal
    ∧ algebraic_ProjRIdeal_ProjRRefIdeal (hProjRIdeal := hProjRIdeal) (hProjRRefIdeal := hProjRRefIdeal)
-- ==== FfnA.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x256 : Shape := ⟨2, ![2048, 256]⟩
abbrev S256x2048 : Shape := ⟨2, ![256, 2048]⟩
abbrev S512x2048 : Shape := ⟨2, ![512, 2048]⟩
abbrev S256x512 : Shape := ⟨2, ![256, 512]⟩
abbrev S512x256 : Shape := ⟨2, ![512, 256]⟩
abbrev S512x512 : Shape := ⟨2, ![512, 512]⟩
abbrev S1024x256 : Shape := ⟨2, ![1024, 256]⟩
abbrev S1024x512 : Shape := ⟨2, ![1024, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c21_i32_4 : BitVec 32 := 21#32
  let v9 : BitVec 1 := Scalar.cmpi .eq arg1 c21_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S2048 : Shape := ⟨1, ![2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== FfnB.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutLn.lean ====
abbrev S8192x2048 : Shape := ⟨2, ![8192, 2048]⟩
abbrev S8192x1024 : Shape := ⟨2, ![8192, 1024]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S8192x1024, .bf16⟩
  | .hbm, ⟨7, _⟩ => ⟨S8192x1024, .bf16⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnRefIdeal.lean ====
abbrev S8192x2048 : Shape := ⟨2, ![8192, 2048]⟩
abbrev S8192x1024 : Shape := ⟨2, ![8192, 1024]⟩
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== ProjA.lean ====
abbrev S8192x2048 : Shape := ⟨2, ![8192, 2048]⟩
abbrev S1x2048x6432 : Shape := ⟨3, ![1, 2048, 6432]⟩
abbrev S2048x6432 : Shape := ⟨2, ![2048, 6432]⟩
abbrev S6432x2048 : Shape := ⟨2, ![6432, 2048]⟩
abbrev S8192x3072 : Shape := ⟨2, ![8192, 3072]⟩
abbrev S512x2048 : Shape := ⟨2, ![512, 2048]⟩
abbrev S512x3072 : Shape := ⟨2, ![512, 3072]⟩
abbrev S3072x2048 : Shape := ⟨2, ![3072, 2048]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048x6432, .f32⟩
  | .hbm, ⟨2, _⟩ => ⟨S2048x6432, .f32⟩
  | .hbm, ⟨3, _⟩ => ⟨S6432x2048, .f32⟩
  | .hbm, ⟨4, _⟩ => ⟨S8192x3072, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x3072, .bf16⟩
  | .local _ .vmem, ⟨5, _⟩ => ⟨S512x3072, .bf16⟩
  | .local _ .vmem, ⟨6, _⟩ => ⟨S3072x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c512_i32_4 : BitVec 32 := 512#32
  let v18 : BitVec 32 := Scalar.muli arg0 c512_i32_4
  v18
def k0_off1 (i : grid0.Coords) : Fin 2 → Nat :=
  let arg0 : BitVec 32 := BitVec.ofNat 32 (i 0).val
  let c512_i32_4 : BitVec 32 := 512#32
  let v18 : BitVec 32 := Scalar.muli arg0 c512_i32_4
  let v19 : BitVec 32 := v18
  let v20 : Index := Scalar.indexCast v19
  let c0_5 : Index := 0#32
  ![v20.toNat, 0]
def k0_cond2 (i : grid0.Coords) : BitVec 1 :=
  let arg0 : BitVec 32 := BitVec.ofNat 32 (i 0).val
  let c6_i32_0 : BitVec 32 := 6#32
  let v3 : BitVec 1 := Scalar.cmpi .sge arg0 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjAIdeal.lean ====
variable {F : FTy → Type} [FloatOps F] [Named F]
def κ : String → Option EReal := fun
  | "scale" => some (((1 / 8) * (Real.log 2)⁻¹ : ℝ) : EReal)
  | _ => none
-- ==== ProjARefIdeal.lean ====
abbrev S8192x2048 : Shape := ⟨2, ![8192, 2048]⟩
abbrev S1x2048x6432 : Shape := ⟨3, ![1, 2048, 6432]⟩
abbrev S2048x6432 : Shape := ⟨2, ![2048, 6432]⟩
abbrev S8192x6432 : Shape := ⟨2, ![8192, 6432]⟩
abbrev S8192x1024 : Shape := ⟨2, ![8192, 1024]⟩
abbrev S_ : Shape := ⟨0, ![]⟩
abbrev S8192x3072 : Shape := ⟨2, ![8192, 3072]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x6432, .f32⟩
  | .hbm, ⟨2, _⟩ => ⟨S2048x6432, .f32⟩
  | .hbm, ⟨3, _⟩ => ⟨S8192x6432, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x2048, .f32⟩
  | .hbm, ⟨14, _⟩ => ⟨S8192x3072, .f32⟩
  | .hbm, ⟨15, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Attn.lean ====
abbrev S8192x3072 : Shape := ⟨2, ![8192, 3072]⟩
abbrev S1x64 : Shape := ⟨2, ![1, 64]⟩
abbrev S1x128 : Shape := ⟨2, ![1, 128]⟩
abbrev S8 : Shape := ⟨1, ![8]⟩
abbrev S_ : Shape := ⟨0, ![]⟩
abbrev S8x1 : Shape := ⟨2, ![8, 1]⟩
abbrev S8x8 : Shape := ⟨2, ![8, 8]⟩
abbrev S2048 : Shape := ⟨1, ![2048]⟩
abbrev S2048x1 : Shape := ⟨2, ![2048, 1]⟩
abbrev S2048x6 : Shape := ⟨2, ![2048, 6]⟩
abbrev S2048x128 : Shape := ⟨2, ![2048, 128]⟩
abbrev S64 : Shape := ⟨1, ![64]⟩
abbrev S128 : Shape := ⟨1, ![128]⟩
abbrev S8192x1024 : Shape := ⟨2, ![8192, 1024]⟩
abbrev S256x1024 : Shape := ⟨2, ![256, 1024]⟩
abbrev S2048x1024 : Shape := ⟨2, ![2048, 1024]⟩
abbrev S8x2048x256 : Shape := ⟨3, ![8, 2048, 256]⟩
abbrev S32x144x512 : Shape := ⟨3, ![32, 144, 512]⟩
abbrev S8x512x256 : Shape := ⟨3, ![8, 512, 256]⟩
abbrev S8x144x512 : Shape := ⟨3, ![8, 144, 512]⟩
abbrev S8x1x512 : Shape := ⟨3, ![8, 1, 512]⟩
abbrev S1x2048x128 : Shape := ⟨3, ![1, 2048, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S256x128 : Shape := ⟨2, ![256, 128]⟩
abbrev S1x1 : Shape := ⟨2, ![1, 1]⟩
abbrev S1x256x128 : Shape := ⟨3, ![1, 256, 128]⟩
abbrev S1x512 : Shape := ⟨2, ![1, 512]⟩
abbrev S1x1x512 : Shape := ⟨3, ![1, 1, 512]⟩
abbrev S144x512 : Shape := ⟨2, ![144, 512]⟩
abbrev S1x144x512 : Shape := ⟨3, ![1, 144, 512]⟩
abbrev S1x512x256 : Shape := ⟨3, ![1, 512, 256]⟩
abbrev S512x256 : Shape := ⟨2, ![512, 256]⟩
abbrev S512x512 : Shape := ⟨2, ![512, 512]⟩
abbrev S512 : Shape := ⟨1, ![512]⟩
abbrev S1x256x256 : Shape := ⟨3, ![1, 256, 256]⟩
abbrev S256x256 : Shape := ⟨2, ![256, 256]⟩
abbrev S256x512 : Shape := ⟨2, ![256, 512]⟩
abbrev S1x144x256 : Shape := ⟨3, ![1, 144, 256]⟩
abbrev S144x256 : Shape := ⟨2, ![144, 256]⟩
abbrev S1 : Shape := ⟨1, ![1]⟩
abbrev S128x256 : Shape := ⟨2, ![128, 256]⟩
abbrev S1x256 : Shape := ⟨2, ![1, 256]⟩
abbrev S256 : Shape := ⟨1, ![256]⟩
abbrev S256x1 : Shape := ⟨2, ![256, 1]⟩

abbrev nBuf : Space → Nat
  | .hbm => 118
  | .vmem => 19
  | .smem => 1
  | _ => 0

abbrev bufTy : (tb : Table) → Fin (tcTables nBuf tb) → BufTy
  | .hbm, ⟨0, _⟩ => ⟨S8192x3072, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .bf16⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .bf16⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .bf16⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x1, .f32⟩
  | .hbm, ⟨47, _⟩ => ⟨S8x1, .f32⟩
  | .hbm, ⟨48, _⟩ => ⟨S8x1, .f32⟩
  | .hbm, ⟨49, _⟩ => ⟨S8x1, .f32⟩
  | .hbm, ⟨50, _⟩ => ⟨S8x1, .f32⟩
  | .hbm, ⟨51, _⟩ => ⟨S8x8, .f32⟩
  | .hbm, ⟨52, _⟩ => ⟨S2048, .i32⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i1⟩
  | .hbm, ⟨86, _⟩ => ⟨S_, .i32⟩
  | .hbm, ⟨87, _⟩ => ⟨S_, .i1⟩
  | .hbm, ⟨88, _⟩ => ⟨S2048, .i1⟩
  | .hbm, ⟨89, _⟩ => ⟨S2048, .i1⟩
  | .hbm, ⟨90, _⟩ => ⟨S2048, .i1⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S2048, .f32⟩
  | .hbm, ⟨95, _⟩ => ⟨S2048x1, .f32⟩
  | .hbm, ⟨96, _⟩ => ⟨S2048x1, .f32⟩
  | .hbm, ⟨97, _⟩ => ⟨S2048x1, .f32⟩
  | .hbm, ⟨98, _⟩ => ⟨S2048x1, .f32⟩
  | .hbm, ⟨99, _⟩ => ⟨S2048x1, .f32⟩
  | .hbm, ⟨100, _⟩ => ⟨S2048x1, .f32⟩
  | .hbm, ⟨101, _⟩ => ⟨S2048x6, .f32⟩
  | .hbm, ⟨102, _⟩ => ⟨S_, .i32⟩
  | .hbm, ⟨103, _⟩ => ⟨S_, .f32⟩
  | .hbm, ⟨104, _⟩ => ⟨S2048x128, .f32⟩
  | .hbm, ⟨105, _⟩ => ⟨S2048x128, .bf16⟩
  | .hbm, ⟨106, _⟩ => ⟨S8192x3072, .bf16⟩
  | .hbm, ⟨107, _⟩ => ⟨S64, .f32⟩
  | .hbm, ⟨108, _⟩ => ⟨S1x64, .f32⟩
  | .hbm, ⟨109, _⟩ => ⟨S64, .f32⟩
  | .hbm, ⟨110, _⟩ => ⟨S1x64, .f32⟩
  | .hbm, ⟨111, _⟩ => ⟨S64, .f32⟩
  | .hbm, ⟨112, _⟩ => ⟨S1x64, .f32⟩
  | .hbm, ⟨113, _⟩ => ⟨S64, .f32⟩
  | .hbm, ⟨114, _⟩ => ⟨S1x64, .f32⟩
  | .hbm, ⟨115, _⟩ => ⟨S128, .f32⟩
  | .hbm, ⟨116, _⟩ => ⟨S1x128, .f32⟩
  | .hbm, ⟨117, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S256x1024, .bf16⟩
  | .local _ .vmem, ⟨13, _⟩ => ⟨S256x1024, .bf16⟩
  | .local _ .vmem, ⟨14, _⟩ => ⟨S8x2048x256, .bf16⟩
  | .local _ .vmem, ⟨15, _⟩ => ⟨S32x144x512, .bf16⟩
  | .local _ .vmem, ⟨16, _⟩ => ⟨S8x512x256, .bf16⟩
  | .local _ .vmem, ⟨17, _⟩ => ⟨S8x144x512, .f32⟩
  | .local _ .vmem, ⟨18, _⟩ => ⟨S8x1x512, .f32⟩
  | .local _ .smem, ⟨0, _⟩ => ⟨S8x8, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v38 : Ref sig .tc := ⟨.hbm, 70, rfl⟩
abbrev main_v39 : Ref sig .tc := ⟨.hbm, 71, rfl⟩
abbrev main_c_8 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_v5 : Ref sig .tc := ⟨.hbm, 81, rfl⟩
abbrev main_call1_v6 : Ref sig .tc := ⟨.hbm, 82, rfl⟩
abbrev main_call1_c_2 : Ref sig .tc := ⟨.hbm, 83, rfl⟩
abbrev main_call1_v7 : Ref sig .tc := ⟨.hbm, 84, rfl⟩
abbrev main_call1_v8 : Ref sig .tc := ⟨.hbm, 85, rfl⟩
abbrev main_call1_c_3 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_c_9 : Ref sig .tc := ⟨.hbm, 102, rfl⟩
abbrev main_call2_v0 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32_4 : BitVec 32) : Fin 2 → Nat :=
  let arg1 : BitVec 32 := BitVec.ofNat 32 (i 1).val
  let c8_i32 : BitVec 32 := 8#32
  let v10 : BitVec 32 := Scalar.muli arg1 c8_i32
  let v11 : BitVec 32 := Scalar.addi v10 c0_i32_4
  let v12 : Index := Scalar.indexCast v11
  let c0_5 : Index := 0#32
  ![v12.toNat, 0]
def k0_off2 (i : grid0.Coords) (c0_i32_7 : BitVec 32) : Fin 2 → Nat :=
  let arg1 : BitVec 32 := BitVec.ofNat 32 (i 1).val
  let c8_i32_6 : BitVec 32 := 8#32
  let v18 : BitVec 32 := Scalar.muli arg1 c8_i32_6
  let v19 : BitVec 32 := Scalar.addi v18 c0_i32_7
  let v20 : Index := Scalar.indexCast v19
  let c1 : Index := 1#32
  ![v20.toNat, 1]
def k0_off3 (i : grid0.Coords) (c0_i32_9 : BitVec 32) : Fin 2 → Nat :=
  let arg1 : BitVec 32 := BitVec.ofNat 32 (i 1).val
  let c8_i32_8 : BitVec 32 := 8#32
  let v26 : BitVec 32 := Scalar.muli arg1 c8_i32_8
  let v27 : BitVec 32 := Scalar.addi v26 c0_i32_9
  let v28 : Index := Scalar.indexCast v27
  let c2 : Index := 2#32
  ![v28.toNat, 2]
def k0_off4 (i : grid0.Coords) (c0_i32_11 : BitVec 32) : Fin 2 → Nat :=
  let arg1 : BitVec 32 := BitVec.ofNat 32 (i 1).val
  let c8_i32_10 : BitVec 32 := 8#32
  let v34 : BitVec 32 := Scalar.muli arg1 c8_i32_10
  let v35 : BitVec 32 := Scalar.addi v34 c0_i32_11
  let v36 : Index := Scalar.indexCast v35
  let c3 : Index := 3#32
  ![v36.toNat, 3]
def k0_off5 (i : grid0.Coords) (c0_i32_13 : BitVec 32) : Fin 2 → Nat :=
  let arg1 : BitVec 32 := BitVec.ofNat 32 (i 1).val
  let c8_i32_12 : BitVec 32 := 8#32
  let v42 : BitVec 32 := Scalar.muli arg1 c8_i32_12
  let v43 : BitVec 32 := Scalar.addi v42 c0_i32_13
  let v44 : Index := Scalar.indexCast v43
  let c4 : Index := 4#32
  ![v44.toNat, 4]
def k0_off6 (i : grid0.Coords) (c0_i32_15 : BitVec 32) : Fin 2 → Nat :=
  let arg1 : BitVec 32 := BitVec.ofNat 32 (i 1).val
  let c8_i32_14 : BitVec 32 := 8#32
  let v50 : BitVec 32 := Scalar.muli arg1 c8_i32_14
  let v51 : BitVec 32 := Scalar.addi v50 c0_i32_15
  let v52 : Index := Scalar.indexCast v51
  let c5 : Index := 5#32
  ![v52.toNat, 5]
@[reducible] def k0_t1_loop (i : grid0.Coords) : Scf.Loop 32 :=
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_386 : BitVec 32 := 1#32
  ⟨c0_i32_384, v657, c1_i32_386⟩
def k0_mult1 (i : grid0.Coords) (k0_t1 : Fin (k0_t1_loop i).trips) : BitVec 32 :=
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  v1266
def k0_off7 (i : grid0.Coords) (k0_t1 : Fin (k0_t1_loop i).trips) : Fin 3 → Nat :=
  let c0_694 : Index := 0#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1268 : Index := Scalar.indexCast v1267
  let c0_695 : Index := 0#32
  ![0, v1268.toNat, 0]
def k0_off8 (i : grid0.Coords) (k0_t1 : Fin (k0_t1_loop i).trips) : Fin 3 → Nat :=
  let c1_700 : Index := 1#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1274 : Index := Scalar.indexCast v1267
  let c0_701 : Index := 0#32
  ![1, v1274.toNat, 0]
def k0_off9 (i : grid0.Coords) (k0_t1 : Fin (k0_t1_loop i).trips) : Fin 3 → Nat :=
  let c2_706 : Index := 2#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1280 : Index := Scalar.indexCast v1267
  let c0_707 : Index := 0#32
  ![2, v1280.toNat, 0]
def k0_off10 (i : grid0.Coords) (k0_t1 : Fin (k0_t1_loop i).trips) : Fin 3 → Nat :=
  let c3_712 : Index := 3#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1286 : Index := Scalar.indexCast v1267
  let c0_713 : Index := 0#32
  ![3, v1286.toNat, 0]
def k0_off11 (i : grid0.Coords) (k0_t1 : Fin (k0_t1_loop i).trips) : Fin 3 → Nat :=
  let c4_718 : Index := 4#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1292 : Index := Scalar.indexCast v1267
  let c0_719 : Index := 0#32
  ![4, v1292.toNat, 0]
def k0_off12 (i : grid0.Coords) (k0_t1 : Fin (k0_t1_loop i).trips) : Fin 3 → Nat :=
  let c5_724 : Index := 5#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1298 : Index := Scalar.indexCast v1267
  let c0_725 : Index := 0#32
  ![5, v1298.toNat, 0]
def k0_off13 (i : grid0.Coords) (k0_t1 : Fin (k0_t1_loop i).trips) : Fin 3 → Nat :=
  let c6_730 : Index := 6#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1304 : Index := Scalar.indexCast v1267
  let c0_731 : Index := 0#32
  ![6, v1304.toNat, 0]
def k0_off14 (i : grid0.Coords) (k0_t1 : Fin (k0_t1_loop i).trips) : Fin 3 → Nat :=
  let c7_736 : Index := 7#32
  let c0_i32_384 : BitVec 32 := 0#32
  let c1_i32_386 : BitVec 32 := 1#32
  let arg19 : BitVec 32 := Scf.iv c0_i32_384 c1_i32_386 k0_t1
  let c512_i32_693 : BitVec 32 := 512#32
  let v1266 : BitVec 32 := Scalar.muli arg19 c512_i32_693
  let v1267 : BitVec 32 := v1266
  let v1310 : Index := Scalar.indexCast v1267
  let c0_737 : Index := 0#32
  ![7, v1310.toNat, 0]
def k0_off15 (i : grid0.Coords) (k0_t1 : Fin (k0_t1_loop i).trips) (c0_i32_774 : BitVec 32) : Fin 3 → Nat :=
  let c0_i32_384 : BitVec 32 := 0#32
  let c1_i32_386 : BitVec 32 := 1#32
  let arg19 : BitVec 32 := Scf.iv c0_i32_384 c1_i32_386 k0_t1
  let v1404 : BitVec 32 := Scalar.addi c0_i32_774 arg19
  let v1405 : Index := Scalar.indexCast v1404
  let c0_775 : Index := 0#32
  let c0_776 : Index := 0#32
  ![v1405.toNat, 0, 0]
@[reducible] def k0_t2_loop (i : grid0.Coords) : Scf.Loop 32 :=
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let v654 : BitVec 32 := Scalar.addi c0_i32_384 v653
  let c1_i32_387 : BitVec 32 := 1#32
  ⟨v657, v654, c1_i32_387⟩
def k0_mult2 (i : grid0.Coords) (k0_t2 : Fin (k0_t2_loop i).trips) : BitVec 32 :=
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  v1266
def k0_off16 (i : grid0.Coords) (k0_t2 : Fin (k0_t2_loop i).trips) : Fin 3 → Nat :=
  let c0_694 : Index := 0#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1268 : Index := Scalar.indexCast v1267
  let c0_695 : Index := 0#32
  ![0, v1268.toNat, 0]
def k0_off17 (i : grid0.Coords) (k0_t2 : Fin (k0_t2_loop i).trips) : Fin 3 → Nat :=
  let c1_700 : Index := 1#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1274 : Index := Scalar.indexCast v1267
  let c0_701 : Index := 0#32
  ![1, v1274.toNat, 0]
def k0_off18 (i : grid0.Coords) (k0_t2 : Fin (k0_t2_loop i).trips) : Fin 3 → Nat :=
  let c2_706 : Index := 2#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1280 : Index := Scalar.indexCast v1267
  let c0_707 : Index := 0#32
  ![2, v1280.toNat, 0]
def k0_off19 (i : grid0.Coords) (k0_t2 : Fin (k0_t2_loop i).trips) : Fin 3 → Nat :=
  let c3_712 : Index := 3#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1286 : Index := Scalar.indexCast v1267
  let c0_713 : Index := 0#32
  ![3, v1286.toNat, 0]
def k0_off20 (i : grid0.Coords) (k0_t2 : Fin (k0_t2_loop i).trips) : Fin 3 → Nat :=
  let c4_718 : Index := 4#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1292 : Index := Scalar.indexCast v1267
  let c0_719 : Index := 0#32
  ![4, v1292.toNat, 0]
def k0_off21 (i : grid0.Coords) (k0_t2 : Fin (k0_t2_loop i).trips) : Fin 3 → Nat :=
  let c5_724 : Index := 5#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1298 : Index := Scalar.indexCast v1267
  let c0_725 : Index := 0#32
  ![5, v1298.toNat, 0]
def k0_off22 (i : grid0.Coords) (k0_t2 : Fin (k0_t2_loop i).trips) : Fin 3 → Nat :=
  let c6_730 : Index := 6#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1304 : Index := Scalar.indexCast v1267
  let c0_731 : Index := 0#32
  ![6, v1304.toNat, 0]
def k0_off23 (i : grid0.Coords) (k0_t2 : Fin (k0_t2_loop i).trips) : Fin 3 → Nat :=
  let c7_736 : Index := 7#32
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let c512_i32_693 : BitVec 32 := 512#32
  let v1266 : BitVec 32 := Scalar.muli arg19 c512_i32_693
  let v1267 : BitVec 32 := v1266
  let v1310 : Index := Scalar.indexCast v1267
  let c0_737 : Index := 0#32
  ![7, v1310.toNat, 0]
def k0_off24 (i : grid0.Coords) (k0_t2 : Fin (k0_t2_loop i).trips) (c0_i32_774 : BitVec 32) : Fin 3 → Nat :=
  let c0_i32_384 : BitVec 32 := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v653 : BitVec 32 := Scalar.subi v652 c0_i32_384
  let c1_i32_385 : BitVec 32 := 1#32
  let v655 : BitVec 32 := Scalar.divsi v653 c1_i32_385
  let v656 : BitVec 32 := Scalar.muli v655 c1_i32_385
  let v657 : BitVec 32 := Scalar.addi c0_i32_384 v656
  let c1_i32_387 : BitVec 32 := 1#32
  let arg19 : BitVec 32 := Scf.iv v657 c1_i32_387 k0_t2
  let v1404 : BitVec 32 := Scalar.addi c0_i32_774 arg19
  let v1405 : Index := Scalar.indexCast v1404
  let c0_775 : Index := 0#32
  let c0_776 : Index := 0#32
  ![v1405.toNat, 0, 0]
def k0_mult3 (i : grid0.Coords) : BitVec 32 :=
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  v658
def k0_off25 (i : grid0.Coords) : Fin 3 → Nat :=
  let c0_389 : Index := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v661 : Index := Scalar.indexCast v660
  let c0_390 : Index := 0#32
  ![0, v661.toNat, 0]
def k0_off26 (i : grid0.Coords) : Fin 3 → Nat :=
  let c1_395 : Index := 1#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v667 : Index := Scalar.indexCast v660
  let c0_396 : Index := 0#32
  ![1, v667.toNat, 0]
def k0_off27 (i : grid0.Coords) : Fin 3 → Nat :=
  let c2_401 : Index := 2#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v673 : Index := Scalar.indexCast v660
  let c0_402 : Index := 0#32
  ![2, v673.toNat, 0]
def k0_off28 (i : grid0.Coords) : Fin 3 → Nat :=
  let c3_407 : Index := 3#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v679 : Index := Scalar.indexCast v660
  let c0_408 : Index := 0#32
  ![3, v679.toNat, 0]
def k0_off29 (i : grid0.Coords) : Fin 3 → Nat :=
  let c4_413 : Index := 4#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v685 : Index := Scalar.indexCast v660
  let c0_414 : Index := 0#32
  ![4, v685.toNat, 0]
def k0_off30 (i : grid0.Coords) : Fin 3 → Nat :=
  let c5_419 : Index := 5#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v691 : Index := Scalar.indexCast v660
  let c0_420 : Index := 0#32
  ![5, v691.toNat, 0]
def k0_off31 (i : grid0.Coords) : Fin 3 → Nat :=
  let c6_425 : Index := 6#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v697 : Index := Scalar.indexCast v660
  let c0_426 : Index := 0#32
  ![6, v697.toNat, 0]
def k0_off32 (i : grid0.Coords) : Fin 3 → Nat :=
  let c7_431 : Index := 7#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32 : BitVec 32 := 512#32
  let v658 : BitVec 32 := Scalar.muli v652 c512_i32
  let v659 : BitVec 32 := v658
  let c0_i32_388 : BitVec 32 := 0#32
  let v660 : BitVec 32 := Scalar.addi v659 c0_i32_388
  let v703 : Index := Scalar.indexCast v660
  let c0_432 : Index := 0#32
  ![7, v703.toNat, 0]
def k0_off33 (i : grid0.Coords) (c0_i32_479 : BitVec 32) : Fin 3 → Nat :=
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v826 : BitVec 32 := Scalar.addi c0_i32_479 v652
  let v827 : Index := Scalar.indexCast v826
  let c0_480 : Index := 0#32
  let c0_481 : Index := 0#32
  ![v827.toNat, 0, 0]
def k0_cond2 (i : grid0.Coords) : BitVec 1 :=
  let arg2 : BitVec 32 := BitVec.ofNat 32 (i 2).val
  let c2_i32_578 : BitVec 32 := 2#32
  let c0_i32_579 : BitVec 32 := 0#32
  let v954 : BitVec 1 := Scalar.cmpi .eq c2_i32_578 c0_i32_579
  let c1_i32_580 : BitVec 32 := 1#32
  let v955 : BitVec 32 := Scalar.select v954 c1_i32_580 c2_i32_578
  let v956 : BitVec 32 := Scalar.remsi arg2 v955
  let c0_i32_582 : BitVec 32 := 0#32
  let v958 : BitVec 1 := Scalar.cmpi .slt v956 c0_i32_582
  let c0_i32_583 : BitVec 32 := 0#32
  let v959 : BitVec 1 := Scalar.cmpi .slt v955 c0_i32_583
  let v960 : BitVec 1 := Scalar.xori v958 v959
  let c0_i32_581 : BitVec 32 := 0#32
  let v957 : BitVec 1 := Scalar.cmpi .ne v956 c0_i32_581
  let v961 : BitVec 1 := Scalar.andi v960 v957
  let v962 : BitVec 32 := Scalar.addi v956 v955
  let v963 : BitVec 32 := Scalar.select v961 v962 v956
  let c1_i32_584 : BitVec 32 := 1#32
  let v964 : BitVec 1 := Scalar.cmpi .sge v963 c1_i32_584
  let v965 : BitVec 32 := Scalar.extui v964
  let c0_i32_585 : BitVec 32 := 0#32
  let v966 : BitVec 1 := Scalar.cmpi .ne v965 c0_i32_585
  v966

def k0_mult4 (i : grid0.Coords) : BitVec 32 :=
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  v1266
def k0_off34 (i : grid0.Coords) : Fin 3 → Nat :=
  let c0_695 : Index := 0#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1269 : Index := Scalar.indexCast v1268
  let c0_696 : Index := 0#32
  ![0, v1269.toNat, 0]
def k0_off35 (i : grid0.Coords) : Fin 3 → Nat :=
  let c1_701 : Index := 1#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1275 : Index := Scalar.indexCast v1268
  let c0_702 : Index := 0#32
  ![1, v1275.toNat, 0]
def k0_off36 (i : grid0.Coords) : Fin 3 → Nat :=
  let c2_707 : Index := 2#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1281 : Index := Scalar.indexCast v1268
  let c0_708 : Index := 0#32
  ![2, v1281.toNat, 0]
def k0_off37 (i : grid0.Coords) : Fin 3 → Nat :=
  let c3_713 : Index := 3#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1287 : Index := Scalar.indexCast v1268
  let c0_714 : Index := 0#32
  ![3, v1287.toNat, 0]
def k0_off38 (i : grid0.Coords) : Fin 3 → Nat :=
  let c4_719 : Index := 4#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1293 : Index := Scalar.indexCast v1268
  let c0_720 : Index := 0#32
  ![4, v1293.toNat, 0]
def k0_off39 (i : grid0.Coords) : Fin 3 → Nat :=
  let c5_725 : Index := 5#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1299 : Index := Scalar.indexCast v1268
  let c0_726 : Index := 0#32
  ![5, v1299.toNat, 0]
def k0_off40 (i : grid0.Coords) : Fin 3 → Nat :=
  let c6_731 : Index := 6#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1305 : Index := Scalar.indexCast v1268
  let c0_732 : Index := 0#32
  ![6, v1305.toNat, 0]
def k0_off41 (i : grid0.Coords) : Fin 3 → Nat :=
  let c7_737 : Index := 7#32
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let c512_i32_693 : BitVec 32 := 512#32
  let v1266 : BitVec 32 := Scalar.muli v652 c512_i32_693
  let v1267 : BitVec 32 := v1266
  let c256_i32_694 : BitVec 32 := 256#32
  let v1268 : BitVec 32 := Scalar.addi v1267 c256_i32_694
  let v1311 : Index := Scalar.indexCast v1268
  let c0_738 : Index := 0#32
  ![7, v1311.toNat, 0]
def k0_off42 (i : grid0.Coords) (c0_i32_786 : BitVec 32) : Fin 3 → Nat :=
  let arg2 : BitVec 32 := BitVec.ofNat 32 (i 2).val
  let c0_i32_377 : BitVec 32 := 0#32
  let v637 : BitVec 1 := Scalar.cmpi .sgt arg2 c0_i32_377
  let v638 : BitVec 32 := Scalar.extui v637
  let c0_i32_378 : BitVec 32 := 0#32
  let v639 : BitVec 1 := Scalar.cmpi .slt arg2 c0_i32_378
  let v640 : BitVec 32 := Scalar.extui v639
  let v641 : BitVec 32 := Scalar.subi v638 v640
  let c2_i32_376 : BitVec 32 := 2#32
  let c0_i32_379 : BitVec 32 := 0#32
  let v642 : BitVec 1 := Scalar.cmpi .sgt c2_i32_376 c0_i32_379
  let v643 : BitVec 32 := Scalar.extui v642
  let c0_i32_380 : BitVec 32 := 0#32
  let v644 : BitVec 1 := Scalar.cmpi .slt c2_i32_376 c0_i32_380
  let v645 : BitVec 32 := Scalar.extui v644
  let v646 : BitVec 32 := Scalar.subi v643 v645
  let v647 : BitVec 1 := Scalar.cmpi .ne v641 v646
  let v648 : BitVec 32 := Scalar.remsi arg2 c2_i32_376
  let c0_i32_381 : BitVec 32 := 0#32
  let v649 : BitVec 1 := Scalar.cmpi .ne v648 c0_i32_381
  let v650 : BitVec 1 := Scalar.andi v647 v649
  let v636 : BitVec 32 := Scalar.divsi arg2 c2_i32_376
  let c1_i32_382 : BitVec 32 := 1#32
  let v651 : BitVec 32 := Scalar.subi v636 c1_i32_382
  let v652 : BitVec 32 := Scalar.select v650 v651 v636
  let v1434 : BitVec 32 := Scalar.addi c0_i32_786 v652
  let v1435 : Index := Scalar.indexCast v1434
  let c0_787 : Index := 0#32
  let c256_788 : Index := 256#32
  ![v1435.toNat, 0, 256]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnRefIdeal.lean ====
abbrev S8192x3072 : Shape := ⟨2, ![8192, 3072]⟩
abbrev S1x64 : Shape := ⟨2, ![1, 64]⟩
abbrev S1x128 : Shape := ⟨2, ![1, 128]⟩
abbrev S8192x1024 : Shape := ⟨2, ![8192, 1024]⟩
abbrev S4x2048x8x2x64 : Shape := ⟨5, ![4, 2048, 8, 2, 64]⟩
abbrev S4x8x2048x2x64 : Shape := ⟨5, ![4, 8, 2048, 2, 64]⟩
abbrev S4x2048x8x128 : Shape := ⟨4, ![4, 2048, 8, 128]⟩
abbrev S4x8x2048x128 : Shape := ⟨4, ![4, 8, 2048, 128]⟩
abbrev S64 : Shape := ⟨1, ![64]⟩
abbrev S_ : Shape := ⟨0, ![]⟩
abbrev S8 : Shape := ⟨1, ![8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x1x1 : Shape := ⟨3, ![8, 1, 1]⟩
abbrev S8x2048x2048 : Shape := ⟨3, ![8, 2048, 2048]⟩
abbrev S4x8x2048x1x64 : Shape := ⟨5, ![4, 8, 2048, 1, 64]⟩
abbrev S4x8x2048x64 : Shape := ⟨4, ![4, 8, 2048, 64]⟩
abbrev S4x8x2048x2048 : Shape := ⟨4, ![4, 8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S128 : Shape := ⟨1, ![128]⟩
abbrev S1x1x1x128 : Shape := ⟨4, ![1, 1, 1, 128]⟩

abbrev nBuf : Space → Nat
  | .hbm => 148
  | .vmem => 0
  | .smem => 0
  | _ => 0

abbrev hbmTy0_0 (i : Nat) : BufTy := match i % 128 with
  | 0 => ⟨S8192x3072, .f32⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S8192x1024, .f32⟩
  | 7 => ⟨S4x2048x8x2x64, .f32⟩
  | 8 => ⟨S4x8x2048x2x64, .f32⟩
  | 9 => ⟨S8192x1024, .f32⟩
  | 10 => ⟨S4x2048x8x2x64, .f32⟩
  | 11 => ⟨S4x8x2048x2x64, .f32⟩
  | 12 => ⟨S8192x1024, .f32⟩
  | 13 => ⟨S4x2048x8x128, .f32⟩
  | 14 => ⟨S4x8x2048x128, .f32⟩
  | 15 => ⟨S64, .f32⟩
  | 16 => ⟨S64, .f32⟩
  | 17 => ⟨S64, .f32⟩
  | 18 => ⟨S_, .f32⟩
  | 19 => ⟨S_, .f32⟩
  | 20 => ⟨S_, .f32⟩
  | 21 => ⟨S64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S8, .f32⟩
  | 44 => ⟨S2048, .i32⟩
  | 45 => ⟨S2048x1, .i32⟩
  | 46 => ⟨S2048, .i32⟩
  | 47 => ⟨S1x2048, .i32⟩
  | 48 => ⟨S2048x2048, .i32⟩
  | 49 => ⟨S2048x2048, .i32⟩
  | 50 => ⟨S2048x2048, .i32⟩
  | 51 => ⟨S1x2048x2048, .i32⟩
  | 52 => ⟨S_, .i32⟩
  | 53 => ⟨S1x2048x2048, .i32⟩
  | 54 => ⟨S1x2048x2048, .i1⟩
  | 55 => ⟨S8x1x1, .f32⟩
  | 56 => ⟨S8x1x1, .f32⟩
  | 57 => ⟨S1x2048x2048, .i32⟩
  | 58 => ⟨S1x2048x2048, .f32⟩
  | 59 => ⟨S8x2048x2048, .f32⟩
  | 60 => ⟨S8x2048x2048, .f32⟩
  | 61 => ⟨S8x2048x2048, .f32⟩
  | 62 => ⟨S_, .f32⟩
  | 63 => ⟨S_, .f32⟩
  | 64 => ⟨S8x2048x2048, .i1⟩
  | 65 => ⟨S8x2048x2048, .f32⟩
  | 66 => ⟨S8x2048x2048, .f32⟩
  | 67 => ⟨S4x8x2048x1x64, .f32⟩
  | 68 => ⟨S4x8x2048x64, .f32⟩
  | 69 => ⟨S4x8x2048x1x64, .f32⟩
  | 70 => ⟨S4x8x2048x64, .f32⟩
  | 71 => ⟨S4x8x2048x2048, .f32⟩
  | 72 => ⟨S_, .f32⟩
  | 73 => ⟨S_, .f32⟩
  | 74 => ⟨S_, .f32⟩
  | 75 => ⟨S4x8x2048x2048, .f32⟩
  | 76 => ⟨S4x8x2048x2048, .f32⟩
  | 77 => ⟨S1x8x2048x2048, .f32⟩
  | 78 => ⟨S4x8x2048x2048, .f32⟩
  | 79 => ⟨S4x8x2048x2048, .f32⟩
  | 80 => ⟨S4x8x2048x1x64, .f32⟩
  | 81 => ⟨S4x8x2048x64, .f32⟩
  | 82 => ⟨S4x8x2048x1x64, .f32⟩
  | 83 => ⟨S4x8x2048x64, .f32⟩
  | 84 => ⟨S4x8x2048x2048, .f32⟩
  | 85 => ⟨S_, .f32⟩
  | 86 => ⟨S_, .f32⟩
  | 87 => ⟨S_, .f32⟩
  | 88 => ⟨S4x8x2048x2048, .f32⟩
  | 89 => ⟨S4x8x2048x2048, .f32⟩
  | 90 => ⟨S1x8x2048x2048, .f32⟩
  | 91 => ⟨S4x8x2048x2048, .f32⟩
  | 92 => ⟨S4x8x2048x2048, .f32⟩
  | 93 => ⟨S_, .f32⟩
  | 94 => ⟨S4x8x2048, .f32⟩
  | 95 => ⟨S_, .f32⟩
  | 96 => ⟨S4x8x2048, .f32⟩
  | 97 => ⟨S4x8x2048, .f32⟩
  | 98 => ⟨S4x8x2048x1, .f32⟩
  | 99 => ⟨S4x8x2048x2048, .f32⟩
  | 100 => ⟨S4x8x2048x2048, .f32⟩
  | 101 => ⟨S4x8x2048x2048, .f32⟩
  | 102 => ⟨S_, .f32⟩
  | 103 => ⟨S4x8x2048, .f32⟩
  | 104 => ⟨S4x8x2048x1, .f32⟩
  | 105 => ⟨S4x8x2048x2048, .f32⟩
  | 106 => ⟨S4x8x2048x2048, .f32⟩
  | 107 => ⟨S_, .f32⟩
  | 108 => ⟨S4x8x2048, .f32⟩
  | 109 => ⟨S_, .f32⟩
  | 110 => ⟨S4x8x2048, .f32⟩
  | 111 => ⟨S4x8x2048, .f32⟩
  | 112 => ⟨S4x8x2048x1, .f32⟩
  | 113 => ⟨S4x8x2048x2048, .f32⟩
  | 114 => ⟨S4x8x2048x2048, .f32⟩
  | 115 => ⟨S4x8x2048x2048, .f32⟩
  | 116 => ⟨S_, .f32⟩
  | 117 => ⟨S4x8x2048, .f32⟩
  | 118 => ⟨S4x8x2048x1, .f32⟩
  | 119 => ⟨S4x8x2048x2048, .f32⟩
  | 120 => ⟨S4x8x2048x2048, .f32⟩
  | 121 => ⟨S4x8x2048x2048, .f32⟩
  | 122 => ⟨S4x8x2048x2048, .f32⟩
  | 123 => ⟨S4x8x2048x2048, .f32⟩
  | 124 => ⟨S4x8x2048x128, .f32⟩
  | 125 => ⟨S4x8x2048x128, .f32⟩
  | 126 => ⟨S_, .f32⟩
  | 127 => ⟨S4x8x2048, .f32⟩
  | _ => ⟨S8192x3072, .f32⟩

abbrev hbmTy0_1 (i : Nat) : BufTy := match i % 128 with
  | 0 => ⟨S4x8x2048x1, .f32⟩
  | 1 => ⟨S_, .f32⟩
  | 2 => ⟨S4x8x2048x1, .f32⟩
  | 3 => ⟨S4x8x2048x1, .f32⟩
  | 4 => ⟨S_, .f32⟩
  | 5 => ⟨S4x8x2048x1, .f32⟩
  | 6 => ⟨S4x8x2048x1, .f32⟩
  | 7 => ⟨S4x8x2048x1, .f32⟩
  | 8 => ⟨S4x8x2048x128, .f32⟩
  | 9 => ⟨S4x8x2048x128, .f32⟩
  | 10 => ⟨S128, .f32⟩
  | 11 => ⟨S1x1x1x128, .f32⟩
  | 12 => ⟨S4x8x2048x128, .f32⟩
  | 13 => ⟨S4x8x2048x128, .f32⟩
  | 14 => ⟨S_, .f32⟩
  | 15 => ⟨S4x8x2048x128, .f32⟩
  | 16 => ⟨S4x8x2048x128, .f32⟩
  | 17 => ⟨S4x2048x8x128, .f32⟩
  | 18 => ⟨S8192x1024, .f32⟩
  | 19 => ⟨S8192x1024, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_15 : Ref sig .tc := ⟨.hbm, 126, rfl⟩
abbrev main_v100 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_18 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩

abbrev nD : Nat := 1
abbrev τ : Topo := Topo.v7x

variable {F : FTy → Type} [FloatOps F]
-- ==== ProjR.lean ====
abbrev S8192x2048 : Shape := ⟨2, ![8192, 2048]⟩
abbrev S1x2048x6432 : Shape := ⟨3, ![1, 2048, 6432]⟩
abbrev S1x3360 : Shape := ⟨2, ![1, 3360]⟩
abbrev S1x1024 : Shape := ⟨2, ![1, 1024]⟩
abbrev S1x64x1024 : Shape := ⟨3, ![1, 64, 1024]⟩
abbrev S1x160x1024 : Shape := ⟨3, ![1, 160, 1024]⟩
abbrev S2048x6432 : Shape := ⟨2, ![2048, 6432]⟩
abbrev S6432x2048 : Shape := ⟨2, ![6432, 2048]⟩
abbrev S3360 : Shape := ⟨1, ![3360]⟩
abbrev S_ : Shape := ⟨0, ![]⟩
abbrev S3456 : Shape := ⟨1, ![3456]⟩
abbrev S128x2048 : Shape := ⟨2, ![128, 2048]⟩
abbrev S64x1024 : Shape := ⟨2, ![64, 1024]⟩
abbrev S1 : Shape := ⟨1, ![1]⟩
abbrev S2 : Shape := ⟨1, ![2]⟩
abbrev S160x1024 : Shape := ⟨2, ![160, 1024]⟩
abbrev S256x1024 : Shape := ⟨2, ![256, 1024]⟩
abbrev S1x3456 : Shape := ⟨2, ![1, 3456]⟩
abbrev S1024 : Shape := ⟨1, ![1024]⟩
abbrev S8192x1024 : Shape := ⟨2, ![8192, 1024]⟩
abbrev S256x2048 : Shape := ⟨2, ![256, 2048]⟩
abbrev S384x2048 : Shape := ⟨2, ![384, 2048]⟩
abbrev S3456x2048 : Shape := ⟨2, ![3456, 2048]⟩
abbrev S256x3456 : Shape := ⟨2, ![256, 3456]⟩
abbrev S8x3456 : Shape := ⟨2, ![8, 3456]⟩
abbrev S256x1 : Shape := ⟨2, ![256, 1]⟩
abbrev S256x384 : Shape := ⟨2, ![256, 384]⟩
abbrev S1024x2048 : Shape := ⟨2, ![1024, 2048]⟩
abbrev S256x128 : Shape := ⟨2, ![256, 128]⟩
abbrev S1x128 : Shape := ⟨2, ![1, 128]⟩
abbrev S256x256 : Shape := ⟨2, ![256, 256]⟩
abbrev S1x256 : Shape := ⟨2, ![1, 256]⟩

abbrev nBuf : Space → Nat
  | .hbm => 54
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S1x2048x6432, .f32⟩
  | .hbm, ⟨2, _⟩ => ⟨S1x3360, .f32⟩
  | .hbm, ⟨3, _⟩ => ⟨S1x1024, .f32⟩
  | .hbm, ⟨4, _⟩ => ⟨S1x64x1024, .f32⟩
  | .hbm, ⟨5, _⟩ => ⟨S1x1024, .f32⟩
  | .hbm, ⟨6, _⟩ => ⟨S1x64x1024, .f32⟩
  | .hbm, ⟨7, _⟩ => ⟨S1x160x1024, .f32⟩
  | .hbm, ⟨8, _⟩ => ⟨S1x1024, .f32⟩
  | .hbm, ⟨9, _⟩ => ⟨S1x1024, .f32⟩
  | .hbm, ⟨10, _⟩ => ⟨S2048x6432, .f32⟩
  | .hbm, ⟨11, _⟩ => ⟨S6432x2048, .f32⟩
  | .hbm, ⟨12, _⟩ => ⟨S3360, .f32⟩
  | .hbm, ⟨13, _⟩ => ⟨S_, .i32⟩
  | .hbm, ⟨14, _⟩ => ⟨S_, .f32⟩
  | .hbm, ⟨15, _⟩ => ⟨S3456, .f32⟩
  | .hbm, ⟨16, _⟩ => ⟨S_, .f32⟩
  | .hbm, ⟨17, _⟩ => ⟨S128x2048, .f32⟩
  | .hbm, ⟨18, _⟩ => ⟨S64x1024, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x2048, .f32⟩
  | .hbm, ⟨25, _⟩ => ⟨S64x1024, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x2048, .f32⟩
  | .hbm, ⟨32, _⟩ => ⟨S160x1024, .f32⟩
  | .hbm, ⟨33, _⟩ => ⟨S_, .i32⟩
  | .hbm, ⟨34, _⟩ => ⟨S_, .f32⟩
  | .hbm, ⟨35, _⟩ => ⟨S256x1024, .f32⟩
  | .hbm, ⟨36, _⟩ => ⟨S1x3456, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S128x2048, .bf16⟩
  | .hbm, ⟨46, _⟩ => ⟨S256x1024, .bf16⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S384x2048, .f32⟩
  | .local _ .vmem, ⟨3, _⟩ => ⟨S384x2048, .f32⟩
  | .local _ .vmem, ⟨4, _⟩ => ⟨S1x3456, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S128x2048, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S3456x2048, .bf16⟩
  | .local _ .vmem, ⟨26, _⟩ => ⟨S256x3456, .f32⟩
  | .local _ .vmem, ⟨27, _⟩ => ⟨S8x3456, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev main_v28_4 : Ref sig .tc := ⟨.hbm, 51, rfl⟩
abbrev main_v28_5 : Ref sig .tc := ⟨.hbm, 52, rfl⟩
abbrev main_v28_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![41], ![false]⟩

def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c384_i32_5 : BitVec 32 := 384#32
  let v21 : BitVec 32 := Scalar.muli arg0 c384_i32_5
  v21
def k0_off1 (i : grid0.Coords) : Fin 2 → Nat :=
  let arg0 : BitVec 32 := BitVec.ofNat 32 (i 0).val
  let c384_i32_5 : BitVec 32 := 384#32
  let v21 : BitVec 32 := Scalar.muli arg0 c384_i32_5
  let v22 : BitVec 32 := v21
  let v23 : Index := Scalar.indexCast v22
  let c0_6 : Index := 0#32
  ![v23.toNat, 0]
def k0_cond3 (i : grid0.Coords) : BitVec 1 :=
  let arg0 : BitVec 32 := BitVec.ofNat 32 (i 0).val
  let c9_i32_2 : BitVec 32 := 9#32
  let v6 : BitVec 1 := Scalar.cmpi .sge arg0 c9_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.minsi arg0 c8_i32
  let c8_i32_0 : BitVec 32 := 8#32
  let v1 : BitVec 32 := Scalar.addi c8_i32_0 v0
  let c0_i32 : BitVec 32 := 0#32
  let c0_i32_1 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRRefIdeal.lean ====
abbrev S8192x2048 : Shape := ⟨2, ![8192, 2048]⟩
abbrev S1x2048x6432 : Shape := ⟨3, ![1, 2048, 6432]⟩
abbrev S1x3360 : Shape := ⟨2, ![1, 3360]⟩
abbrev S1x1024 : Shape := ⟨2, ![1, 1024]⟩
abbrev S1x64x1024 : Shape := ⟨3, ![1, 64, 1024]⟩
abbrev S1x160x1024 : Shape := ⟨3, ![1, 160, 1024]⟩
abbrev S2048x6432 : Shape := ⟨2, ![2048, 6432]⟩
abbrev S8192x6432 : Shape := ⟨2, ![8192, 6432]⟩
abbrev S4x2048x6432 : Shape := ⟨3, ![4, 2048, 6432]⟩
abbrev S4x2048x3360 : Shape := ⟨3, ![4, 2048, 3360]⟩
abbrev S_ : Shape := ⟨0, ![]⟩
abbrev S4x2049x3360 : Shape := ⟨3, ![4, 2049, 3360]⟩
abbrev S3360 : Shape := ⟨1, ![3360]⟩
abbrev S1x1x3360 : Shape := ⟨3, ![1, 1, 3360]⟩
abbrev S4x2048x1024 : Shape := ⟨3, ![4, 2048, 1024]⟩
abbrev S4x2048x64 : Shape := ⟨3, ![4, 2048, 64]⟩
abbrev S4x2048x160 : Shape := ⟨3, ![4, 2048, 160]⟩
abbrev S1024 : Shape := ⟨1, ![1024]⟩
abbrev S64x1024 : Shape := ⟨2, ![64, 1024]⟩
abbrev S1x1x1024 : Shape := ⟨3, ![1, 1, 1024]⟩
abbrev S160x1024 : Shape := ⟨2, ![160, 1024]⟩
abbrev S8192x1024 : Shape := ⟨2, ![8192, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x6432, .f32⟩
  | .hbm, ⟨2, _⟩ => ⟨S1x3360, .f32⟩
  | .hbm, ⟨3, _⟩ => ⟨S1x1024, .f32⟩
  | .hbm, ⟨4, _⟩ => ⟨S1x64x1024, .f32⟩
  | .hbm, ⟨5, _⟩ => ⟨S1x1024, .f32⟩
  | .hbm, ⟨6, _⟩ => ⟨S1x64x1024, .f32⟩
  | .hbm, ⟨7, _⟩ => ⟨S1x160x1024, .f32⟩
  | .hbm, ⟨8, _⟩ => ⟨S1x1024, .f32⟩
  | .hbm, ⟨9, _⟩ => ⟨S1x1024, .f32⟩
  | .hbm, ⟨10, _⟩ => ⟨S2048x6432, .f32⟩
  | .hbm, ⟨11, _⟩ => ⟨S8192x6432, .f32⟩
  | .hbm, ⟨12, _⟩ => ⟨S4x2048x6432, .f32⟩
  | .hbm, ⟨13, _⟩ => ⟨S4x2048x3360, .f32⟩
  | .hbm, ⟨14, _⟩ => ⟨S_, .i32⟩
  | .hbm, ⟨15, _⟩ => ⟨S_, .f32⟩
  | .hbm, ⟨16, _⟩ => ⟨S4x2049x3360, .f32⟩
  | .hbm, ⟨17, _⟩ => ⟨S4x2048x3360, .f32⟩
  | .hbm, ⟨18, _⟩ => ⟨S3360, .f32⟩
  | .hbm, ⟨19, _⟩ => ⟨S4x2048x3360, .f32⟩
  | .hbm, ⟨20, _⟩ => ⟨S1x1x3360, .f32⟩
  | .hbm, ⟨21, _⟩ => ⟨S4x2048x3360, .f32⟩
  | .hbm, ⟨22, _⟩ => ⟨S4x2048x3360, .f32⟩
  | .hbm, ⟨23, _⟩ => ⟨S4x2048x3360, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x64, .f32⟩
  | .hbm, ⟨28, _⟩ => ⟨S4x2048x160, .f32⟩
  | .hbm, ⟨29, _⟩ => ⟨S1024, .f32⟩
  | .hbm, ⟨30, _⟩ => ⟨S64x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x160, .f32⟩
  | .hbm, ⟨44, _⟩ => ⟨S4x2048x160, .f32⟩
  | .hbm, ⟨45, _⟩ => ⟨S_, .f32⟩
  | .hbm, ⟨46, _⟩ => ⟨S4x2048x160, .f32⟩
  | .hbm, ⟨47, _⟩ => ⟨S4x2048x160, .f32⟩
  | .hbm, ⟨48, _⟩ => ⟨S_, .f32⟩
  | .hbm, ⟨49, _⟩ => ⟨S4x2048x160, .f32⟩
  | .hbm, ⟨50, _⟩ => ⟨S4x2048x160, .f32⟩
  | .hbm, ⟨51, _⟩ => ⟨S160x1024, .f32⟩
  | .hbm, ⟨52, _⟩ => ⟨S4x2048x1024, .f32⟩
  | .hbm, ⟨53, _⟩ => ⟨S_, .f32⟩
  | .hbm, ⟨54, _⟩ => ⟨S4x2048x1024, .f32⟩
  | .hbm, ⟨55, _⟩ => ⟨S4x2048x1024, .f32⟩
  | .hbm, ⟨56, _⟩ => ⟨S1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.FfnMath.lean ====
/- The feed-forward block with layer normalisation on one row of 2048 extended reals. -/
module

public import Idealize.ShloMosaic.Lib.Pipeline.ValueKit

@[expose] public section

set_option maxRecDepth 16384

noncomputable section

open Idealize.ShloMosaic

namespace Cert.FfnMath

/-- A row of 2048 extended reals. -/
abbrev Row := Fin 2048 → EReal

/-- The number 1/2, as the programs spell it. -/
abbrev half : EReal := Ideal.ofBits .f32 0x3F000000#32
/-- The weight of the residual, as the programs spell it. -/
abbrev alpha : EReal := Ideal.ofBits .f32 0x3F9837F0#32
/-- The width 2048, as the programs spell it. -/
abbrev width : EReal := Ideal.ofBits .f32 0x45000000#32
/-- The normalisation's small constant, as the programs spell it. -/
abbrev eps : EReal := Ideal.ofBits .f32 0x3727C5AC#32

/-- The inner product of two rows. -/
def dot (x w : Row) : EReal := ∑ k, x k * w k

/-- One hidden unit with the factor 1/2 on its gate. -/
def unit (x g u : Row) : EReal := half * dot x g * Ideal.logistic (dot x g) * dot x u

/-- One hidden unit of the reference: the gate times its logistic, times the up projection. -/
def plainUnit (x g u : Row) : EReal := dot x g * Ideal.logistic (dot x g) * dot x u

/-- The mean of a row. -/
def mean (v : Row) : EReal := Ideal.div (∑ k, v k) width

/-- Layer normalisation of a row with gain `g` and shift `b`, at position `j`. -/
def normRow (v g b : Row) (j : Fin 2048) : EReal :=
  (v j - mean v) * Ideal.rsqrt (Ideal.div (∑ k, (v k - mean v) * (v k - mean v)) width + eps) * g j + b j

/-- The number spelt `half` is the real 1/2. -/
theorem half_eq : half = ((1 / 2 : ℝ) : EReal) := by
  simp [half, Ideal.ofBits, Ideal.ieee]
  rw [← EReal.coe_mul]; norm_num

/-- 1/2 times a finite sum is the sum of the halves, whatever the summands. -/
theorem half_mul_sum {ι : Type*} (s : Finset ι) (f : ι → EReal) : half * ∑ i ∈ s, f i = ∑ i ∈ s, half * f i := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih => rw [Finset.sum_insert ha, Finset.sum_insert ha, EReal.left_distrib_of_nonneg_of_ne_top h0 h1, ih]

/-- The factor 1/2 may be taken out of a hidden unit and its down projection. -/
theorem unit_mul (x g u : Row) (d : EReal) : unit x g u * d = half * (plainUnit x g u * d) := by
  simp only [unit, plainUnit, mul_assoc]

/-- Half the down projection of all hidden units is the sum of the halved units' contributions. -/
theorem half_sum_units {n : ℕ} (x : Row) (g u : Fin n → Row) (d : Fin n → EReal) :
    half * ∑ f, plainUnit x (g f) (u f) * d f = ∑ f, unit x (g f) (u f) * d f := by
  rw [half_mul_sum]; exact Finset.sum_congr rfl fun f _ => (unit_mul x (g f) (u f) (d f)).symm

end Cert.FfnMath
-- ==== Proof.Pieces.lean ====
/- Reading back a buffer stored in pieces when the latest pieces alone hold the index. -/
module

public import Idealize.ShloMosaic.Lib.Pipeline.ReadBack
public import Idealize.ShloMosaic.Lib.Pipeline.ValueKit.Tiles

@[expose] public section

noncomputable section

open Idealize.ShloMosaic Idealize.ShloMosaic.TcCoe Idealize.SL.Sem

namespace Cert.Pieces

variable {Val : EltTy → Type} {S : Shape} {e : EltTy} [∀ e, Nonempty (Val e)]

/-- If the first `n` pieces hold the index, the later ones do not matter there. -/
theorem of_take (n : ℕ) (L : List (View.Piece Val S e)) (y : S.Idx) (v : Val e) (hc : ∃ p ∈ L.take n, y ∈ p.1.set)
    (h : View.canon (L.take n) y = v) : View.canon L y = v := by
  induction n generalizing L with
  | zero => simp at hc
  | succ n ih =>
    cases L with
    | nil => simp at hc
    | cons p L =>
      rw [List.take_succ_cons] at hc h
      by_cases hm : y ∈ p.1.set
      · obtain ⟨x, rfl⟩ := p.1.exists_idx_of_mem hm
        rw [show p.1.idx x = p.1.emb x from rfl, View.canon_cons_emb] at h ⊢
        exact h
      · rw [View.canon_cons_of_not_mem _ _ hm] at h ⊢
        refine ih L ?_ h
        obtain ⟨q, hq, hyq⟩ := hc
        rcases List.mem_cons.mp hq with rfl | hq
        · exact absurd hyq hm
        · exact ⟨q, hq, hyq⟩

omit [∀ e, Nonempty (Val e)] in
/-- The first piece holds the index. -/
theorem here {y : S.Idx} {off size : Fin S.rank → ℕ} {inb : ∀ a, off a + size a ≤ S.size a} {w : (Rect.unit off size inb).shape.Idx → Val e} {L : List (View.Piece Val S e)}
    (h : ∀ a, off a ≤ y a ∧ (y a : ℕ) < off a + size a) : ∃ p ∈ (⟨Rect.unit off size inb, w⟩ : View.Piece Val S e) :: L, y ∈ p.1.set :=
  ⟨_, List.mem_cons_self, (Rect.mem_set_unit (inb := inb)).mpr h⟩

omit [∀ e, Nonempty (Val e)] in
/-- A later piece holds the index. -/
theorem there {y : S.Idx} {q : View.Piece Val S e} {L : List (View.Piece Val S e)} (h : ∃ p ∈ L, y ∈ p.1.set) : ∃ p ∈ q :: L, y ∈ p.1.set :=
  h.imp fun _ h => ⟨List.mem_cons_of_mem _ h.1, h.2⟩

end Cert.Pieces
-- ==== Proof.FfnA.lean ====
/- What one grid point of the feed-forward kernel (f32 weights, 256 hidden units a point) leaves in its output block. -/
module

public import proofs.«01_k».proof.Proof.Gen.FfnAIdeal.Value
public import proofs.«01_k».proof.Proof.FfnMath
public import Idealize.ShloMosaic.Lib.Pipeline.ReadBack
public import proofs.«01_k».proof.Proof.Pieces

@[expose] public section

set_option maxRecDepth 16384

noncomputable section

open Idealize.ShloMosaic Idealize.ShloMosaic.TcCoe Idealize.SL.Sem

namespace Cert.FfnAIdeal.Rows

open Cert.FfnAIdeal Cert.FfnAIdeal.Gen Cert.FfnMath

variable (m : (ℓ : Loc nD τ sig) → Buf (Elt Ideal) ℓ)

/-- What the hidden units of one weight tile add to the entry at row `r`, column `j`. -/
def tile (x : FVec Ideal S1024x2048 .bf16) (wg wu : FVec Ideal S2048x256 .f32) (wd : FVec Ideal S256x2048 .f32) (r : Fin 1024) (j : Fin 2048) : EReal :=
  ∑ f : Fin 256, unit (fun k => x (ix2 r k)) (fun k => wg (ix2 k f)) (fun k => wu (ix2 k f)) * wd (ix2 f j)

/-- A point in the middle of a row block's run adds its tile to what the point before left. -/
theorem mid (c : Dev nD) (t : Fin cfg0.N) (h0 : ¬t.val % 22 = 0) (h1 : (1 ≤ t.val % 22 ∧ t.val % 22 ≤ 20)) (h2 : ¬t.val % 22 = 21) (r : Fin 1024) (j : Fin 2048) :
    (outsAt0 m c t.val t.isLt).1 (ix2 r j) = (outsAt0 m c (t.val - 1) (Nat.lt_of_le_of_lt (Nat.sub_le _ _) t.isLt)).1 (ix2 r j)
      + tile (outsAt0 m c (t.val - 1) (Nat.lt_of_le_of_lt (Nat.sub_le _ _) t.isLt)).2 (iblk m c 1 t) (iblk m c 2 t) (iblk m c 3 t) r j := by
  rw [outsAt0_B m c t h0 h1 h2]
  frame_out
  generalize (outsAt0 m c (t.val - 1) _).1 = a
  generalize (outsAt0 m c (t.val - 1) _).2 = xs
  generalize iblk m c 1 t = wg
  generalize iblk m c 2 t = wu
  generalize iblk m c 3 t = wd
  clear h0 h1 h2
  simp only [read_unread_whole]
  canon_tiles x h
  all_goals
    pointwise [tile, k0_pay1, k0_pay2, k0_pay3, k0_pay28, k0_pay29, k0_pay30, k0_pay31, k0_pay32, k0_pay33]
    simp only [unit, FfnMath.dot]
    change (r : ℕ) = _ at h0
    change (j : ℕ) = _ at h1
    blk_point

/-- The residual row block times its weight, as the first point stores it in two halves of rows. -/
theorem init_all (x : FVec Ideal S1024x2048 .f32) (y : S1024x2048.Idx) :
    View.canon (Val := Elt Ideal) (s := S1024x2048) (e := .f32)
      [⟨Rect.unit (s := S1024x2048) ![512, 0] ![512, 2048] inb_S1024x2048_S512x2048_512_0, k0_pay9 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay7 (F := Ideal) (View.ld x (Rect.unit (s := S1024x2048) ![0, 0] ![512, 2048] inb_S1024x2048_S512x2048_0_0))⟩] y = alpha * x y := by
  canon_tiles z h
  all_goals
    pointwise [k0_pay7, k0_pay9]
    blk_point

/-- The upper half of the rows alone. -/
theorem init_top (x : FVec Ideal S1024x2048 .f32) (y : S1024x2048.Idx) (hy : (y 0 : ℕ) < 512) :
    View.canon (Val := Elt Ideal) (s := S1024x2048) (e := .f32)
      [⟨Rect.unit (s := S1024x2048) ![0, 0] ![512, 2048] inb_S1024x2048_S512x2048_0_0, k0_pay7 (F := Ideal) (View.ld x (Rect.unit (s := S1024x2048) ![0, 0] ![512, 2048] inb_S1024x2048_S512x2048_0_0))⟩] y = alpha * x y := by
  have hc := (y 1).isLt
  refine View.canon_eq_of_allAt _ y _ (Cert.Pieces.here fun a => ?_) ?_
  · fin_cases a
    · exact ⟨Nat.zero_le _, by simpa using hy⟩
    · exact ⟨Nat.zero_le _, by simpa using hc⟩
  refine View.allAt_cons_unit _ _ _ _ _ ?_ (View.allAt_nil _ _)
  tile_intro z h
  all_goals
    pointwise [k0_pay7]
    blk_point

/-- The row block stored in the scratch in two halves of rows is the row block. -/
theorem kept_all (x : FVec Ideal S1024x2048 .f32) (y : S1024x2048.Idx) :
    View.canon (Val := Elt Ideal) (s := S1024x2048) (e := .bf16)
      [⟨Rect.unit (s := S1024x2048) ![512, 0] ![512, 2048] inb_S1024x2048_S512x2048_512_0, k0_pay8 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay6 (F := Ideal) (View.ld x (Rect.unit (s := S1024x2048) ![0, 0] ![512, 2048] inb_S1024x2048_S512x2048_0_0))⟩] y = x y := by
  canon_tiles z h
  all_goals
    pointwise [k0_pay6, k0_pay8]
    blk_point

/-- A load after both halves are stored reads the weighted residual. -/
theorem init_load (v : View sig .tc .vmem S1024x2048 .f32) (x : FVec Ideal S1024x2048 .f32) (r : Rect S1024x2048) :
    v.readCov (Val := Elt Ideal)
      [⟨Rect.unit (s := S1024x2048) ![512, 0] ![512, 2048] inb_S1024x2048_S512x2048_512_0, k0_pay9 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay7 (F := Ideal) (View.ld x (Rect.unit (s := S1024x2048) ![0, 0] ![512, 2048] inb_S1024x2048_S512x2048_0_0))⟩] r.toLoadRect = View.ld (fun y => alpha * x y) r := by
  rw [View.readCov_eq_canon']
  funext i
  exact init_all x _

/-- A load of the upper half of the rows after that half is stored reads the weighted residual. -/
theorem init_load_top (v : View sig .tc .vmem S1024x2048 .f32) (x : FVec Ideal S1024x2048 .f32) (k : ℕ)
    (hk : ∀ a : Fin 2, (![0, k] : Fin 2 → ℕ) a + (![512, 512] : Fin 2 → ℕ) a ≤ S1024x2048.size a) :
    v.readCov (Val := Elt Ideal)
      [⟨Rect.unit (s := S1024x2048) ![0, 0] ![512, 2048] inb_S1024x2048_S512x2048_0_0, k0_pay7 (F := Ideal) (View.ld x (Rect.unit (s := S1024x2048) ![0, 0] ![512, 2048] inb_S1024x2048_S512x2048_0_0))⟩] (Rect.unit (s := S1024x2048) ![0, k] ![512, 512] hk).toLoadRect
      = View.ld (fun y => alpha * x y) (Rect.unit (s := S1024x2048) ![0, k] ![512, 512] hk) := by
  rw [View.readCov_eq_canon']
  funext i
  refine init_top x _ ?_
  have := (i 0).isLt
  show 0 + 1 * (i 0).val < 512
  have h : (i 0).val < 512 := (i 0).isLt
  omega

/-- The first point of a row block's run leaves the weighted residual plus its tile. -/
theorem first (c : Dev nD) (t : Fin cfg0.N) (h0 : t.val % 22 = 0) (h1 : ¬ (1 ≤ t.val % 22 ∧ t.val % 22 ≤ 20)) (h2 : ¬ t.val % 22 = 21) (r : Fin 1024) (j : Fin 2048) :
    (outsAt0 m c t.val t.isLt).1 (ix2 r j) = alpha * (show FVec Ideal S1024x2048 .f32 from iblk m c 0 t) (ix2 r j)
      + tile (iblk m c 0 t) (iblk m c 1 t) (iblk m c 2 t) (iblk m c 3 t) r j := by
  rw [outsAt0_A m c t h0 h1 h2]
  frame_open
  simp (disch := decide) only [↓ View.readCov_skip, ↓ View.readCov_cons_toLoadRect, ↓ View.readCov_fill]
  frame_out
  generalize iblk m c 0 t = x
  generalize iblk m c 1 t = wg
  generalize iblk m c 2 t = wu
  generalize iblk m c 3 t = wd
  clear h0 h1 h2
  simp only [init_load, init_load_top]
  refine Cert.Pieces.of_take 8 _ _ _ (View.cover_of_tiled_head _ _ _ (by rfl) _) ?_
  simp only [List.take_succ_cons, List.take_zero]
  canon_tiles z h
  all_goals
    pointwise [tile, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay6, k0_pay8]
    simp only [unit, FfnMath.dot]
    change (r : ℕ) = _ at h0
    change (j : ℕ) = _ at h1
    blk_point

/-- The first point keeps the row block in the scratch. -/
theorem first_kept (c : Dev nD) (t : Fin cfg0.N) (h0 : t.val % 22 = 0) (h1 : ¬ (1 ≤ t.val % 22 ∧ t.val % 22 ≤ 20)) (h2 : ¬ t.val % 22 = 21) :
    (outsAt0 m c t.val t.isLt).2 = (show FVec Ideal S1024x2048 .f32 from iblk m c 0 t) := by
  rw [outsAt0_A m c t h0 h1 h2]
  frame_out
  exact funext fun y => kept_all _ y

/-- Every other point keeps the scratch. -/
theorem mid_kept (c : Dev nD) (t : Fin cfg0.N) (h0 : ¬t.val % 22 = 0) (h1 : (1 ≤ t.val % 22 ∧ t.val % 22 ≤ 20)) (h2 : ¬t.val % 22 = 21) :
    (outsAt0 m c t.val t.isLt).2 = (outsAt0 m c (t.val - 1) (Nat.lt_of_le_of_lt (Nat.sub_le _ _) t.isLt)).2 := by
  rw [outsAt0_B m c t h0 h1 h2]; rfl

/-- The last point's accumulation, upper half of the rows. -/
theorem acc_top (a : FVec Ideal S1024x2048 .f32) (xs : FVec Ideal S1024x2048 .bf16) (wg wu : FVec Ideal S2048x256 .f32) (wd : FVec Ideal S256x2048 .f32) (y : S1024x2048.Idx) (hy : (y 0 : ℕ) < 512) :
    View.canon (Val := Elt Ideal) (s := S1024x2048) (e := .f32)
      [⟨Rect.unit (s := S1024x2048) ![0, 1536] ![512, 512] inb_S1024x2048_S512x512_0_1536, k0_pay45 (F := Ideal) (k0_pay39 (View.ld wd (Rect.unit (s := S256x2048) ![0, 1536] ![256, 512] inb_S256x2048_S256x512_0_1536))) (k0_pay40 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay44 (F := Ideal) (k0_pay38 (View.ld wd (Rect.unit (s := S256x2048) ![0, 1024] ![256, 512] inb_S256x2048_S256x512_0_1024))) (k0_pay40 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay43 (F := Ideal) (k0_pay37 (View.ld wd (Rect.unit (s := S256x2048) ![0, 512] ![256, 512] inb_S256x2048_S256x512_0_512))) (k0_pay40 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay42 (F := Ideal) (k0_pay36 (View.ld wd (Rect.unit (s := S256x2048) ![0, 0] ![256, 512] inb_S256x2048_S256x512_0_0))) (k0_pay40 wg wu (View.ld xs (Rect.unit (s := S1024x2048) ![0, 0] ![512, 2048] inb_S1024x2048_S512x2048_0_0))) (View.ld a (Rect.unit (s := S1024x2048) ![0, 0] ![512, 512] inb_S1024x2048_S512x512_0_0))⟩] y
      = a y + tile xs wg wu wd (y 0) (y 1) := by
  have hc := (y 1).isLt
  have hcov : (y 1 : ℕ) < 512 ∨ (512 ≤ (y 1 : ℕ) ∧ (y 1 : ℕ) < 1024) ∨ (1024 ≤ (y 1 : ℕ) ∧ (y 1 : ℕ) < 1536) ∨ (1536 ≤ (y 1 : ℕ) ∧ (y 1 : ℕ) < 2048) := by
    have : (y 1 : ℕ) < 2048 := hc
    omega
  refine View.canon_eq_of_allAt _ y _ ?_ ?_
  · rcases hcov with h | ⟨h, h'⟩ | ⟨h, h'⟩ | ⟨h, h'⟩
    · exact Cert.Pieces.there (Cert.Pieces.there (Cert.Pieces.there (Cert.Pieces.here fun a => by fin_cases a; exacts [⟨Nat.zero_le _, by simpa using hy⟩, ⟨Nat.zero_le _, by simpa using h⟩])))
    · exact Cert.Pieces.there (Cert.Pieces.there (Cert.Pieces.here fun a => by fin_cases a; exacts [⟨Nat.zero_le _, by simpa using hy⟩, ⟨h, by simpa using h'⟩]))
    · exact Cert.Pieces.there (Cert.Pieces.here fun a => by fin_cases a; exacts [⟨Nat.zero_le _, by simpa using hy⟩, ⟨h, by simpa using h'⟩])
    · exact Cert.Pieces.here fun a => by fin_cases a; exacts [⟨Nat.zero_le _, by simpa using hy⟩, ⟨h, by simpa using h'⟩]
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    tile_intro z h
    pointwise [tile, k0_pay34, k0_pay35, k0_pay36, k0_pay37, k0_pay38, k0_pay39, k0_pay40, k0_pay41, k0_pay42, k0_pay43, k0_pay44, k0_pay45, k0_pay46, k0_pay47, k0_pay48, k0_pay49]
    simp only [unit, FfnMath.dot]
    blk_point

/-- The last point's accumulation, all rows. -/
theorem acc_all (a : FVec Ideal S1024x2048 .f32) (xs : FVec Ideal S1024x2048 .bf16) (wg wu : FVec Ideal S2048x256 .f32) (wd : FVec Ideal S256x2048 .f32) (y : S1024x2048.Idx) :
    View.canon (Val := Elt Ideal) (s := S1024x2048) (e := .f32)
      [⟨Rect.unit (s := S1024x2048) ![512, 1536] ![512, 512] inb_S1024x2048_S512x512_512_1536, k0_pay49 (F := Ideal) (k0_pay39 (View.ld wd (Rect.unit (s := S256x2048) ![0, 1536] ![256, 512] inb_S256x2048_S256x512_0_1536))) (k0_pay41 wg wu (View.ld xs (Rect.unit (s := S1024x2048) ![512, 0] ![512, 2048] inb_S1024x2048_S512x2048_512_0))) (View.ld a (Rect.unit (s := S1024x2048) ![512, 1536] ![512, 512] inb_S1024x2048_S512x512_512_1536))⟩,
        ⟨Rect.unit (s := S1024x2048) ![512, 1024] ![512, 512] inb_S1024x2048_S512x512_512_1024, k0_pay48 (F := Ideal) (k0_pay38 (View.ld wd (Rect.unit (s := S256x2048) ![0, 1024] ![256, 512] inb_S256x2048_S256x512_0_1024))) (k0_pay41 wg wu (View.ld xs (Rect.unit (s := S1024x2048) ![512, 0] ![512, 2048] inb_S1024x2048_S512x2048_512_0))) (View.ld a (Rect.unit (s := S1024x2048) ![512, 1024] ![512, 512] inb_S1024x2048_S512x512_512_1024))⟩,
        ⟨Rect.unit (s := S1024x2048) ![512, 512] ![512, 512] inb_S1024x2048_S512x512_512_512, k0_pay47 (F := Ideal) (k0_pay37 (View.ld wd (Rect.unit (s := S256x2048) ![0, 512] ![256, 512] inb_S256x2048_S256x512_0_512))) (k0_pay41 wg wu (View.ld xs (Rect.unit (s := S1024x2048) ![512, 0] ![512, 2048] inb_S1024x2048_S512x2048_512_0))) (View.ld a (Rect.unit (s := S1024x2048) ![512, 512] ![512, 512] inb_S1024x2048_S512x512_512_512))⟩,
        ⟨Rect.unit (s := S1024x2048) ![512, 0] ![512, 512] inb_S1024x2048_S512x512_512_0, k0_pay46 (F := Ideal) (k0_pay36 (View.ld wd (Rect.unit (s := S256x2048) ![0, 0] ![256, 512] inb_S256x2048_S256x512_0_0))) (k0_pay41 wg wu (View.ld xs (Rect.unit (s := S1024x2048) ![512, 0] ![512, 2048] inb_S1024x2048_S512x2048_512_0))) (View.ld a (Rect.unit (s := S1024x2048) ![512, 0] ![512, 512] inb_S1024x2048_S512x512_512_0))⟩,
        ⟨Rect.unit (s := S1024x2048) ![0, 1536] ![512, 512] inb_S1024x2048_S512x512_0_1536, k0_pay45 (F := Ideal) (k0_pay39 (View.ld wd (Rect.unit (s := S256x2048) ![0, 1536] ![256, 512] inb_S256x2048_S256x512_0_1536))) (k0_pay40 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay44 (F := Ideal) (k0_pay38 (View.ld wd (Rect.unit (s := S256x2048) ![0, 1024] ![256, 512] inb_S256x2048_S256x512_0_1024))) (k0_pay40 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay43 (F := Ideal) (k0_pay37 (View.ld wd (Rect.unit (s := S256x2048) ![0, 512] ![256, 512] inb_S256x2048_S256x512_0_512))) (k0_pay40 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay42 (F := Ideal) (k0_pay36 (View.ld wd (Rect.unit (s := S256x2048) ![0, 0] ![256, 512] inb_S256x2048_S256x512_0_0))) (k0_pay40 wg wu (View.ld xs (Rect.unit (s := S1024x2048) ![0, 0] ![512, 2048] inb_S1024x2048_S512x2048_0_0))) (View.ld a (Rect.unit (s := S1024x2048) ![0, 0] ![512, 512] inb_S1024x2048_S512x512_0_0))⟩] y
      = a y + tile xs wg wu wd (y 0) (y 1) := by
  canon_tiles z h
  all_goals
    pointwise [tile, k0_pay34, k0_pay35, k0_pay36, k0_pay37, k0_pay38, k0_pay39, k0_pay40, k0_pay41, k0_pay42, k0_pay43, k0_pay44, k0_pay45, k0_pay46, k0_pay47, k0_pay48, k0_pay49]
    simp only [unit, FfnMath.dot]
    blk_point

/-- Reading the upper half of the accumulated rows. -/
theorem acc_load_top (v : View sig .tc .vmem S1024x2048 .f32) (a : FVec Ideal S1024x2048 .f32) (xs : FVec Ideal S1024x2048 .bf16) (wg wu : FVec Ideal S2048x256 .f32) (wd : FVec Ideal S256x2048 .f32) :
    v.readCov (Val := Elt Ideal)
      [⟨Rect.unit (s := S1024x2048) ![0, 1536] ![512, 512] inb_S1024x2048_S512x512_0_1536, k0_pay45 (F := Ideal) (k0_pay39 (View.ld wd (Rect.unit (s := S256x2048) ![0, 1536] ![256, 512] inb_S256x2048_S256x512_0_1536))) (k0_pay40 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay44 (F := Ideal) (k0_pay38 (View.ld wd (Rect.unit (s := S256x2048) ![0, 1024] ![256, 512] inb_S256x2048_S256x512_0_1024))) (k0_pay40 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay43 (F := Ideal) (k0_pay37 (View.ld wd (Rect.unit (s := S256x2048) ![0, 512] ![256, 512] inb_S256x2048_S256x512_0_512))) (k0_pay40 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay42 (F := Ideal) (k0_pay36 (View.ld wd (Rect.unit (s := S256x2048) ![0, 0] ![256, 512] inb_S256x2048_S256x512_0_0))) (k0_pay40 wg wu (View.ld xs (Rect.unit (s := S1024x2048) ![0, 0] ![512, 2048] inb_S1024x2048_S512x2048_0_0))) (View.ld a (Rect.unit (s := S1024x2048) ![0, 0] ![512, 512] inb_S1024x2048_S512x512_0_0))⟩] (Rect.unit (s := S1024x2048) ![0, 0] ![512, 2048] inb_S1024x2048_S512x2048_0_0).toLoadRect
      = View.ld (fun y => a y + tile xs wg wu wd (y 0) (y 1)) (Rect.unit (s := S1024x2048) ![0, 0] ![512, 2048] inb_S1024x2048_S512x2048_0_0) := by
  rw [View.readCov_eq_canon']
  funext i
  refine acc_top a xs wg wu wd _ ?_
  show 0 + 1 * (i 0).val < 512
  have h : (i 0).val < 512 := (i 0).isLt
  omega

/-- Reading the lower half of the accumulated rows. -/
theorem acc_load_bot (v : View sig .tc .vmem S1024x2048 .f32) (a : FVec Ideal S1024x2048 .f32) (xs : FVec Ideal S1024x2048 .bf16) (wg wu : FVec Ideal S2048x256 .f32) (wd : FVec Ideal S256x2048 .f32) :
    v.readCov (Val := Elt Ideal)
      [⟨Rect.unit (s := S1024x2048) ![512, 1536] ![512, 512] inb_S1024x2048_S512x512_512_1536, k0_pay49 (F := Ideal) (k0_pay39 (View.ld wd (Rect.unit (s := S256x2048) ![0, 1536] ![256, 512] inb_S256x2048_S256x512_0_1536))) (k0_pay41 wg wu (View.ld xs (Rect.unit (s := S1024x2048) ![512, 0] ![512, 2048] inb_S1024x2048_S512x2048_512_0))) (View.ld a (Rect.unit (s := S1024x2048) ![512, 1536] ![512, 512] inb_S1024x2048_S512x512_512_1536))⟩,
        ⟨Rect.unit (s := S1024x2048) ![512, 1024] ![512, 512] inb_S1024x2048_S512x512_512_1024, k0_pay48 (F := Ideal) (k0_pay38 (View.ld wd (Rect.unit (s := S256x2048) ![0, 1024] ![256, 512] inb_S256x2048_S256x512_0_1024))) (k0_pay41 wg wu (View.ld xs (Rect.unit (s := S1024x2048) ![512, 0] ![512, 2048] inb_S1024x2048_S512x2048_512_0))) (View.ld a (Rect.unit (s := S1024x2048) ![512, 1024] ![512, 512] inb_S1024x2048_S512x512_512_1024))⟩,
        ⟨Rect.unit (s := S1024x2048) ![512, 512] ![512, 512] inb_S1024x2048_S512x512_512_512, k0_pay47 (F := Ideal) (k0_pay37 (View.ld wd (Rect.unit (s := S256x2048) ![0, 512] ![256, 512] inb_S256x2048_S256x512_0_512))) (k0_pay41 wg wu (View.ld xs (Rect.unit (s := S1024x2048) ![512, 0] ![512, 2048] inb_S1024x2048_S512x2048_512_0))) (View.ld a (Rect.unit (s := S1024x2048) ![512, 512] ![512, 512] inb_S1024x2048_S512x512_512_512))⟩,
        ⟨Rect.unit (s := S1024x2048) ![512, 0] ![512, 512] inb_S1024x2048_S512x512_512_0, k0_pay46 (F := Ideal) (k0_pay36 (View.ld wd (Rect.unit (s := S256x2048) ![0, 0] ![256, 512] inb_S256x2048_S256x512_0_0))) (k0_pay41 wg wu (View.ld xs (Rect.unit (s := S1024x2048) ![512, 0] ![512, 2048] inb_S1024x2048_S512x2048_512_0))) (View.ld a (Rect.unit (s := S1024x2048) ![512, 0] ![512, 512] inb_S1024x2048_S512x512_512_0))⟩,
        ⟨Rect.unit (s := S1024x2048) ![0, 1536] ![512, 512] inb_S1024x2048_S512x512_0_1536, k0_pay45 (F := Ideal) (k0_pay39 (View.ld wd (Rect.unit (s := S256x2048) ![0, 1536] ![256, 512] inb_S256x2048_S256x512_0_1536))) (k0_pay40 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay44 (F := Ideal) (k0_pay38 (View.ld wd (Rect.unit (s := S256x2048) ![0, 1024] ![256, 512] inb_S256x2048_S256x512_0_1024))) (k0_pay40 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay43 (F := Ideal) (k0_pay37 (View.ld wd (Rect.unit (s := S256x2048) ![0, 512] ![256, 512] inb_S256x2048_S256x512_0_512))) (k0_pay40 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay42 (F := Ideal) (k0_pay36 (View.ld wd (Rect.unit (s := S256x2048) ![0, 0] ![256, 512] inb_S256x2048_S256x512_0_0))) (k0_pay40 wg wu (View.ld xs (Rect.unit (s := S1024x2048) ![0, 0] ![512, 2048] inb_S1024x2048_S512x2048_0_0))) (View.ld a (Rect.unit (s := S1024x2048) ![0, 0] ![512, 512] inb_S1024x2048_S512x512_0_0))⟩] (Rect.unit (s := S1024x2048) ![512, 0] ![512, 2048] inb_S1024x2048_S512x2048_512_0).toLoadRect
      = View.ld (fun y => a y + tile xs wg wu wd (y 0) (y 1)) (Rect.unit (s := S1024x2048) ![512, 0] ![512, 2048] inb_S1024x2048_S512x2048_512_0) := by
  rw [View.readCov_eq_canon']
  funext i
  exact acc_all a xs wg wu wd _

/-- The last point of a row block's run adds its tile and normalises the rows. -/
theorem last (c : Dev nD) (t : Fin cfg0.N) (h0 : ¬t.val % 22 = 0) (h1 : ¬ (1 ≤ t.val % 22 ∧ t.val % 22 ≤ 20)) (h2 : t.val % 22 = 21) (r : Fin 1024) (j : Fin 2048) :
    (outsAt0 m c t.val t.isLt).1 (ix2 r j) = normRow (fun k => (outsAt0 m c (t.val - 1) (Nat.lt_of_le_of_lt (Nat.sub_le _ _) t.isLt)).1 (ix2 r k)
        + tile (outsAt0 m c (t.val - 1) (Nat.lt_of_le_of_lt (Nat.sub_le _ _) t.isLt)).2 (iblk m c 1 t) (iblk m c 2 t) (iblk m c 3 t) r k)
      (fun k => (show FVec Ideal S1x2048 .f32 from iblk m c 4 t) (ix2 0 k)) (fun k => (show FVec Ideal S1x2048 .f32 from iblk m c 5 t) (ix2 0 k)) j := by
  rw [outsAt0_C m c t h0 h1 h2]
  frame_open
  simp (disch := decide) only [↓ View.readCov_skip, ↓ View.readCov_cons_toLoadRect, ↓ View.readCov_fill]
  frame_out
  generalize (outsAt0 m c (t.val - 1) _).1 = a
  generalize (outsAt0 m c (t.val - 1) _).2 = xs
  generalize iblk m c 1 t = wg
  generalize iblk m c 2 t = wu
  generalize iblk m c 3 t = wd
  generalize iblk m c 4 t = g
  generalize iblk m c 5 t = b
  clear h0 h1 h2
  simp only [read_unread_whole]
  rw [acc_load_top, acc_load_bot]
  simp only [normRow, mean]
  generalize hG : (fun y : S1024x2048.Idx => a y + tile xs wg wu wd (y 0) (y 1)) = G
  have hG' : ∀ k : Fin 2048, a (ix2 r k) + tile xs wg wu wd r k = G (ix2 r k) := fun k => by rw [← hG]; rfl
  simp only [hG']
  refine Cert.Pieces.of_take 2 _ _ _ (View.cover_of_tiled_head _ _ _ (by rfl) _) ?_
  simp only [List.take_succ_cons, List.take_zero]
  canon_tiles z h
  all_goals
    pointwise [k0_pay4, k0_pay5, k0_pay50, k0_pay51, k0_pay52]
    change (r : ℕ) = _ at h0
    change (j : ℕ) = _ at h1
    blk_point

end Cert.FfnAIdeal.Rows
-- ==== Proof.FfnRef.lean ====
/- The feed-forward reference's result, read at one row and one column. -/
module

public import proofs.«01_k».proof.Proof.Gen.FfnRefIdeal.Run
public import proofs.«01_k».proof.Proof.FfnMath

@[expose] public section

set_option maxRecDepth 16384

noncomputable section

open Idealize.ShloMosaic Idealize.ShloMosaic.TcCoe Idealize.SL.Sem

namespace Cert.FfnRefIdeal.Rows

open Cert.FfnRefIdeal Cert.FfnRefIdeal.Gen Cert.FfnMath

/-- The hidden units of all rows: gate times its logistic, times the up projection. -/
def hidden (x : FVec Ideal S8192x2048 .f32) (wg wu : FVec Ideal S1x2048x5632 .f32) : FVec Ideal S8192x5632 .f32 :=
  mulf (mulf (Host.dotGeneral dot_S8192x2048_S2048x5632_S8192x5632_1_0_0_1_n_n none x (shapeCast _ wg shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none x (shapeCast _ wg shapeCasts_S1x2048x5632_S2048x5632))))))) (Host.dotGeneral dot_S8192x2048_S2048x5632_S8192x5632_1_0_0_1_n_n none x (shapeCast _ wu shapeCasts_S1x2048x5632_S2048x5632))

/-- The residual plus half the down projection, before the normalisation. -/
def before (x : FVec Ideal S8192x2048 .f32) (wg wu : FVec Ideal S1x2048x5632 .f32) (wd : FVec Ideal S1x5632x2048 .f32) : FVec Ideal S8192x2048 .f32 :=
  addf (mulf (broadcastInDim S8192x2048 ![] bcast_S_S8192x2048 (constant S_ .f32 0x3F9837F0#32)) x) (mulf (broadcastInDim S8192x2048 ![] bcast_S_S8192x2048 (constant S_ .f32 0x3F000000#32)) (Host.dotGeneral dot_S8192x5632_S5632x2048_S8192x2048_1_0_0_1_n_n none (hidden x wg wu) (shapeCast _ wd shapeCasts_S1x5632x2048_S5632x2048)))

/-- The rows' means, as a column. -/
def means (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))

/-- The layer normalisation of all rows. -/
def normed (z : FVec Ideal S8192x2048 .f32) (g b : FVec Ideal S1x2048 .f32) : FVec Ideal S8192x2048 .f32 :=
  addf (mulf (mulf (subf z (broadcastInDim S8192x2048 ![0, 1] bcast_S8192x1_S8192x2048_0_1 (means z))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (means z))) (subf z (broadcastInDim S8192x2048 ![0, 1] bcast_S8192x1_S8192x2048_0_1 (means z)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (broadcastInDim S8192x2048 ![0, 1] bcast_S1x2048_S8192x2048_0_1 (broadcastInDim S1x2048 ![1] bcast_S2048_S1x2048_1 (shapeCast _ b shapeCasts_S1x2048_S2048)))

/-- The run's result is the normalisation of the residual plus half the down projection. -/
theorem result_eq (m : (ℓ : Loc nD τ sig) → Buf (Elt Ideal) ℓ) (c : Dev nD) :
    Value.res_main_v38 m c = normed (before (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

/-- A hidden unit of one row. -/
theorem hidden_at (x : FVec Ideal S8192x2048 .f32) (wg wu : FVec Ideal S1x2048x5632 .f32) (r : Fin 8192) (f : Fin 5632) :
    hidden x wg wu (ix2 r f) = plainUnit (fun k => x (ix2 r k)) (fun k => wg (ix3 0 k f)) (fun k => wu (ix3 0 k f)) := by
  pointwise [hidden]
  simp only [plainUnit, dot, Ideal.logistic, Ideal.ofBits_one_f32]

/-- One entry before the normalisation: the residual plus the halved units' contributions. -/
theorem before_at (x : FVec Ideal S8192x2048 .f32) (wg wu : FVec Ideal S1x2048x5632 .f32) (wd : FVec Ideal S1x5632x2048 .f32) (r : Fin 8192) (j : Fin 2048) :
    before x wg wu wd (ix2 r j) = alpha * x (ix2 r j)
      + ∑ f : Fin 5632, unit (fun k => x (ix2 r k)) (fun k => wg (ix3 0 k f)) (fun k => wu (ix3 0 k f)) * wd (ix3 0 f j) := by
  rw [← half_sum_units]
  pointwise [before]
  simp only [hidden_at]

/-- A row's mean. -/
theorem means_at (z : FVec Ideal S8192x2048 .f32) (r : Fin 8192) : means z (ix2 r 0) = mean fun k => z (ix2 r k) := by
  pointwise [means]
  simp only [mean]

/-- One entry of the normalisation depends on its row alone. -/
theorem normed_at (z : FVec Ideal S8192x2048 .f32) (g b : FVec Ideal S1x2048 .f32) (r : Fin 8192) (j : Fin 2048) :
    normed z g b (ix2 r j) = normRow (fun k => z (ix2 r k)) (fun k => g (ix2 0 k)) (fun k => b (ix2 0 k)) j := by
  pointwise [normed]
  simp only [means_at, normRow]

/-- The reference's result at each row and column. -/
theorem result_at (m : (ℓ : Loc nD τ sig) → Buf (Elt Ideal) ℓ) (c : Dev nD) (x : FVec Ideal S8192x2048 .f32) (wg wu : FVec Ideal S1x2048x5632 .f32) (wd : FVec Ideal S1x5632x2048 .f32) (g b : FVec Ideal S1x2048 .f32)
    (h0 : m ((c.tc : Thread nD τ).loc main_arg0) = x) (h1 : m ((c.tc : Thread nD τ).loc main_arg1) = wg) (h2 : m ((c.tc : Thread nD τ).loc main_arg2) = wu)
    (h3 : m ((c.tc : Thread nD τ).loc main_arg3) = wd) (h4 : m ((c.tc : Thread nD τ).loc main_arg4) = g) (h5 : m ((c.tc : Thread nD τ).loc main_arg5) = b) :
    Value.res_main_v38 m c = fun y : S8192x2048.Idx => normRow (fun k => alpha * x (ix2 (y 0) k)
      + ∑ f : Fin 5632, unit (fun k => x (ix2 (y 0) k)) (fun k => wg (ix3 0 k f)) (fun k => wu (ix3 0 k f)) * wd (ix3 0 f k))
      (fun k => g (ix2 0 k)) (fun k => b (ix2 0 k)) (y 1) := by
  rw [result_eq, h0, h1, h2, h3, h4, h5]
  funext y
  obtain ⟨r, j, rfl⟩ : ∃ (r : Fin 8192) (j : Fin 2048), y = ix2 r j := ⟨y 0, y 1, by funext a; fin_cases a <;> rfl⟩
  rw [normed_at]
  exact congrArg (fun v => normRow v _ _ j) (funext fun k => before_at x wg wu wd r k)

end Cert.FfnRefIdeal.Rows
-- ==== Proof.FfnAValue.lean ====
/- The feed-forward kernel with f32 weights: its result is the feed-forward block of the reference. -/
module

public import proofs.«01_k».proof.Defs
public import proofs.«01_k».proof.Proof.FfnA
public import proofs.«01_k».proof.Proof.FfnRef

@[expose] public section

set_option maxRecDepth 16384

noncomputable section

open Idealize.ShloMosaic Idealize.ShloMosaic.TcCoe Idealize.SL.Sem

namespace Cert.FfnAIdeal.Whole

open Cert.FfnAIdeal Cert.FfnAIdeal.Gen Cert.FfnAIdeal.Rows Cert.FfnMath

variable (m : (ℓ : Loc nD τ sig) → Buf (Elt Ideal) ℓ)

/-- The rows of the input. -/
abbrev X (c : Dev nD) : FVec Ideal S8192x2048 .f32 := m ((c : Thread nD τ).loc main_arg0)
/-- The gate weights. -/
abbrev Wg (c : Dev nD) : FVec Ideal S1x2048x5632 .f32 := m ((c : Thread nD τ).loc main_arg1)
/-- The up weights. -/
abbrev Wu (c : Dev nD) : FVec Ideal S1x2048x5632 .f32 := m ((c : Thread nD τ).loc main_arg2)
/-- The down weights. -/
abbrev Wd (c : Dev nD) : FVec Ideal S1x5632x2048 .f32 := m ((c : Thread nD τ).loc main_arg3)

/-- What hidden unit `n` adds to the entry at row `r`, column `j`. -/
def term (c : Dev nD) (r : Fin 8192) (j : Fin 2048) (n : ℕ) : EReal :=
  if h : n < 5632 then unit (fun k => X m c (ix2 r k)) (fun k => Wg m c (ix3 0 k ⟨n, h⟩)) (fun k => Wu m c (ix3 0 k ⟨n, h⟩)) * Wd m c (ix3 0 ⟨n, h⟩ j) else 0

/-- The row of the whole array that row `r` of point `t`'s row block is. -/
def rowOf (t : Fin cfg0.N) (r : Fin 1024) : Fin 8192 := ⟨t.val / 22 * 1024 + r.val, by
  have h : t.val < 176 := t.isLt
  have := r.isLt
  omega⟩

theorem idx0 : ∀ t : Fin cfg0.N, win0_0.index t = ![t.val / 22, 0] := (by decide +kernel : ∀ t : Fin grid0.N, _)
theorem idx1 : ∀ t : Fin cfg0.N, win0_1.index t = ![0, t.val % 22] := (by decide +kernel : ∀ t : Fin grid0.N, _)
theorem idx2 : ∀ t : Fin cfg0.N, win0_2.index t = ![0, t.val % 22] := (by decide +kernel : ∀ t : Fin grid0.N, _)
theorem idx3 : ∀ t : Fin cfg0.N, win0_3.index t = ![t.val % 22, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- A point's row block. -/
theorem blk0 (c : Dev nD) (t : Fin cfg0.N) (r : Fin 1024) (k : Fin 2048) :
    (show FVec Ideal S1024x2048 .f32 from iblk m c 0 t) (ix2 r k) = X m c (ix2 (rowOf t r) k) := by
  blk_ext [iblk, V, idx0 t, rowOf]

/-- A point's gate tile. -/
theorem blk1 (c : Dev nD) (t : Fin cfg0.N) (k : Fin 2048) (f : Fin 256) (h : t.val % 22 * 256 + f.val < 5632) :
    (show FVec Ideal S2048x256 .f32 from iblk m c 1 t) (ix2 k f) = Wg m c (ix3 0 k ⟨t.val % 22 * 256 + f.val, h⟩) := by
  blk_simp [iblk]
  entry_read
  pointwise
  blk_ext [idx1 t]

/-- A point's up tile. -/
theorem blk2 (c : Dev nD) (t : Fin cfg0.N) (k : Fin 2048) (f : Fin 256) (h : t.val % 22 * 256 + f.val < 5632) :
    (show FVec Ideal S2048x256 .f32 from iblk m c 2 t) (ix2 k f) = Wu m c (ix3 0 k ⟨t.val % 22 * 256 + f.val, h⟩) := by
  blk_simp [iblk]
  entry_read
  pointwise
  blk_ext [idx2 t]

/-- A point's down tile. -/
theorem blk3 (c : Dev nD) (t : Fin cfg0.N) (f : Fin 256) (j : Fin 2048) (h : t.val % 22 * 256 + f.val < 5632) :
    (show FVec Ideal S256x2048 .f32 from iblk m c 3 t) (ix2 f j) = Wd m c (ix3 0 ⟨t.val % 22 * 256 + f.val, h⟩ j) := by
  blk_simp [iblk]
  entry_read
  pointwise
  blk_ext [idx3 t]

/-- The norm weight. -/
theorem blk4 (c : Dev nD) (t : Fin cfg0.N) (k : Fin 2048) :
    (show FVec Ideal S1x2048 .f32 from iblk m c 4 t) (ix2 0 k) = (m ((c : Thread nD τ).loc main_arg4) : FVec Ideal S1x2048 .f32) (ix2 0 k) := by
  blk_simp [iblk]
  entry_read
  pointwise
  blk_ext [idx4 t]

/-- The norm bias. -/
theorem blk5 (c : Dev nD) (t : Fin cfg0.N) (k : Fin 2048) :
    (show FVec Ideal S1x2048 .f32 from iblk m c 5 t) (ix2 0 k) = (m ((c : Thread nD τ).loc main_arg5) : FVec Ideal S1x2048 .f32) (ix2 0 k) := by
  blk_simp [iblk]
  entry_read
  pointwise
  blk_ext [idx5 t]

/-- What a point's tile adds is the sum of its hidden units' terms. -/
theorem tile_eq (c : Dev nD) (t : Fin cfg0.N) (x : FVec Ideal S1024x2048 .bf16) (r : Fin 1024) (j : Fin 2048)
    (hx : ∀ k, x (ix2 r k) = X m c (ix2 (rowOf t r) k)) :
    tile x (iblk m c 1 t) (iblk m c 2 t) (iblk m c 3 t) r j = ∑ f : Fin 256, term m c (rowOf t r) j (t.val % 22 * 256 + f.val) := by
  refine Finset.sum_congr rfl fun f _ => ?_
  have h : t.val % 22 * 256 + f.val < 5632 := by
    have := f.isLt
    omega
  rw [term, dif_pos h]
  refine congrArg₂ (· * ·) ?_ (blk3 m c t f j h)
  rw [funext hx, show (fun k => (show FVec Ideal S2048x256 .f32 from iblk m c 1 t) (ix2 k f)) = _ from funext fun k => blk1 m c t k f h,
    show (fun k => (show FVec Ideal S2048x256 .f32 from iblk m c 2 t) (ix2 k f)) = _ from funext fun k => blk2 m c t k f h]

/-- The sum of a row's terms up to the tile of a point. -/
def upTo (c : Dev nD) (r : Fin 8192) (j : Fin 2048) (s : ℕ) : EReal := ∑ p ∈ Finset.range s, ∑ f : Fin 256, term m c r j (p * 256 + f.val)

/-- Before the last point of a row block's run the output block holds the weighted residual plus the terms so far, and the scratch the row block. -/
theorem upto_point (c : Dev nD) (n : ℕ) (hn : n < cfg0.N) (hl : n % 22 ≠ 21) (r : Fin 1024) :
    (∀ j, (outsAt0 m c n hn).1 (ix2 r j) = alpha * X m c (ix2 (rowOf ⟨n, hn⟩ r) j) + upTo m c (rowOf ⟨n, hn⟩ r) j (n % 22 + 1))
    ∧ ∀ k, (outsAt0 m c n hn).2 (ix2 r k) = X m c (ix2 (rowOf ⟨n, hn⟩ r) k) := by
  induction n with
  | zero =>
    have h0 : (0 : ℕ) % 22 = 0 := rfl
    refine ⟨fun j => ?_, fun k => ?_⟩
    · rw [first m c ⟨0, hn⟩ rfl (by simp) (by simp) r j, blk0, tile_eq m c ⟨0, hn⟩ _ r j (blk0 m c ⟨0, hn⟩ r)]
      simp [upTo]
    · rw [first_kept m c ⟨0, hn⟩ rfl (by simp) (by simp)]
      exact blk0 m c ⟨0, hn⟩ r k
  | succ n ih =>
    by_cases h0 : (n + 1) % 22 = 0
    · refine ⟨fun j => ?_, fun k => ?_⟩
      · rw [first m c ⟨n + 1, hn⟩ h0 (by simp only; omega) (by simp only; omega) r j, blk0, tile_eq m c ⟨n + 1, hn⟩ _ r j (blk0 m c ⟨n + 1, hn⟩ r)]
        simp [upTo, h0]
      · rw [first_kept m c ⟨n + 1, hn⟩ h0 (by simp only; omega) (by simp only; omega)]
        exact blk0 m c ⟨n + 1, hn⟩ r k
    · have hr : rowOf ⟨n + 1, hn⟩ r = rowOf ⟨n, Nat.lt_of_succ_lt hn⟩ r := by
        apply Fin.ext
        simp only [rowOf]
        omega
      obtain ⟨i1, i2⟩ := ih (Nat.lt_of_succ_lt hn) (by omega)
      refine ⟨fun j => ?_, fun k => ?_⟩
      · rw [mid m c ⟨n + 1, hn⟩ h0 (by simp only; omega) hl r j, tile_eq m c ⟨n + 1, hn⟩ _ r j (by rw [hr]; exact i2)]
        refine (congrArg (· + _) (i1 j)).trans ?_
        rw [hr, add_assoc, upTo, upTo, show (n + 1) % 22 = n % 22 + 1 by omega, ← Finset.sum_range_succ]
      · rw [mid_kept m c ⟨n + 1, hn⟩ h0 (by simp only; omega) hl, hr]
        exact i2 k

/-- All the hidden units' terms of a row. -/
theorem upTo_all (c : Dev nD) (r : Fin 8192) (j : Fin 2048) : upTo m c r j 22 = ∑ f : Fin 5632,
    unit (fun k => X m c (ix2 r k)) (fun k => Wg m c (ix3 0 k f)) (fun k => Wu m c (ix3 0 k f)) * Wd m c (ix3 0 f j) := by
  rw [upTo, Finset.sum_range]
  refine Eq.trans ?_ (Fin.sum_mul_add_fin (M := EReal) 22 256 (fun f : Fin 5632 => unit (fun k => X m c (ix2 r k)) (fun k => Wg m c (ix3 0 k f)) (fun k => Wu m c (ix3 0 k f)) * Wd m c (ix3 0 f j)) rfl)
  refine Finset.sum_congr rfl fun p _ => Finset.sum_congr rfl fun f _ => ?_
  rw [term, dif_pos (by have := p.isLt; have := f.isLt; omega)]

/-- What the last point of a row block's run leaves: the rows of the feed-forward block. -/
theorem last_point (c : Dev nD) (t : Fin cfg0.N) (ht : t.val % 22 = 21) (r : Fin 1024) (j : Fin 2048) :
    (outsAt0 m c t.val t.isLt).1 (ix2 r j) = normRow (fun k => alpha * X m c (ix2 (rowOf t r) k) + ∑ f : Fin 5632,
        unit (fun k => X m c (ix2 (rowOf t r) k)) (fun k => Wg m c (ix3 0 k f)) (fun k => Wu m c (ix3 0 k f)) * Wd m c (ix3 0 f k))
      (fun k => (m ((c : Thread nD τ).loc main_arg4) : FVec Ideal S1x2048 .f32) (ix2 0 k)) (fun k => (m ((c : Thread nD τ).loc main_arg5) : FVec Ideal S1x2048 .f32) (ix2 0 k)) j := by
  have hb : t.val - 1 < cfg0.N := Nat.lt_of_le_of_lt (Nat.sub_le _ _) t.isLt
  have hr : rowOf ⟨t.val - 1, hb⟩ r = rowOf t r := by
    apply Fin.ext
    simp only [rowOf]
    omega
  obtain ⟨i1, i2⟩ := upto_point m c (t.val - 1) hb (by omega) r
  rw [hr] at i1 i2
  rw [last m c t (by omega) (by omega) ht r j]
  rw [show (fun k => (show FVec Ideal S1x2048 .f32 from iblk m c 4 t) (ix2 0 k)) = _ from funext (blk4 m c t),
    show (fun k => (show FVec Ideal S1x2048 .f32 from iblk m c 5 t) (ix2 0 k)) = _ from funext (blk5 m c t)]
  refine congrArg (fun v => normRow v _ _ j) (funext fun k => ?_)
  rw [tile_eq m c t _ r k i2, i1 k, add_assoc, ← upTo_all, upTo, upTo, show (t.val - 1) % 22 + 1 = 21 by omega, ht, ← Finset.sum_range_succ]

/-- The array the kernel leaves, at each row and column. -/
def result (c : Dev nD) : FVec Ideal S8192x2048 .f32 := fun y =>
  normRow (fun k => alpha * X m c (ix2 (y 0) k) + ∑ f : Fin 5632,
        unit (fun k => X m c (ix2 (y 0) k)) (fun k => Wg m c (ix3 0 k f)) (fun k => Wu m c (ix3 0 k f)) * Wd m c (ix3 0 f k))
      (fun k => (m ((c : Thread nD τ).loc main_arg4) : FVec Ideal S1x2048 .f32) (ix2 0 k)) (fun k => (m ((c : Thread nD τ).loc main_arg5) : FVec Ideal S1x2048 .f32) (ix2 0 k)) (y 1)

theorem flush6 : ∀ t : Fin cfg0.N, (cfg0.win 6).flush t = true → t.val % 22 = 21 := (by decide +kernel : ∀ t : Fin grid0.N, _)
theorem idx6 : ∀ t : Fin cfg0.N, win0_6.index t = ![t.val / 22, 0] := (by decide +kernel : ∀ t : Fin grid0.N, _)

/-- The kernel's array is `result`. -/
theorem arr_eq (c : Dev nD) : (dats m 0 c).arrAt 6 cfg0.N = result m c := by
  refine (dats m 0 c).arrAt_eq_of_covers 6 _ (by decide +kernel) fun t hf y => ?_
  blk_simp
  rw [after0_6]
  obtain ⟨r, j, rfl⟩ : ∃ (r : Fin 1024) (j : Fin 2048), y = ix2 r j := ⟨y 0, y 1, by funext a; fin_cases a <;> rfl⟩
  rw [last_point m c t (flush6 t hf) r j]
  have e : (win0_6.blk t).view.emb (ix2 r j) = ix2 (rowOf t r) j := by
    blk_ext [idx6 t, rowOf]
  rw [e]
  rfl

/-- The kernel and the feed-forward block of the reference end with equal results. -/
theorem algebraic : Cert.algebraic_FfnAIdeal_FfnRefIdeal := by
  intro m g m' g' _ hagree
  refine ⟨fun c => result m c, ?_, ?_⟩
  · exact (θ_run Cert.FfnAIdeal.defs _ _).mono (fun r h c => ⟨(Value.post6 m r h c).trans (arr_eq m c), Value.kept_main_arg0 m r h c, Value.kept_main_arg1 m r h c,
      Value.kept_main_arg2 m r h c, Value.kept_main_arg3 m r h c, Value.kept_main_arg4 m r h c, Value.kept_main_arg5 m r h c⟩) (run_main m g)
  · refine (θ_run Cert.FfnRefIdeal.defs _ _).mono (fun r h c => ⟨(h c).1.trans ?_, (h c).2⟩) (Cert.FfnRefIdeal.Value.run m' g')
    obtain ⟨h0, h1, h2, h3, h4, h5⟩ := hagree c
    exact Cert.FfnRefIdeal.Rows.result_at m' c _ _ _ _ _ _ h0 h1 h2 h3 h4 h5

end Cert.FfnAIdeal.Whole
-- ==== Proof.FfnB.lean ====
/- What one grid point of the feed-forward kernel (bf16 weights, 512 hidden units a point) leaves in its output block. -/
module

public import proofs.«01_k».proof.Proof.Gen.FfnBIdeal.Value
public import proofs.«01_k».proof.Proof.FfnMath
public import Idealize.ShloMosaic.Lib.Pipeline.ReadBack
public import proofs.«01_k».proof.Proof.Pieces

@[expose] public section

set_option maxRecDepth 16384

noncomputable section

open Idealize.ShloMosaic Idealize.ShloMosaic.TcCoe Idealize.SL.Sem

namespace Cert.FfnBIdeal.Rows

open Cert.FfnBIdeal Cert.FfnBIdeal.Gen Cert.FfnMath

variable (m : (ℓ : Loc nD τ sig) → Buf (Elt Ideal) ℓ)

/-- What the hidden units of one weight tile add to the entry at row `r`, column `j`. -/
def tile (x : FVec Ideal S1024x2048 .bf16) (wg wu : FVec Ideal S2048x512 .bf16) (wd : FVec Ideal S512x2048 .bf16) (r : Fin 1024) (j : Fin 2048) : EReal :=
  ∑ f : Fin 512, unit (fun k => x (ix2 r k)) (fun k => wg (ix2 k f)) (fun k => wu (ix2 k f)) * wd (ix2 f j)

/-- A point in the middle of a row block's run adds its tile to what the point before left. -/
theorem mid (c : Dev nD) (t : Fin cfg0.N) (h0 : ¬t.val % 11 = 0) (h1 : (1 ≤ t.val % 11 ∧ t.val % 11 ≤ 9)) (h2 : ¬t.val % 11 = 10) (r : Fin 1024) (j : Fin 2048) :
    (outsAt0 m c t.val t.isLt).1 (ix2 r j) = (outsAt0 m c (t.val - 1) (Nat.lt_of_le_of_lt (Nat.sub_le _ _) t.isLt)).1 (ix2 r j)
      + tile (outsAt0 m c (t.val - 1) (Nat.lt_of_le_of_lt (Nat.sub_le _ _) t.isLt)).2 (iblk m c 1 t) (iblk m c 2 t) (iblk m c 3 t) r j := by
  rw [outsAt0_B m c t h0 h1 h2]
  frame_out
  generalize (outsAt0 m c (t.val - 1) _).1 = a
  generalize (outsAt0 m c (t.val - 1) _).2 = xs
  generalize iblk m c 1 t = wg
  generalize iblk m c 2 t = wu
  generalize iblk m c 3 t = wd
  clear h0 h1 h2
  simp only [read_unread_whole]
  canon_tiles x h
  all_goals
    pointwise [tile, k0_pay6, k0_pay7, k0_pay24, k0_pay25, k0_pay26, k0_pay27, k0_pay28]
    simp only [unit, FfnMath.dot]
    change (r : ℕ) = _ at h0
    change (j : ℕ) = _ at h1
    blk_point

/-- The residual row block times its weight, as the first point stores it in two halves of rows. -/
theorem init_all (x : FVec Ideal S1024x2048 .f32) (y : S1024x2048.Idx) :
    View.canon (Val := Elt Ideal) (s := S1024x2048) (e := .f32)
      [⟨Rect.unit (s := S1024x2048) ![512, 0] ![512, 2048] inb_S1024x2048_S512x2048_512_0, k0_pay12 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay10 (F := Ideal) (View.ld x (Rect.unit (s := S1024x2048) ![0, 0] ![512, 2048] inb_S1024x2048_S512x2048_0_0))⟩] y = alpha * x y := by
  canon_tiles z h
  all_goals
    pointwise [k0_pay10, k0_pay12]
    blk_point

/-- The upper half of the rows alone. -/
theorem init_top (x : FVec Ideal S1024x2048 .f32) (y : S1024x2048.Idx) (hy : (y 0 : ℕ) < 512) :
    View.canon (Val := Elt Ideal) (s := S1024x2048) (e := .f32)
      [⟨Rect.unit (s := S1024x2048) ![0, 0] ![512, 2048] inb_S1024x2048_S512x2048_0_0, k0_pay10 (F := Ideal) (View.ld x (Rect.unit (s := S1024x2048) ![0, 0] ![512, 2048] inb_S1024x2048_S512x2048_0_0))⟩] y = alpha * x y := by
  have hc := (y 1).isLt
  refine View.canon_eq_of_allAt _ y _ (Cert.Pieces.here fun a => ?_) ?_
  · fin_cases a
    · exact ⟨Nat.zero_le _, by simpa using hy⟩
    · exact ⟨Nat.zero_le _, by simpa using hc⟩
  refine View.allAt_cons_unit _ _ _ _ _ ?_ (View.allAt_nil _ _)
  tile_intro z h
  all_goals
    pointwise [k0_pay10]
    blk_point

/-- The row block stored in the scratch in two halves of rows is the row block. -/
theorem kept_all (x : FVec Ideal S1024x2048 .f32) (y : S1024x2048.Idx) :
    View.canon (Val := Elt Ideal) (s := S1024x2048) (e := .bf16)
      [⟨Rect.unit (s := S1024x2048) ![512, 0] ![512, 2048] inb_S1024x2048_S512x2048_512_0, k0_pay11 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay9 (F := Ideal) (View.ld x (Rect.unit (s := S1024x2048) ![0, 0] ![512, 2048] inb_S1024x2048_S512x2048_0_0))⟩] y = x y := by
  canon_tiles z h
  all_goals
    pointwise [k0_pay9, k0_pay11]
    blk_point

/-- A load after both halves are stored reads the weighted residual. -/
theorem init_load (v : View sig .tc .vmem S1024x2048 .f32) (x : FVec Ideal S1024x2048 .f32) (r : Rect S1024x2048) :
    v.readCov (Val := Elt Ideal)
      [⟨Rect.unit (s := S1024x2048) ![512, 0] ![512, 2048] inb_S1024x2048_S512x2048_512_0, k0_pay12 (F := Ideal) (View.ld x (Rect.unit (s := S1024x2048) ![512, 0] ![512, 2048] inb_S1024x2048_S512x2048_512_0))⟩,
        ⟨Rect.unit (s := S1024x2048) ![0, 0] ![512, 2048] inb_S1024x2048_S512x2048_0_0, k0_pay10 (F := Ideal) (View.ld x (Rect.unit (s := S1024x2048) ![0, 0] ![512, 2048] inb_S1024x2048_S512x2048_0_0))⟩] r.toLoadRect = View.ld (fun y => alpha * x y) r := by
  rw [View.readCov_eq_canon']
  funext i
  exact init_all x _

/-- A load of the upper half of the rows after that half is stored reads the weighted residual. -/
theorem init_load_top (v : View sig .tc .vmem S1024x2048 .f32) (x : FVec Ideal S1024x2048 .f32) (k : ℕ)
    (hk : ∀ a : Fin 2, (![0, k] : Fin 2 → ℕ) a + (![512, 512] : Fin 2 → ℕ) a ≤ S1024x2048.size a) :
    v.readCov (Val := Elt Ideal)
      [⟨Rect.unit (s := S1024x2048) ![0, 0] ![512, 2048] inb_S1024x2048_S512x2048_0_0, k0_pay10 (F := Ideal) (View.ld x (Rect.unit (s := S1024x2048) ![0, 0] ![512, 2048] inb_S1024x2048_S512x2048_0_0))⟩] (Rect.unit (s := S1024x2048) ![0, k] ![512, 512] hk).toLoadRect
      = View.ld (fun y => alpha * x y) (Rect.unit (s := S1024x2048) ![0, k] ![512, 512] hk) := by
  rw [View.readCov_eq_canon']
  funext i
  refine init_top x _ ?_
  have := (i 0).isLt
  show 0 + 1 * (i 0).val < 512
  have h : (i 0).val < 512 := (i 0).isLt
  omega

/-- The first point of a row block's run leaves the weighted residual plus its tile. -/
theorem first (c : Dev nD) (t : Fin cfg0.N) (h0 : t.val % 11 = 0) (h1 : ¬ (1 ≤ t.val % 11 ∧ t.val % 11 ≤ 9)) (h2 : ¬ t.val % 11 = 10) (r : Fin 1024) (j : Fin 2048) :
    (outsAt0 m c t.val t.isLt).1 (ix2 r j) = alpha * (show FVec Ideal S1024x2048 .f32 from iblk m c 0 t) (ix2 r j)
      + tile (iblk m c 0 t) (iblk m c 1 t) (iblk m c 2 t) (iblk m c 3 t) r j := by
  rw [outsAt0_A m c t h0 h1 h2]
  frame_open
  simp (disch := decide) only [↓ View.readCov_skip, ↓ View.readCov_cons_toLoadRect, ↓ View.readCov_fill]
  frame_out
  generalize iblk m c 0 t = x
  generalize iblk m c 1 t = wg
  generalize iblk m c 2 t = wu
  generalize iblk m c 3 t = wd
  clear h0 h1 h2
  simp only [init_load, init_load_top]
  refine Cert.Pieces.of_take 8 _ _ _ (View.cover_of_tiled_head _ _ _ (by rfl) _) ?_
  simp only [List.take_succ_cons, List.take_zero]
  canon_tiles z h
  all_goals
    pointwise [tile, k0_pay1, k0_pay2, k0_pay3, k0_pay4, k0_pay5, k0_pay13, k0_pay14, k0_pay15, k0_pay16, k0_pay17, k0_pay18, k0_pay19, k0_pay20, k0_pay21, k0_pay22, k0_pay23, k0_pay9, k0_pay11]
    simp only [unit, FfnMath.dot]
    change (r : ℕ) = _ at h0
    change (j : ℕ) = _ at h1
    blk_point

/-- The first point keeps the row block in the scratch. -/
theorem first_kept (c : Dev nD) (t : Fin cfg0.N) (h0 : t.val % 11 = 0) (h1 : ¬ (1 ≤ t.val % 11 ∧ t.val % 11 ≤ 9)) (h2 : ¬ t.val % 11 = 10) :
    (outsAt0 m c t.val t.isLt).2 = (show FVec Ideal S1024x2048 .f32 from iblk m c 0 t) := by
  rw [outsAt0_A m c t h0 h1 h2]
  frame_out
  exact funext fun y => kept_all _ y

/-- Every other point keeps the scratch. -/
theorem mid_kept (c : Dev nD) (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]; rfl

/-- The last point's accumulation, upper half of the rows. -/
theorem acc_top (a : FVec Ideal S1024x2048 .f32) (xs : FVec Ideal S1024x2048 .bf16) (wg wu : FVec Ideal S2048x512 .bf16) (wd : FVec Ideal S512x2048 .bf16) (y : S1024x2048.Idx) (hy : (y 0 : ℕ) < 512) :
    View.canon (Val := Elt Ideal) (s := S1024x2048) (e := .f32)
      [⟨Rect.unit (s := S1024x2048) ![0, 1536] ![512, 512] inb_S1024x2048_S512x512_0_1536, k0_pay40 (F := Ideal) (k0_pay34 (View.ld wd (Rect.unit (s := S512x2048) ![0, 1536] ![512, 512] inb_S512x2048_S512x512_0_1536))) (k0_pay35 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay39 (F := Ideal) (k0_pay33 (View.ld wd (Rect.unit (s := S512x2048) ![0, 1024] ![512, 512] inb_S512x2048_S512x512_0_1024))) (k0_pay35 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay38 (F := Ideal) (k0_pay32 (View.ld wd (Rect.unit (s := S512x2048) ![0, 512] ![512, 512] inb_S512x2048_S512x512_0_512))) (k0_pay35 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay37 (F := Ideal) wg wu (View.ld wd (Rect.unit (s := S512x2048) ![0, 0] ![512, 512] inb_S512x2048_S512x512_0_0)) (View.ld xs (Rect.unit (s := S1024x2048) ![0, 0] ![512, 2048] inb_S1024x2048_S512x2048_0_0)) (View.ld a (Rect.unit (s := S1024x2048) ![0, 0] ![512, 512] inb_S1024x2048_S512x512_0_0))⟩] y
      = a y + tile xs wg wu wd (y 0) (y 1) := by
  have hc := (y 1).isLt
  have hcov : (y 1 : ℕ) < 512 ∨ (512 ≤ (y 1 : ℕ) ∧ (y 1 : ℕ) < 1024) ∨ (1024 ≤ (y 1 : ℕ) ∧ (y 1 : ℕ) < 1536) ∨ (1536 ≤ (y 1 : ℕ) ∧ (y 1 : ℕ) < 2048) := by
    have : (y 1 : ℕ) < 2048 := hc
    omega
  refine View.canon_eq_of_allAt _ y _ ?_ ?_
  · rcases hcov with h | ⟨h, h'⟩ | ⟨h, h'⟩ | ⟨h, h'⟩
    · exact Cert.Pieces.there (Cert.Pieces.there (Cert.Pieces.there (Cert.Pieces.here fun a => by fin_cases a; exacts [⟨Nat.zero_le _, by simpa using hy⟩, ⟨Nat.zero_le _, by simpa using h⟩])))
    · exact Cert.Pieces.there (Cert.Pieces.there (Cert.Pieces.here fun a => by fin_cases a; exacts [⟨Nat.zero_le _, by simpa using hy⟩, ⟨h, by simpa using h'⟩]))
    · exact Cert.Pieces.there (Cert.Pieces.here fun a => by fin_cases a; exacts [⟨Nat.zero_le _, by simpa using hy⟩, ⟨h, by simpa using h'⟩])
    · exact Cert.Pieces.here fun a => by fin_cases a; exacts [⟨Nat.zero_le _, by simpa using hy⟩, ⟨h, by simpa using h'⟩]
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    tile_intro z h
    pointwise [tile, k0_pay29, k0_pay30, k0_pay31, k0_pay32, k0_pay33, k0_pay34, k0_pay35, k0_pay36, k0_pay37, k0_pay38, k0_pay39, k0_pay40, k0_pay41, k0_pay42, k0_pay43, k0_pay44]
    simp only [unit, FfnMath.dot]
    blk_point

/-- The last point's accumulation, all rows. -/
theorem acc_all (a : FVec Ideal S1024x2048 .f32) (xs : FVec Ideal S1024x2048 .bf16) (wg wu : FVec Ideal S2048x512 .bf16) (wd : FVec Ideal S512x2048 .bf16) (y : S1024x2048.Idx) :
    View.canon (Val := Elt Ideal) (s := S1024x2048) (e := .f32)
      [⟨Rect.unit (s := S1024x2048) ![512, 1536] ![512, 512] inb_S1024x2048_S512x512_512_1536, k0_pay44 (F := Ideal) (k0_pay34 (View.ld wd (Rect.unit (s := S512x2048) ![0, 1536] ![512, 512] inb_S512x2048_S512x512_0_1536))) (k0_pay36 wg wu (View.ld xs (Rect.unit (s := S1024x2048) ![512, 0] ![512, 2048] inb_S1024x2048_S512x2048_512_0))) (View.ld a (Rect.unit (s := S1024x2048) ![512, 1536] ![512, 512] inb_S1024x2048_S512x512_512_1536))⟩,
        ⟨Rect.unit (s := S1024x2048) ![512, 1024] ![512, 512] inb_S1024x2048_S512x512_512_1024, k0_pay43 (F := Ideal) (k0_pay33 (View.ld wd (Rect.unit (s := S512x2048) ![0, 1024] ![512, 512] inb_S512x2048_S512x512_0_1024))) (k0_pay36 wg wu (View.ld xs (Rect.unit (s := S1024x2048) ![512, 0] ![512, 2048] inb_S1024x2048_S512x2048_512_0))) (View.ld a (Rect.unit (s := S1024x2048) ![512, 1024] ![512, 512] inb_S1024x2048_S512x512_512_1024))⟩,
        ⟨Rect.unit (s := S1024x2048) ![512, 512] ![512, 512] inb_S1024x2048_S512x512_512_512, k0_pay42 (F := Ideal) (k0_pay32 (View.ld wd (Rect.unit (s := S512x2048) ![0, 512] ![512, 512] inb_S512x2048_S512x512_0_512))) (k0_pay36 wg wu (View.ld xs (Rect.unit (s := S1024x2048) ![512, 0] ![512, 2048] inb_S1024x2048_S512x2048_512_0))) (View.ld a (Rect.unit (s := S1024x2048) ![512, 512] ![512, 512] inb_S1024x2048_S512x512_512_512))⟩,
        ⟨Rect.unit (s := S1024x2048) ![512, 0] ![512, 512] inb_S1024x2048_S512x512_512_0, k0_pay41 (F := Ideal) (k0_pay31 (View.ld wd (Rect.unit (s := S512x2048) ![0, 0] ![512, 512] inb_S512x2048_S512x512_0_0))) (k0_pay36 wg wu (View.ld xs (Rect.unit (s := S1024x2048) ![512, 0] ![512, 2048] inb_S1024x2048_S512x2048_512_0))) (View.ld a (Rect.unit (s := S1024x2048) ![512, 0] ![512, 512] inb_S1024x2048_S512x512_512_0))⟩,
        ⟨Rect.unit (s := S1024x2048) ![0, 1536] ![512, 512] inb_S1024x2048_S512x512_0_1536, k0_pay40 (F := Ideal) (k0_pay34 (View.ld wd (Rect.unit (s := S512x2048) ![0, 1536] ![512, 512] inb_S512x2048_S512x512_0_1536))) (k0_pay35 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay39 (F := Ideal) (k0_pay33 (View.ld wd (Rect.unit (s := S512x2048) ![0, 1024] ![512, 512] inb_S512x2048_S512x512_0_1024))) (k0_pay35 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay38 (F := Ideal) (k0_pay32 (View.ld wd (Rect.unit (s := S512x2048) ![0, 512] ![512, 512] inb_S512x2048_S512x512_0_512))) (k0_pay35 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay37 (F := Ideal) wg wu (View.ld wd (Rect.unit (s := S512x2048) ![0, 0] ![512, 512] inb_S512x2048_S512x512_0_0)) (View.ld xs (Rect.unit (s := S1024x2048) ![0, 0] ![512, 2048] inb_S1024x2048_S512x2048_0_0)) (View.ld a (Rect.unit (s := S1024x2048) ![0, 0] ![512, 512] inb_S1024x2048_S512x512_0_0))⟩] y
      = a y + tile xs wg wu wd (y 0) (y 1) := by
  canon_tiles z h
  all_goals
    pointwise [tile, k0_pay29, k0_pay30, k0_pay31, k0_pay32, k0_pay33, k0_pay34, k0_pay35, k0_pay36, k0_pay37, k0_pay38, k0_pay39, k0_pay40, k0_pay41, k0_pay42, k0_pay43, k0_pay44]
    simp only [unit, FfnMath.dot]
    blk_point

/-- Reading the upper half of the accumulated rows. -/
theorem acc_load_top (v : View sig .tc .vmem S1024x2048 .f32) (a : FVec Ideal S1024x2048 .f32) (xs : FVec Ideal S1024x2048 .bf16) (wg wu : FVec Ideal S2048x512 .bf16) (wd : FVec Ideal S512x2048 .bf16) :
    v.readCov (Val := Elt Ideal)
      [⟨Rect.unit (s := S1024x2048) ![0, 1536] ![512, 512] inb_S1024x2048_S512x512_0_1536, k0_pay40 (F := Ideal) (k0_pay34 (View.ld wd (Rect.unit (s := S512x2048) ![0, 1536] ![512, 512] inb_S512x2048_S512x512_0_1536))) (k0_pay35 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay39 (F := Ideal) (k0_pay33 (View.ld wd (Rect.unit (s := S512x2048) ![0, 1024] ![512, 512] inb_S512x2048_S512x512_0_1024))) (k0_pay35 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay38 (F := Ideal) (k0_pay32 (View.ld wd (Rect.unit (s := S512x2048) ![0, 512] ![512, 512] inb_S512x2048_S512x512_0_512))) (k0_pay35 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay37 (F := Ideal) wg wu (View.ld wd (Rect.unit (s := S512x2048) ![0, 0] ![512, 512] inb_S512x2048_S512x512_0_0)) (View.ld xs (Rect.unit (s := S1024x2048) ![0, 0] ![512, 2048] inb_S1024x2048_S512x2048_0_0)) (View.ld a (Rect.unit (s := S1024x2048) ![0, 0] ![512, 512] inb_S1024x2048_S512x512_0_0))⟩] (Rect.unit (s := S1024x2048) ![0, 0] ![512, 2048] inb_S1024x2048_S512x2048_0_0).toLoadRect
      = View.ld (fun y => a y + tile xs wg wu wd (y 0) (y 1)) (Rect.unit (s := S1024x2048) ![0, 0] ![512, 2048] inb_S1024x2048_S512x2048_0_0) := by
  rw [View.readCov_eq_canon']
  funext i
  refine acc_top a xs wg wu wd _ ?_
  show 0 + 1 * (i 0).val < 512
  have h : (i 0).val < 512 := (i 0).isLt
  omega

/-- Reading the lower half of the accumulated rows. -/
theorem acc_load_bot (v : View sig .tc .vmem S1024x2048 .f32) (a : FVec Ideal S1024x2048 .f32) (xs : FVec Ideal S1024x2048 .bf16) (wg wu : FVec Ideal S2048x512 .bf16) (wd : FVec Ideal S512x2048 .bf16) :
    v.readCov (Val := Elt Ideal)
      [⟨Rect.unit (s := S1024x2048) ![512, 1536] ![512, 512] inb_S1024x2048_S512x512_512_1536, k0_pay44 (F := Ideal) (k0_pay34 (View.ld wd (Rect.unit (s := S512x2048) ![0, 1536] ![512, 512] inb_S512x2048_S512x512_0_1536))) (k0_pay36 wg wu (View.ld xs (Rect.unit (s := S1024x2048) ![512, 0] ![512, 2048] inb_S1024x2048_S512x2048_512_0))) (View.ld a (Rect.unit (s := S1024x2048) ![512, 1536] ![512, 512] inb_S1024x2048_S512x512_512_1536))⟩,
        ⟨Rect.unit (s := S1024x2048) ![512, 1024] ![512, 512] inb_S1024x2048_S512x512_512_1024, k0_pay43 (F := Ideal) (k0_pay33 (View.ld wd (Rect.unit (s := S512x2048) ![0, 1024] ![512, 512] inb_S512x2048_S512x512_0_1024))) (k0_pay36 wg wu (View.ld xs (Rect.unit (s := S1024x2048) ![512, 0] ![512, 2048] inb_S1024x2048_S512x2048_512_0))) (View.ld a (Rect.unit (s := S1024x2048) ![512, 1024] ![512, 512] inb_S1024x2048_S512x512_512_1024))⟩,
        ⟨Rect.unit (s := S1024x2048) ![512, 512] ![512, 512] inb_S1024x2048_S512x512_512_512, k0_pay42 (F := Ideal) (k0_pay32 (View.ld wd (Rect.unit (s := S512x2048) ![0, 512] ![512, 512] inb_S512x2048_S512x512_0_512))) (k0_pay36 wg wu (View.ld xs (Rect.unit (s := S1024x2048) ![512, 0] ![512, 2048] inb_S1024x2048_S512x2048_512_0))) (View.ld a (Rect.unit (s := S1024x2048) ![512, 512] ![512, 512] inb_S1024x2048_S512x512_512_512))⟩,
        ⟨Rect.unit (s := S1024x2048) ![512, 0] ![512, 512] inb_S1024x2048_S512x512_512_0, k0_pay41 (F := Ideal) (k0_pay31 (View.ld wd (Rect.unit (s := S512x2048) ![0, 0] ![512, 512] inb_S512x2048_S512x512_0_0))) (k0_pay36 wg wu (View.ld xs (Rect.unit (s := S1024x2048) ![512, 0] ![512, 2048] inb_S1024x2048_S512x2048_512_0))) (View.ld a (Rect.unit (s := S1024x2048) ![512, 0] ![512, 512] inb_S1024x2048_S512x512_512_0))⟩,
        ⟨Rect.unit (s := S1024x2048) ![0, 1536] ![512, 512] inb_S1024x2048_S512x512_0_1536, k0_pay40 (F := Ideal) (k0_pay34 (View.ld wd (Rect.unit (s := S512x2048) ![0, 1536] ![512, 512] inb_S512x2048_S512x512_0_1536))) (k0_pay35 wg wu (View.ld xs (Rect.unit (s := S1024x2048) ![0, 0] ![512, 2048] inb_S1024x2048_S512x2048_0_0))) (View.ld a (Rect.unit (s := S1024x2048) ![0, 1536] ![512, 512] inb_S1024x2048_S512x512_0_1536))⟩,
        ⟨Rect.unit (s := S1024x2048) ![0, 1024] ![512, 512] inb_S1024x2048_S512x512_0_1024, k0_pay39 (F := Ideal) (k0_pay33 (View.ld wd (Rect.unit (s := S512x2048) ![0, 1024] ![512, 512] inb_S512x2048_S512x512_0_1024))) (k0_pay35 wg wu (View.ld xs (Rect.unit (s := S1024x2048) ![0, 0] ![512, 2048] inb_S1024x2048_S512x2048_0_0))) (View.ld a (Rect.unit (s := S1024x2048) ![0, 1024] ![512, 512] inb_S1024x2048_S512x512_0_1024))⟩,
        ⟨Rect.unit (s := S1024x2048) ![0, 512] ![512, 512] inb_S1024x2048_S512x512_0_512, k0_pay38 (F := Ideal) (k0_pay32 (View.ld wd (Rect.unit (s := S512x2048) ![0, 512] ![512, 512] inb_S512x2048_S512x512_0_512))) (k0_pay35 wg wu (View.ld xs (Rect.unit (s := S1024x2048) ![0, 0] ![512, 2048] inb_S1024x2048_S512x2048_0_0))) (View.ld a (Rect.unit (s := S1024x2048) ![0, 512] ![512, 512] inb_S1024x2048_S512x512_0_512))⟩,
        ⟨Rect.unit (s := S1024x2048) ![0, 0] ![512, 512] inb_S1024x2048_S512x512_0_0, k0_pay37 (F := Ideal) wg wu (View.ld wd (Rect.unit (s := S512x2048) ![0, 0] ![512, 512] inb_S512x2048_S512x512_0_0)) (View.ld xs (Rect.unit (s := S1024x2048) ![0, 0] ![512, 2048] inb_S1024x2048_S512x2048_0_0)) (View.ld a (Rect.unit (s := S1024x2048) ![0, 0] ![512, 512] inb_S1024x2048_S512x512_0_0))⟩] (Rect.unit (s := S1024x2048) ![512, 0] ![512, 2048] inb_S1024x2048_S512x2048_512_0).toLoadRect
      = View.ld (fun y => a y + tile xs wg wu wd (y 0) (y 1)) (Rect.unit (s := S1024x2048) ![512, 0] ![512, 2048] inb_S1024x2048_S512x2048_512_0) := by
  rw [View.readCov_eq_canon']
  funext i
  exact acc_all a xs wg wu wd _

/-- The last point of a row block's run adds its tile and normalises the rows. -/
theorem last (c : Dev nD) (t : Fin cfg0.N) (h0 : ¬t.val % 11 = 0) (h1 : ¬ (1 ≤ t.val % 11 ∧ t.val % 11 ≤ 9)) (h2 : t.val % 11 = 10) (r : Fin 1024) (j : Fin 2048) :
    (outsAt0 m c t.val t.isLt).1 (ix2 r j) = normRow (fun k => (outsAt0 m c (t.val - 1) (Nat.lt_of_le_of_lt (Nat.sub_le _ _) t.isLt)).1 (ix2 r k)
        + tile (outsAt0 m c (t.val - 1) (Nat.lt_of_le_of_lt (Nat.sub_le _ _) t.isLt)).2 (iblk m c 1 t) (iblk m c 2 t) (iblk m c 3 t) r k)
      (fun k => (show FVec Ideal S1x2048 .f32 from iblk m c 4 t) (ix2 0 k)) (fun k => (show FVec Ideal S1x2048 .f32 from iblk m c 5 t) (ix2 0 k)) j := by
  rw [outsAt0_C m c t h0 h1 h2]
  frame_open
  simp (disch := decide) only [↓ View.readCov_skip, ↓ View.readCov_cons_toLoadRect, ↓ View.readCov_fill]
  frame_out
  generalize (outsAt0 m c (t.val - 1) _).1 = a
  generalize (outsAt0 m c (t.val - 1) _).2 = xs
  generalize iblk m c 1 t = wg
  generalize iblk m c 2 t = wu
  generalize iblk m c 3 t = wd
  generalize iblk m c 4 t = g
  generalize iblk m c 5 t = b
  clear h0 h1 h2
  simp only [read_unread_whole]
  rw [acc_load_top, acc_load_bot]
  simp only [normRow, mean]
  generalize hG : (fun y : S1024x2048.Idx => a y + tile xs wg wu wd (y 0) (y 1)) = G
  have hG' : ∀ k : Fin 2048, a (ix2 r k) + tile xs wg wu wd r k = G (ix2 r k) := fun k => by rw [← hG]; rfl
  simp only [hG']
  refine Cert.Pieces.of_take 2 _ _ _ (View.cover_of_tiled_head _ _ _ (by rfl) _) ?_
  simp only [List.take_succ_cons, List.take_zero]
  canon_tiles z h
  all_goals
    pointwise [k0_pay8, k0_pay45]
    change (r : ℕ) = _ at h0
    change (j : ℕ) = _ at h1
    blk_point

end Cert.FfnBIdeal.Rows
-- ==== Proof.FfnBValue.lean ====
/- The feed-forward kernel with bf16 weights: its result is the feed-forward block of the reference. -/
module

public import proofs.«01_k».proof.Defs
public import proofs.«01_k».proof.Proof.FfnB
public import proofs.«01_k».proof.Proof.FfnRef

@[expose] public section

set_option maxRecDepth 16384

noncomputable section

open Idealize.ShloMosaic Idealize.ShloMosaic.TcCoe Idealize.SL.Sem

namespace Cert.FfnBIdeal.Whole

open Cert.FfnBIdeal Cert.FfnBIdeal.Gen Cert.FfnBIdeal.Rows Cert.FfnMath

variable (m : (ℓ : Loc nD τ sig) → Buf (Elt Ideal) ℓ)

/-- The rows of the input. -/
abbrev X (c : Dev nD) : FVec Ideal S8192x2048 .f32 := m ((c : Thread nD τ).loc main_arg0)
/-- The gate weights. -/
abbrev Wg (c : Dev nD) : FVec Ideal S1x2048x5632 .f32 := m ((c : Thread nD τ).loc main_arg1)
/-- The up weights. -/
abbrev Wu (c : Dev nD) : FVec Ideal S1x2048x5632 .f32 := m ((c : Thread nD τ).loc main_arg2)
/-- The down weights. -/
abbrev Wd (c : Dev nD) : FVec Ideal S1x5632x2048 .f32 := m ((c : Thread nD τ).loc main_arg3)

/-- What hidden unit `n` adds to the entry at row `r`, column `j`. -/
def term (c : Dev nD) (r : Fin 8192) (j : Fin 2048) (n : ℕ) : EReal :=
  if h : n < 5632 then unit (fun k => X m c (ix2 r k)) (fun k => Wg m c (ix3 0 k ⟨n, h⟩)) (fun k => Wu m c (ix3 0 k ⟨n, h⟩)) * Wd m c (ix3 0 ⟨n, h⟩ j) else 0

/-- The row of the whole array that row `r` of point `t`'s row block is. -/
def rowOf (t : Fin cfg0.N) (r : Fin 1024) : Fin 8192 := ⟨t.val / 11 * 1024 + r.val, by
  have h : t.val < 88 := t.isLt
  have := r.isLt
  omega⟩

theorem idx0 : ∀ t : Fin cfg0.N, win0_0.index t = ![t.val / 11, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![0, t.val % 11] := (by decide +kernel : ∀ t : Fin grid0.N, _)
theorem idx3 : ∀ t : Fin cfg0.N, win0_3.index t = ![t.val % 11, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- A point's row block. -/
theorem blk0 (c : Dev nD) (t : Fin cfg0.N) (r : Fin 1024) (k : Fin 2048) :
    (show FVec Ideal S1024x2048 .f32 from iblk m c 0 t) (ix2 r k) = X m c (ix2 (rowOf t r) k) := by
  blk_ext [iblk, V, idx0 t, rowOf]

/-- A point's gate tile. -/
theorem blk1 (c : Dev nD) (t : Fin cfg0.N) (k : Fin 2048) (f : Fin 512) (h : t.val % 11 * 512 + f.val < 5632) :
    (show FVec Ideal S2048x512 .bf16 from iblk m c 1 t) (ix2 k f) = Wg m c (ix3 0 k ⟨t.val % 11 * 512 + f.val, h⟩) := by
  blk_simp [iblk]
  entry_read
  pointwise
  blk_ext [idx1 t]

/-- A point's up tile. -/
theorem blk2 (c : Dev nD) (t : Fin cfg0.N) (k : Fin 2048) (f : Fin 512) (h : t.val % 11 * 512 + f.val < 5632) :
    (show FVec Ideal S2048x512 .bf16 from iblk m c 2 t) (ix2 k f) = Wu m c (ix3 0 k ⟨t.val % 11 * 512 + f.val, h⟩) := by
  blk_simp [iblk]
  entry_read
  pointwise
  blk_ext [idx2 t]

/-- A point's down tile. -/
theorem blk3 (c : Dev nD) (t : Fin cfg0.N) (f : Fin 512) (j : Fin 2048) (h : t.val % 11 * 512 + f.val < 5632) :
    (show FVec Ideal S512x2048 .bf16 from iblk m c 3 t) (ix2 f j) = Wd m c (ix3 0 ⟨t.val % 11 * 512 + f.val, h⟩ j) := by
  blk_simp [iblk]
  entry_read
  pointwise
  blk_ext [idx3 t]

/-- The norm weight. -/
theorem blk4 (c : Dev nD) (t : Fin cfg0.N) (k : Fin 2048) :
    (show FVec Ideal S1x2048 .f32 from iblk m c 4 t) (ix2 0 k) = (m ((c : Thread nD τ).loc main_arg4) : FVec Ideal S1x2048 .f32) (ix2 0 k) := by
  blk_simp [iblk]
  entry_read
  pointwise
  blk_ext [idx4 t]

/-- The norm bias. -/
theorem blk5 (c : Dev nD) (t : Fin cfg0.N) (k : Fin 2048) :
    (show FVec Ideal S1x2048 .f32 from iblk m c 5 t) (ix2 0 k) = (m ((c : Thread nD τ).loc main_arg5) : FVec Ideal S1x2048 .f32) (ix2 0 k) := by
  blk_simp [iblk]
  entry_read
  pointwise
  blk_ext [idx5 t]

/-- What a point's tile adds is the sum of its hidden units' terms. -/
theorem tile_eq (c : Dev nD) (t : Fin cfg0.N) (x : FVec Ideal S1024x2048 .bf16) (r : Fin 1024) (j : Fin 2048)
    (hx : ∀ k, x (ix2 r k) = X m c (ix2 (rowOf t r) k)) :
    tile x (iblk m c 1 t) (iblk m c 2 t) (iblk m c 3 t) r j = ∑ f : Fin 512, term m c (rowOf t r) j (t.val % 11 * 512 + f.val) := by
  refine Finset.sum_congr rfl fun f _ => ?_
  have h : t.val % 11 * 512 + f.val < 5632 := by
    have := f.isLt
    omega
  rw [term, dif_pos h]
  refine congrArg₂ (· * ·) ?_ (blk3 m c t f j h)
  rw [funext hx, show (fun k => (show FVec Ideal S2048x512 .bf16 from iblk m c 1 t) (ix2 k f)) = _ from funext fun k => blk1 m c t k f h,
    show (fun k => (show FVec Ideal S2048x512 .bf16 from iblk m c 2 t) (ix2 k f)) = _ from funext fun k => blk2 m c t k f h]

/-- The sum of a row's terms up to the tile of a point. -/
def upTo (c : Dev nD) (r : Fin 8192) (j : Fin 2048) (s : ℕ) : EReal := ∑ p ∈ Finset.range s, ∑ f : Fin 512, term m c r j (p * 512 + f.val)

/-- Before the last point of a row block's run the output block holds the weighted residual plus the terms so far, and the scratch the row block. -/
theorem upto_point (c : Dev nD) (n : ℕ) (hn : n < cfg0.N) (hl : n % 11 ≠ 10) (r : Fin 1024) :
    (∀ j, (outsAt0 m c n hn).1 (ix2 r j) = alpha * X m c (ix2 (rowOf ⟨n, hn⟩ r) j) + upTo m c (rowOf ⟨n, hn⟩ r) j (n % 11 + 1))
    ∧ ∀ k, (outsAt0 m c n hn).2 (ix2 r k) = X m c (ix2 (rowOf ⟨n, hn⟩ r) k) := by
  induction n with
  | zero =>
    have h0 : (0 : ℕ) % 11 = 0 := rfl
    refine ⟨fun j => ?_, fun k => ?_⟩
    · rw [first m c ⟨0, hn⟩ rfl (by simp) (by simp) r j, blk0, tile_eq m c ⟨0, hn⟩ _ r j (blk0 m c ⟨0, hn⟩ r)]
      simp [upTo]
    · rw [first_kept m c ⟨0, hn⟩ rfl (by simp) (by simp)]
      exact blk0 m c ⟨0, hn⟩ r k
  | succ n ih =>
    by_cases h0 : (n + 1) % 11 = 0
    · refine ⟨fun j => ?_, fun k => ?_⟩
      · rw [first m c ⟨n + 1, hn⟩ h0 (by simp only; omega) (by simp only; omega) r j, blk0, tile_eq m c ⟨n + 1, hn⟩ _ r j (blk0 m c ⟨n + 1, hn⟩ r)]
        simp [upTo, h0]
      · rw [first_kept m c ⟨n + 1, hn⟩ h0 (by simp only; omega) (by simp only; omega)]
        exact blk0 m c ⟨n + 1, hn⟩ r k
    · have hr : rowOf ⟨n + 1, hn⟩ r = rowOf ⟨n, Nat.lt_of_succ_lt hn⟩ r := by
        apply Fin.ext
        simp only [rowOf]
        omega
      obtain ⟨i1, i2⟩ := ih (Nat.lt_of_succ_lt hn) (by omega)
      refine ⟨fun j => ?_, fun k => ?_⟩
      · rw [mid m c ⟨n + 1, hn⟩ h0 (by simp only; omega) hl r j, tile_eq m c ⟨n + 1, hn⟩ _ r j (by rw [hr]; exact i2)]
        refine (congrArg (· + _) (i1 j)).trans ?_
        rw [hr, add_assoc, upTo, upTo, show (n + 1) % 11 = n % 11 + 1 by omega, ← Finset.sum_range_succ]
      · rw [mid_kept m c ⟨n + 1, hn⟩ h0 (by simp only; omega) hl, hr]
        exact i2 k

/-- All the hidden units' terms of a row. -/
theorem upTo_all (c : Dev nD) (r : Fin 8192) (j : Fin 2048) : upTo m c r j 11 = ∑ f : Fin 5632,
    unit (fun k => X m c (ix2 r k)) (fun k => Wg m c (ix3 0 k f)) (fun k => Wu m c (ix3 0 k f)) * Wd m c (ix3 0 f j) := by
  rw [upTo, Finset.sum_range]
  refine Eq.trans ?_ (Fin.sum_mul_add_fin (M := EReal) 11 512 (fun f : Fin 5632 => unit (fun k => X m c (ix2 r k)) (fun k => Wg m c (ix3 0 k f)) (fun k => Wu m c (ix3 0 k f)) * Wd m c (ix3 0 f j)) rfl)
  refine Finset.sum_congr rfl fun p _ => Finset.sum_congr rfl fun f _ => ?_
  rw [term, dif_pos (by have := p.isLt; have := f.isLt; omega)]

/-- What the last point of a row block's run leaves: the rows of the feed-forward block. -/
theorem last_point (c : Dev nD) (t : Fin cfg0.N) (ht : t.val % 11 = 10) (r : Fin 1024) (j : Fin 2048) :
    (outsAt0 m c t.val t.isLt).1 (ix2 r j) = normRow (fun k => alpha * X m c (ix2 (rowOf t r) k) + ∑ f : Fin 5632,
        unit (fun k => X m c (ix2 (rowOf t r) k)) (fun k => Wg m c (ix3 0 k f)) (fun k => Wu m c (ix3 0 k f)) * Wd m c (ix3 0 f k))
      (fun k => (m ((c : Thread nD τ).loc main_arg4) : FVec Ideal S1x2048 .f32) (ix2 0 k)) (fun k => (m ((c : Thread nD τ).loc main_arg5) : FVec Ideal S1x2048 .f32) (ix2 0 k)) j := by
  have hb : t.val - 1 < cfg0.N := Nat.lt_of_le_of_lt (Nat.sub_le _ _) t.isLt
  have hr : rowOf ⟨t.val - 1, hb⟩ r = rowOf t r := by
    apply Fin.ext
    simp only [rowOf]
    omega
  obtain ⟨i1, i2⟩ := upto_point m c (t.val - 1) hb (by omega) r
  rw [hr] at i1 i2
  rw [last m c t (by omega) (by omega) ht r j]
  rw [show (fun k => (show FVec Ideal S1x2048 .f32 from iblk m c 4 t) (ix2 0 k)) = _ from funext (blk4 m c t),
    show (fun k => (show FVec Ideal S1x2048 .f32 from iblk m c 5 t) (ix2 0 k)) = _ from funext (blk5 m c t)]
  refine congrArg (fun v => normRow v _ _ j) (funext fun k => ?_)
  rw [tile_eq m c t _ r k i2, i1 k, add_assoc, ← upTo_all, upTo, upTo, show (t.val - 1) % 11 + 1 = 10 by omega, ht, ← Finset.sum_range_succ]

/-- The array the kernel leaves, at each row and column. -/
def result (c : Dev nD) : FVec Ideal S8192x2048 .f32 := fun y =>
  normRow (fun k => alpha * X m c (ix2 (y 0) k) + ∑ f : Fin 5632,
        unit (fun k => X m c (ix2 (y 0) k)) (fun k => Wg m c (ix3 0 k f)) (fun k => Wu m c (ix3 0 k f)) * Wd m c (ix3 0 f k))
      (fun k => (m ((c : Thread nD τ).loc main_arg4) : FVec Ideal S1x2048 .f32) (ix2 0 k)) (fun k => (m ((c : Thread nD τ).loc main_arg5) : FVec Ideal S1x2048 .f32) (ix2 0 k)) (y 1)

theorem flush6 : ∀ t : Fin cfg0.N, (cfg0.win 6).flush t = true → t.val % 11 = 10 := (by decide +kernel : ∀ t : Fin grid0.N, _)
theorem idx6 : ∀ t : Fin cfg0.N, win0_6.index t = ![t.val / 11, 0] := (by decide +kernel : ∀ t : Fin grid0.N, _)

/-- The kernel's array is `result`. -/
theorem arr_eq (c : Dev nD) : (dats m 0 c).arrAt 6 cfg0.N = result m c := by
  refine (dats m 0 c).arrAt_eq_of_covers 6 _ (by decide +kernel) fun t hf y => ?_
  blk_simp
  rw [after0_6]
  obtain ⟨r, j, rfl⟩ : ∃ (r : Fin 1024) (j : Fin 2048), y = ix2 r j := ⟨y 0, y 1, by funext a; fin_cases a <;> rfl⟩
  rw [last_point m c t (flush6 t hf) r j]
  have e : (win0_6.blk t).view.emb (ix2 r j) = ix2 (rowOf t r) j := by
    blk_ext [idx6 t, rowOf]
  rw [e]
  rfl

/-- The kernel and the feed-forward block of the reference end with equal results. -/
theorem algebraic : Cert.algebraic_FfnBIdeal_FfnRefIdeal := by
  intro m g m' g' _ hagree
  refine ⟨fun c => result m c, ?_, ?_⟩
  · exact (θ_run Cert.FfnBIdeal.defs _ _).mono (fun r h c => ⟨(Value.post6 m r h c).trans (arr_eq m c), Value.kept_main_arg0 m r h c, Value.kept_main_arg1 m r h c,
      Value.kept_main_arg2 m r h c, Value.kept_main_arg3 m r h c, Value.kept_main_arg4 m r h c, Value.kept_main_arg5 m r h c⟩) (run_main m g)
  · refine (θ_run Cert.FfnRefIdeal.defs _ _).mono (fun r h c => ⟨(h c).1.trans ?_, (h c).2⟩) (Cert.FfnRefIdeal.Value.run m' g')
    obtain ⟨h0, h1, h2, h3, h4, h5⟩ := hagree c
    exact Cert.FfnRefIdeal.Rows.result_at m' c _ _ _ _ _ _ h0 h1 h2 h3 h4 h5

end Cert.FfnBIdeal.Whole
-- ==== Proof.OutLnRef.lean ====
/- The output projection's reference, read at one row and one column. -/
module

public import proofs.«01_k».proof.Proof.Gen.OutLnRefIdeal.Run
public import proofs.«01_k».proof.Proof.FfnMath

@[expose] public section

set_option maxRecDepth 16384

noncomputable section

open Idealize.ShloMosaic Idealize.ShloMosaic.TcCoe Idealize.SL.Sem

namespace Cert.OutLnRefIdeal.Rows

open Cert.OutLnRefIdeal Cert.OutLnRefIdeal.Gen Cert.FfnMath

/-- One entry of the output projection: the attention's 1024 columns, then the recurrence's. -/
def mix (a r : Fin 1024 → EReal) (w : Fin 2048 → EReal) : EReal :=
  (∑ k : Fin 1024, a k * w ⟨k.val, by omega⟩) + ∑ k : Fin 1024, r k * w ⟨1024 + k.val, by omega⟩

/-- The residual plus the output projection, before the normalisation. -/
def before (x : FVec Ideal S8192x2048 .f32) (a r : FVec Ideal S8192x1024 .f32) (w : FVec Ideal S1x2048x2048 .f32) : FVec Ideal S8192x2048 .f32 :=
  addf (mulf (broadcastInDim S8192x2048 ![] bcast_S_S8192x2048 (constant S_ .f32 0x3F9837F0#32)) x) (Host.dotGeneral dot_S8192x2048_S2048x2048_S8192x2048_1_0_0_1_n_n none (concatenate S8192x2048 1 [⟨S8192x1024, a⟩, ⟨S8192x1024, r⟩] concatenates_S8192x1024_S8192x1024_S8192x2048_d1) (shapeCast _ w shapeCasts_S1x2048x2048_S2048x2048))

/-- The rows' means, as a column. -/
def means (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))

/-- The layer normalisation of all rows. -/
def normed (z : FVec Ideal S8192x2048 .f32) (g b : FVec Ideal S1x2048 .f32) : FVec Ideal S8192x2048 .f32 :=
  addf (mulf (mulf (subf z (broadcastInDim S8192x2048 ![0, 1] bcast_S8192x1_S8192x2048_0_1 (means z))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (means z))) (subf z (broadcastInDim S8192x2048 ![0, 1] bcast_S8192x1_S8192x2048_0_1 (means z)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (broadcastInDim S8192x2048 ![0, 1] bcast_S1x2048_S8192x2048_0_1 (broadcastInDim S1x2048 ![1] bcast_S2048_S1x2048_1 (shapeCast _ b shapeCasts_S1x2048_S2048)))

/-- The run's result is the normalisation of the residual plus the output projection. -/
theorem result_eq (m : (ℓ : Loc nD τ sig) → Buf (Elt Ideal) ℓ) (c : Dev nD) :
    Value.res_out0 m c = normed (before (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

/-- One entry before the normalisation. -/
theorem before_at (x : FVec Ideal S8192x2048 .f32) (a r : FVec Ideal S8192x1024 .f32) (w : FVec Ideal S1x2048x2048 .f32) (i : Fin 8192) (j : Fin 2048) :
    before x a r w (ix2 i j) = alpha * x (ix2 i j) + mix (fun k => a (ix2 i k)) (fun k => r (ix2 i k)) (fun k => w (ix3 0 k j)) := by
  pointwise [before]
  simp only [mix]

/-- A row's mean. -/
theorem means_at (z : FVec Ideal S8192x2048 .f32) (r : Fin 8192) : means z (ix2 r 0) = mean fun k => z (ix2 r k) := by
  pointwise [means]
  simp only [mean]

/-- One entry of the normalisation depends on its row alone. -/
theorem normed_at (z : FVec Ideal S8192x2048 .f32) (g b : FVec Ideal S1x2048 .f32) (r : Fin 8192) (j : Fin 2048) :
    normed z g b (ix2 r j) = normRow (fun k => z (ix2 r k)) (fun k => g (ix2 0 k)) (fun k => b (ix2 0 k)) j := by
  pointwise [normed]
  simp only [means_at, normRow]

/-- The reference's result at each row and column. -/
theorem result_at (m : (ℓ : Loc nD τ sig) → Buf (Elt Ideal) ℓ) (c : Dev nD) (x : FVec Ideal S8192x2048 .f32) (a r : FVec Ideal S8192x1024 .f32) (w : FVec Ideal S1x2048x2048 .f32) (g b : FVec Ideal S1x2048 .f32)
    (h0 : m ((c.tc : Thread nD τ).loc main_arg0) = x) (h1 : m ((c.tc : Thread nD τ).loc main_arg1) = a) (h2 : m ((c.tc : Thread nD τ).loc main_arg2) = r)
    (h3 : m ((c.tc : Thread nD τ).loc main_arg3) = w) (h4 : m ((c.tc : Thread nD τ).loc main_arg4) = g) (h5 : m ((c.tc : Thread nD τ).loc main_arg5) = b) :
    Value.res_out0 m c = fun y : S8192x2048.Idx => normRow (fun j => alpha * x (ix2 (y 0) j)
      + mix (fun k => a (ix2 (y 0) k)) (fun k => r (ix2 (y 0) k)) (fun k => w (ix3 0 k j)))
      (fun k => g (ix2 0 k)) (fun k => b (ix2 0 k)) (y 1) := by
  rw [result_eq, h0, h1, h2, h3, h4, h5]
  funext y
  obtain ⟨i, j, rfl⟩ : ∃ (i : Fin 8192) (j : Fin 2048), y = ix2 i j := ⟨y 0, y 1, by funext a; fin_cases a <;> rfl⟩
  rw [normed_at]
  exact congrArg (fun v => normRow v _ _ j) (funext fun k => before_at x a r w i k)

end Cert.OutLnRefIdeal.Rows
-- ==== Proof.OutLn.lean ====
/- What one grid point of the output projection leaves in its output block, and the whole array. -/
module

public import proofs.«01_k».proof.Defs
public import proofs.«01_k».proof.Proof.Gen.OutLnIdeal.Value
public import proofs.«01_k».proof.Proof.OutLnRef

@[expose] public section

set_option maxRecDepth 16384

noncomputable section

open Idealize.ShloMosaic Idealize.ShloMosaic.TcCoe Idealize.SL.Sem

namespace Cert.OutLnIdeal.Rows

open Cert.OutLnIdeal Cert.OutLnIdeal.Gen Cert.FfnMath

/-- One entry of the output projection: the attention's 1024 columns, then the recurrence's. -/
def mix2 (a r wa wr : Fin 1024 → EReal) : EReal := (∑ k, a k * wa k) + ∑ k, r k * wr k

/-- A point's output block, entry by entry: the normalised rows of the residual plus the projection. -/
theorem out_at (x0 : Vec Ideal S512x2048 .f32) (x1 x2 : Vec Ideal S512x1024 .bf16) (x3 x4 : Vec Ideal S1024x2048 .bf16) (x5 x6 : Vec Ideal S1x2048 .f32) (r : Fin 512) (j : Fin 2048) :
    (out0_7 x0 x1 x2 x3 x4 x5 x6 : FVec Ideal S512x2048 .f32) (ix2 r j) = normRow (fun j => alpha * x0 (ix2 r j) + mix2 (fun k => x1 (ix2 r k)) (fun k => x2 (ix2 r k)) (fun k => x3 (ix2 k j)) (fun k => x4 (ix2 k j)))
      (fun k => x5 (ix2 0 k)) (fun k => x6 (ix2 0 k)) j := by
  unfold_out out0_7
  canon_tiles z h
  all_goals
    pointwise [k0_pay1, k0_pay2, k0_pay3, k0_pay4, k0_pay5, k0_pay6, k0_pay7, k0_pay8, k0_pay9, k0_pay10, k0_pay11]
    simp only [normRow, mean, mix2]
    change (r : ℕ) = _ at h0
    change (j : ℕ) = _ at h1
    blk_point

variable (m : (ℓ : Loc nD τ sig) → Buf (Elt Ideal) ℓ)

/-- The residual's rows. -/
abbrev X (c : Dev nD) : FVec Ideal S8192x2048 .f32 := m ((c : Thread nD τ).loc main_arg0)
/-- The attention's rows. -/
abbrev Oa (c : Dev nD) : FVec Ideal S8192x1024 .f32 := m ((c : Thread nD τ).loc main_arg1)
/-- The recurrence's rows. -/
abbrev Or (c : Dev nD) : FVec Ideal S8192x1024 .f32 := m ((c : Thread nD τ).loc main_arg2)
/-- The output weights. -/
abbrev W (c : Dev nD) : FVec Ideal S1x2048x2048 .f32 := m ((c : Thread nD τ).loc main_arg3)

/-- The row of the whole array that row `r` of point `t`'s row block is. -/
def rowOf (t : Fin cfg0.N) (r : Fin 512) : Fin 8192 := ⟨t.val * 512 + r.val, by
  have h : t.val < 16 := t.isLt
  have := r.isLt
  omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)

/-- A point's residual block. -/
theorem blk0 (c : Dev nD) (t : Fin cfg0.N) (r : Fin 512) (k : Fin 2048) :
    (show FVec Ideal S512x2048 .f32 from iblk m c 0 t) (ix2 r k) = X m c (ix2 (rowOf t r) k) := by
  blk_ext [iblk, V, idx0 t, rowOf]

/-- A point's attention rows. -/
theorem blk1 (c : Dev nD) (t : Fin cfg0.N) (r : Fin 512) (k : Fin 1024) :
    (show FVec Ideal S512x1024 .bf16 from iblk m c 1 t) (ix2 r k) = Oa m c (ix2 (rowOf t r) k) := by
  blk_simp [iblk]
  entry_read
  pointwise
  blk_ext [idx1 t, rowOf]

/-- A point's recurrence rows. -/
theorem blk2 (c : Dev nD) (t : Fin cfg0.N) (r : Fin 512) (k : Fin 1024) :
    (show FVec Ideal S512x1024 .bf16 from iblk m c 2 t) (ix2 r k) = Or m c (ix2 (rowOf t r) k) := by
  blk_simp [iblk]
  entry_read
  pointwise
  blk_ext [idx2 t, rowOf]

/-- The weights of the attention's columns. -/
theorem blk3 (c : Dev nD) (t : Fin cfg0.N) (k : Fin 1024) (j : Fin 2048) :
    (show FVec Ideal S1024x2048 .bf16 from iblk m c 3 t) (ix2 k j) = W m c (ix3 0 ⟨k.val, by omega⟩ j) := by
  blk_simp [iblk]
  entry_read
  pointwise
  blk_ext [idx3 t]

/-- The weights of the recurrence's columns. -/
theorem blk4 (c : Dev nD) (t : Fin cfg0.N) (k : Fin 1024) (j : Fin 2048) :
    (show FVec Ideal S1024x2048 .bf16 from iblk m c 4 t) (ix2 k j) = W m c (ix3 0 ⟨1024 + k.val, by omega⟩ j) := by
  blk_simp [iblk]
  entry_read
  pointwise
  blk_ext [idx4 t]

/-- The norm weight. -/
theorem blk5 (c : Dev nD) (t : Fin cfg0.N) (k : Fin 2048) :
    (show FVec Ideal S1x2048 .f32 from iblk m c 5 t) (ix2 0 k) = (m ((c : Thread nD τ).loc main_arg4) : FVec Ideal S1x2048 .f32) (ix2 0 k) := by
  blk_simp [iblk]
  entry_read
  pointwise
  blk_ext [idx5 t]

/-- The norm bias. -/
theorem blk6 (c : Dev nD) (t : Fin cfg0.N) (k : Fin 2048) :
    (show FVec Ideal S1x2048 .f32 from iblk m c 6 t) (ix2 0 k) = (m ((c : Thread nD τ).loc main_arg5) : FVec Ideal S1x2048 .f32) (ix2 0 k) := by
  blk_simp [iblk]
  entry_read
  pointwise
  blk_ext [idx6 t]

/-- The array the kernel leaves, at each row and column. -/
def result (c : Dev nD) : FVec Ideal S8192x2048 .f32 := fun y =>
  normRow (fun j => alpha * X m c (ix2 (y 0) j)
      + Cert.OutLnRefIdeal.Rows.mix (fun k => Oa m c (ix2 (y 0) k)) (fun k => Or m c (ix2 (y 0) k)) (fun k => W m c (ix3 0 k j)))
      (fun k => (m ((c : Thread nD τ).loc main_arg4) : FVec Ideal S1x2048 .f32) (ix2 0 k)) (fun k => (m ((c : Thread nD τ).loc main_arg5) : FVec Ideal S1x2048 .f32) (ix2 0 k)) (y 1)

/-- The kernel's array is `result`. -/
theorem arr_eq (c : Dev nD) : (dats m 0 c).arrAt 7 cfg0.N = result m c := by
  refine (dats m 0 c).arrAt_eq_of_covers 7 _ (by decide +kernel) fun t hf y => ?_
  blk_simp
  rw [after0_7]
  obtain ⟨r, j, rfl⟩ : ∃ (r : Fin 512) (j : Fin 2048), y = ix2 r j := ⟨y 0, y 1, by funext a; fin_cases a <;> rfl⟩
  refine (out_at (iblk m c 0 t) (iblk m c 1 t) (iblk m c 2 t) (iblk m c 3 t) (iblk m c 4 t) (iblk m c 5 t) (iblk m c 6 t) r j).trans ?_
  have e : (win0_7.blk t).view.emb (ix2 r j) = ix2 (rowOf t r) j := by
    blk_ext [idx7 t, rowOf]
  rw [e]
  show _ = normRow _ _ _ j
  rw [show (fun k => (show FVec Ideal S1x2048 .f32 from iblk m c 5 t) (ix2 0 k)) = _ from funext (blk5 m c t),
    show (fun k => (show FVec Ideal S1x2048 .f32 from iblk m c 6 t) (ix2 0 k)) = _ from funext (blk6 m c t)]
  refine congrArg (fun v => normRow v _ _ j) (funext fun j => congrArg₂ (fun p q => alpha * p + q) (blk0 m c t r j) ?_)
  exact congrArg₂ (· + ·) (Finset.sum_congr rfl fun k _ => congrArg₂ (· * ·) (blk1 m c t r k) (blk3 m c t k j))
    (Finset.sum_congr rfl fun k _ => congrArg₂ (· * ·) (blk2 m c t r k) (blk4 m c t k j))

/-- The kernel and the output projection of the reference end with equal results. -/
theorem algebraic : Cert.algebraic_OutLnIdeal_OutLnRefIdeal := by
  intro m g m' g' _ hagree
  refine ⟨fun c => result m c, ?_, ?_⟩
  · exact (θ_run Cert.OutLnIdeal.defs _ _).mono (fun r h c => ⟨(Value.post7 m r h c).trans (arr_eq m c), Value.kept_main_arg0 m r h c, Value.kept_main_arg1 m r h c,
      Value.kept_main_arg2 m r h c, Value.kept_main_arg3 m r h c, Value.kept_main_arg4 m r h c, Value.kept_main_arg5 m r h c⟩) (run_main m g)
  · refine (θ_run Cert.OutLnRefIdeal.defs _ _).mono (fun r h c => ⟨(h c).1.trans ?_, (h c).2⟩) (Cert.OutLnRefIdeal.Value.run m' g')
    obtain ⟨h0, h1, h2, h3, h4, h5⟩ := hagree c
    exact Cert.OutLnRefIdeal.Rows.result_at m' c _ _ _ _ _ _ h0 h1 h2 h3 h4 h5

end Cert.OutLnIdeal.Rows
-- ==== Proof.ProjARun.lean ====
/- One grid point of the attention columns' projection: what the body does at a point that stages a tile of the weights
   (the first six) and at a point that multiplies a block of tokens by the staged weights (the other sixteen). -/
module

public import proofs.«01_k».proof.Proof.Gen.ProjAIdeal.Skeleton
public import proofs.«01_k».proof.Proof.Gen.ProjAIdeal.Frame
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 16384

noncomputable section

namespace Cert.ProjAIdeal.Stage

open Cert.ProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- A staging point: the weights' tile `x1` goes into the scratch buffer, held at `xs`, as the pieces found here; the token
    block and the output's buffer stay as they were. -/
def runFill (c : Dev nD) (i : grid0.Coords) (arg1 : Memref sig .tc .vmem S512x2048 .f32) (harg1 : arg1.IsWhole)
    (arg2 : Memref sig .tc .vmem S512x2048 .f32) (harg2 : arg2.IsWhole) (arg3 : Memref sig .tc .vmem S512x3072 .bf16) (harg3 : arg3.IsWhole)
    (arg4 : Memref sig .tc .vmem S3072x2048 .bf16) (harg4 : arg4.IsWhole) (hc0 : k0_cond1 i = 1#1) (hc1 : ¬k0_cond2 i = 1#1)
    (x0 x1 : Vec F S512x2048 .f32) (d : Vec F S512x3072 .bf16) (xs : Vec F S3072x2048 .bf16) :
    { L : List (View.Piece (Elt F) S3072x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare d
            ∗ owns (c : Thread nD τ) arg4 fullShare xs
            ∗ (iprop(owns (c : Thread nD τ) arg1 fullShare x0 ∗ owns (c : Thread nD τ) arg2 fullShare x1 ∗ owns (c : Thread nD τ) arg3 fullShare d
                ∗ arg4.view.loc (c : Thread nD τ) ↦[arg4.view.set]{fullShare} arg4.view.writes (Elt F) (harg4.unread xs) L) -∗ K ⟨⟩))
          ⊢ wp frame (wpE (defs₀ (F := F)) Variants.none c none) E
              (cc0__proj_attn_kernel i arg1 harg1 arg2 harg2 arg3 harg3 arg4 harg4) K } := by
  refine ⟨?_, fun E K => ?run⟩
  case run =>
    simp only [cc0__proj_attn_kernel_eq_skeleton]; unfold cc0__proj_attn_kernel_skel
    unfold owns
    iintro ⟨⟨%f1, %hf1, H1⟩, ⟨%f2, %hf2, H2⟩, ⟨%f3, %hf3, H3⟩, ⟨%f4, %hf4, H4⟩, Hk⟩
    obtain rfl := harg1.eq_unread hf1; obtain rfl := harg2.eq_unread hf2
    obtain rfl := harg3.eq_unread hf3; obtain rfl := harg4.eq_unread hf4
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexact H4

set_option maxHeartbeats 1000000 in
/-- A multiplying point: the products of the token block `x0` with the staged weights `xs` go into the output's buffer as the
    pieces found here; the rest stays. -/
def runMul (c : Dev nD) (i : grid0.Coords) (arg1 : Memref sig .tc .vmem S512x2048 .f32) (harg1 : arg1.IsWhole)
    (arg2 : Memref sig .tc .vmem S512x2048 .f32) (harg2 : arg2.IsWhole) (arg3 : Memref sig .tc .vmem S512x3072 .bf16) (harg3 : arg3.IsWhole)
    (arg4 : Memref sig .tc .vmem S3072x2048 .bf16) (harg4 : arg4.IsWhole) (hc0 : ¬k0_cond1 i = 1#1) (hc1 : k0_cond2 i = 1#1)
    (x0 x1 : Vec F S512x2048 .f32) (xs : Vec F S3072x2048 .bf16) :
    { L : List (View.Piece (Elt F) S512x3072 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ owns (c : Thread nD τ) arg4 fullShare xs) -∗ K ⟨⟩))
          ⊢ wp frame (wpE (defs₀ (F := F)) Variants.none c none) E
              (cc0__proj_attn_kernel i arg1 harg1 arg2 harg2 arg3 harg3 arg4 harg4) K } := by
  refine ⟨?_, fun E K => ?run⟩
  case run =>
    simp only [cc0__proj_attn_kernel_eq_skeleton]; unfold cc0__proj_attn_kernel_skel
    simp only [k0_part1_eq_skeleton]
    unfold owns
    iintro ⟨⟨%f1, %hf1, H1⟩, ⟨%f2, %hf2, H2⟩, ⟨%d3, %f3, -, H3⟩, ⟨%f4, %hf4, H4⟩, Hk⟩
    obtain rfl := harg1.eq_unread hf1; obtain rfl := harg2.eq_unread hf2; obtain rfl := harg4.eq_unread hf4
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    iexists _; isplitr; · ipureintro; exact harg4.read_unread _
    iexact H4

/-- The 512 rows of the staged weights from row `o` on. -/
def rows (xs : Vec F S3072x2048 .bf16) (o : ℕ) (h : o + 512 ≤ 3072) : Vec F S512x2048 .bf16 :=
  fun y => xs (ix2 ⟨o + (y 0).val, by have : (y 0).val < 512 := (y 0).isLt; omega⟩ (y 1))

omit [FloatOps F] [Named F] in
/-- A load of 512 rows of the scratch buffer. -/
theorem load_rows {arg4 : Memref sig .tc .vmem S3072x2048 .bf16} (harg4 : arg4.IsWhole) (xs : Vec F S3072x2048 .bf16) (o : ℕ)
    (h : o + 512 ≤ 3072) (inb : ∀ a, (![o, 0] : Fin 2 → ℕ) a + S512x2048.size a ≤ S3072x2048.size a) :
    View.readAt (Elt F) arg4.view (Rect.unit (s := S3072x2048) ![o, 0] S512x2048.size inb).toLoadRect (harg4.unread xs) = rows xs o h := by
  funext y
  rw [harg4.readAt_unread]
  refine congrArg xs (funext fun a => Fin.ext ?_)
  fin_cases a
  · show o + 1 * (y 0).val = o + (y 0).val; omega
  · show 0 + 1 * (y 1).val = (y 1).val; omega

omit [FloatOps F] [Named F] in
/-- A load of a whole block of 512 rows. -/
theorem load_block {arg : Memref sig .tc .vmem S512x2048 .f32} (harg : arg.IsWhole) (x : Vec F S512x2048 .f32)
    (inb : ∀ a, (![0, 0] : Fin 2 → ℕ) a + S512x2048.size a ≤ S512x2048.size a) :
    View.readAt (Elt F) arg.view (Rect.unit (s := S512x2048) ![0, 0] S512x2048.size inb).toLoadRect (harg.unread x) = x := by
  funext y
  rw [harg.readAt_unread]
  refine congrArg x (funext fun a => Fin.ext ?_)
  fin_cases a
  · show 0 + 1 * (y 0).val = (y 0).val; omega
  · show 0 + 1 * (y 1).val = (y 1).val; omega

/-- What a multiplying point stores, last first: six tiles of 512 columns. -/
def tiles (x : Vec F S512x2048 .f32) (xs : Vec F S3072x2048 .bf16) : List (View.Piece (Elt F) S512x3072 .bf16) :=
  [⟨Rect.unit ![0, 2560] S512x512.size inb_S512x3072_S512x512_0_2560, k0_pay2 (k0_pay3 x) (rows xs 2560 (by omega))⟩,
   ⟨Rect.unit ![0, 2048] S512x512.size inb_S512x3072_S512x512_0_2048, k0_pay8 x (rows xs 2048 (by omega))⟩,
   ⟨Rect.unit ![0, 1536] S512x512.size inb_S512x3072_S512x512_0_1536, k0_pay7 x (rows xs 1536 (by omega))⟩,
   ⟨Rect.unit ![0, 1024] S512x512.size inb_S512x3072_S512x512_0_1024, k0_pay6 x (rows xs 1024 (by omega))⟩,
   ⟨Rect.unit ![0, 512] S512x512.size inb_S512x3072_S512x512_0_512, k0_pay5 x (rows xs 512 (by omega))⟩,
   ⟨Rect.unit ![0, 0] S512x512.size inb_S512x3072_S512x512_0_0, k0_pay4 x (rows xs 0 (by omega))⟩]

section
variable (c : Dev nD) (i : grid0.Coords) (arg1 : Memref sig .tc .vmem S512x2048 .f32) (harg1 : arg1.IsWhole)
    (arg2 : Memref sig .tc .vmem S512x2048 .f32) (harg2 : arg2.IsWhole) (arg3 : Memref sig .tc .vmem S512x3072 .bf16) (harg3 : arg3.IsWhole)
    (arg4 : Memref sig .tc .vmem S3072x2048 .bf16) (harg4 : arg4.IsWhole) (x0 x1 : Vec F S512x2048 .f32) (xs : Vec F S3072x2048 .bf16)

/-- The staging point's one piece. -/
theorem fill_pieces (hc0 : k0_cond1 i = 1#1) (hc1 : ¬k0_cond2 i = 1#1) (d : Vec F S512x3072 .bf16) :
    (runFill c i arg1 harg1 arg2 harg2 arg3 harg3 arg4 harg4 hc0 hc1 x0 x1 d xs).1
      = [⟨Rect.unit (k0_off1 i) S512x2048.size (k0_off1_inb i hc0), k0_pay1 i x1⟩] := by
  unfold runFill; dsimp only
  rw [load_block harg2 x1]

/-- The multiplying point's pieces. -/
theorem mul_pieces (hc0 : ¬k0_cond1 i = 1#1) (hc1 : k0_cond2 i = 1#1) :
    (runMul c i arg1 harg1 arg2 harg2 arg3 harg3 arg4 harg4 hc0 hc1 x0 x1 xs).1 = tiles x0 xs := by
  unfold runMul; dsimp only
  unfold runMul.sl.r
  rw [load_block harg1 x0, load_rows harg4 xs 2560 (by omega), load_rows harg4 xs 2048 (by omega), load_rows harg4 xs 1536 (by omega),
    load_rows harg4 xs 1024 (by omega), load_rows harg4 xs 512 (by omega), load_rows harg4 xs 0 (by omega)]
  rfl

end

/-- The six tiles fill the block. -/
theorem tiles_cover (x : Vec F S512x2048 .f32) (xs : Vec F S3072x2048 .bf16) (y : S512x3072.Idx) : ∃ pc ∈ tiles x xs, y ∈ pc.1.set :=
  View.cover_of_tiledL (tiles x xs) S512x512.size (by sl_kernel_rfl) y

variable (m : (ℓ : Loc nD τ sig) → Buf (Elt F) ℓ)

/-- The point that stages row `n` of the weights. -/
def ptOf (n : Fin 3072) : Fin cfg0.N := ⟨n.val / 512, by have : cfg0.N = 22 := N_0; have := n.isLt; omega⟩

/-- The staged weights, whole: row `n` from the tile of point `n / 512`. -/
def staged (c : Dev nD) : Vec F S3072x2048 .bf16 := fun y =>
  k0_pay1 (grid0.coords (ptOf (y 0))) (X0_1 m c (ptOf (y 0))) (ix2 ⟨(y 0).val % 512, Nat.mod_lt _ (by omega)⟩ (y 1))

/-- The first `512 n` rows are staged. -/
def StagedTo (c : Dev nD) (n : ℕ) (f : Vec F S3072x2048 .bf16) : Prop := ∀ y : S3072x2048.Idx, (y 0).val < 512 * n → f y = staged m c y

theorem off1_eq : ∀ t : Fin cfg0.N, t.val < 6 → k0_off1 (grid0.coords t) = ![512 * t.val, 0] := (by decide +kernel : ∀ t : Fin grid0.N, _)

/-- A staging point stages 512 rows more. -/
theorem staged_step (c : Dev nD) (t : Fin cfg0.N) (ht : t.val < 6) {arg4 : Memref sig .tc .vmem S3072x2048 .bf16} (f : Vec F S3072x2048 .bf16)
    (g : arg4.view.ty.Contents (Elt F)) (hg : arg4.view.read (Elt F) g = f) (hf : StagedTo m c t.val f) (hc0 : k0_cond1 (grid0.coords t) = 1#1) :
    StagedTo m c (t.val + 1) (arg4.view.read (Elt F) (arg4.view.writes (Elt F) g
      [⟨Rect.unit (k0_off1 (grid0.coords t)) S512x2048.size (k0_off1_inb _ hc0), k0_pay1 (grid0.coords t) (X0_1 m c t)⟩])) := by
  intro y hy
  by_cases hlt : (y 0).val < 512 * t.val
  · refine (View.read_writes_cons_rows_of_not_mem arg4.view g _ _ [] y (off1_eq t ht) rfl (.inl hlt)).trans ?_
    rw [View.writes_nil, hg]
    exact hf y hlt
  · have e : ptOf (y 0) = t := Fin.ext (by show (y 0).val / 512 = t.val; omega)
    refine (View.read_writes_cons_rows_of_mem arg4.view g _ _ [] y (ix2 ⟨(y 0).val % 512, Nat.mod_lt _ (by omega)⟩ (y 1)) (off1_eq t ht) ?_ rfl).trans ?_
    · show (y 0).val = 512 * t.val + (y 0).val % 512
      omega
    · unfold staged; rw [e]; rfl

end Cert.ProjAIdeal.Stage

end
-- ==== Proof.ProjAFrame.lean ====
/- The attention columns' projection runs, leaves its arguments unchanged and every semaphore at zero; what its output array holds. -/
module

public import proofs.«01_k».proof.Proof.ProjARun
public import Idealize.ShloMosaic.Lib.Claim

@[expose] public section

set_option maxRecDepth 16384

noncomputable section

namespace Cert.ProjAIdeal.Stage

open Cert.ProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The schedule -/

theorem fills : ∀ t : Fin cfg0.N, t.val < 6 → k0_cond1 (grid0.coords t) = 1#1 ∧ ¬k0_cond2 (grid0.coords t) = 1#1
    ∧ cfg0.idle 2 (grid0.coords t) = true ∧ (cfg0.win 2).flush t = false := (by decide +kernel : ∀ t : Fin grid0.N, _)

theorem muls : ∀ t : Fin cfg0.N, ¬t.val < 6 → ¬k0_cond1 (grid0.coords t) = 1#1 ∧ k0_cond2 (grid0.coords t) = 1#1
    ∧ cfg0.idle 2 (grid0.coords t) = false := (by decide +kernel : ∀ t : Fin grid0.N, _)

/-- The scratch buffer of the staged weights. -/
abbrev scr : Memref sig .tc .vmem S3072x2048 .bf16 := Memref.whole cc0_scratch0

/-- What the launch hands over: the scratch buffer at anything, and the generator register. -/
theorem launch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## The proof data -/

/-- Before point `n` the scratch buffer holds the first `512 n` staged rows. -/
def inv (c : Dev nD) (n : ℕ) : sProp 𝕄 :=
  iprop((∃ f, iprop(⌜StagedTo m c n f⌝ ∗ owns (c : Thread nD τ) scr fullShare f)) ∗ (∃ r, prngReg c r))

/-- What a point leaves in the output's buffer. -/
def outBlk (c : Dev nD) (t : Fin cfg0.N) : Vec F S512x3072 .bf16 := View.canon (tiles (iblk m c 0 t) (staged m c))

/-- The proof data: inputs' buffers at their blocks, the output's at `outBlk`, the scratch buffer by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => outBlk m c t
  Φ t := inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = outBlk m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d

/-! ## The body at a point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 3200000 in
theorem body (c : Dev nD) (t : Fin cfg0.N) :
    pre m c t ⊢ wp frame (wpE (defs₀ (F := F)) Variants.none c none) Set.univ (bodyAt0 t) (fun _ => post m c t) := by
  unfold pre post bodyAt0
  simp only [before0, before1]
  rw [show (dats m 0 c).owesAt () t.succ = (dats m 0 c).owesAt () t.castSucc from rfl,
    show (dats m 0 c).Φ t.succ = inv m c (t.val + 1) from rfl, show (dats m 0 c).Φ t.castSucc = inv m c t.val from rfl,
    show (dats m 0 c).leavesExact 0 t = owns (c : Thread nD τ) (st0_0 t) fullShare (iblk m c 0 t) from by
      rw [← after0],
    show (dats m 0 c).leavesExact 1 t = owns (c : Thread nD τ) (st0_1 t) fullShare (X0_1 m c t) from by
      rw [← after1]]
  unfold inv
  by_cases ht : t.val < 6
  · obtain ⟨hc0, hc1, hi, hf⟩ := fills t ht
    rw [Dat.leavesExact_idle _ 2 t hi hf]
    iintro ⟨⟨⟨%f, %hs, HS⟩, Hg⟩, Ho, ⟨%d0, H0⟩, ⟨%d1, H1⟩, ⟨%d2, H2⟩⟩
    iapply ((runFill c (grid0.coords t) _ _ _ _ _ _ _ _ hc0 hc1 (iblk m c 0 t) (X0_1 m c t) _ f).2 Set.univ _)
    isplitl [H0]; · iexact H0
    isplitl [H1]; · iexact H1
    isplitl [H2]; · iexact H2
    isplitl [HS]; · iexact HS
    rw [fill_pieces]
    iintro ⟨H0, H1, H2, HS⟩
    isplitl [HS Hg]
    · isplitl [HS]
      · iexists _; isplitr
        swap
        · unfold owns; iexists _; isplitr
          swap; · iexact HS
          ipureintro; rfl
        ipureintro
        exact staged_step m c t ht f _ (Memref.IsWhole.read_unread _ _) hs hc0
      iexact Hg
    isplitl [Ho]; · iexact Ho
    isplitl [H0]; · iexact H0
    isplitl [H1]; · iexact H1
    iexists _; iexact H2
  · obtain ⟨hc0, hc1, hi⟩ := muls t ht
    rw [show (dats m 0 c).leavesExact 2 t = owns (c : Thread nD τ) (st0_2 t) fullShare (outBlk m c t) from by
      unfold Dat.leavesExact; rw [hi, after2]]
    iintro ⟨⟨⟨%f, %hs, HS⟩, Hg⟩, Ho, ⟨%d0, H0⟩, ⟨%d1, H1⟩, ⟨%d2, H2⟩⟩
    have hall : f = staged m c := funext fun y => hs y (by have : (y 0).val < 3072 := (y 0).isLt; omega)
    subst hall
    iapply ((runMul c (grid0.coords t) _ _ _ _ _ _ _ _ hc0 hc1 (iblk m c 0 t) (X0_1 m c t) (staged m c)).2 Set.univ _)
    isplitl [H0]; · iexact H0
    isplitl [H1]; · iexact H1
    isplitl [H2]; · iexists _; iexact H2
    isplitl [HS]; · iexact HS
    rw [mul_pieces]
    iintro ⟨H0, H1, ⟨%e, H2⟩, HS⟩
    isplitl [HS Hg]
    · isplitl [HS]
      · iexists _; isplitr
        swap; · iexact HS
        ipureintro; exact fun _ _ => rfl
      iexact Hg
    isplitl [Ho]; · iexact Ho
    isplitl [H0]; · iexact H0
    isplitl [H1]; · iexact H1
    unfold owns; iexists _; isplitr
    swap; · iexact H2
    ipureintro
    exact View.read_writes_eq_canon _ _ _ (tiles_cover _ _)

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem hin (c : Dev nD) : Pipeline.ΦA spec0 c ⊢ (dats m 0 c).Φ 0 := by
  rw [show (dats m 0 c).Φ 0 = inv m c 0 from rfl, launch_eq]
  unfold inv
  iintro ⟨⟨%f, HS⟩, Hg⟩
  isplitl [HS]
  · iexists _; isplitr
    swap; · iexact HS
    ipureintro; intro y hy; exact absurd hy (Nat.not_lt_zero _)
  iexact Hg

theorem hout (c : Dev nD) : (dats m 0 c).Φ (Fin.last cfg0.N) ⊢ Pipeline.ΦA spec0 c := by
  rw [show (dats m 0 c).Φ (Fin.last cfg0.N) = inv m c cfg0.N from rfl, launch_eq]
  unfold inv
  iintro ⟨⟨%f, -, HS⟩, Hg⟩
  isplitl [HS]
  · iexists _; iexact HS
  iexact Hg

/-! ## The run -/

set_option backward.isDefEq.respectTransparency.types false in
/-- The whole program: every array as the proof data says, every semaphore at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (runs m ρ)

/-- The program runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (runs m ρ))

end Cert.ProjAIdeal.Stage

end
-- ==== Proof.ProjARef.lean ====
/- The attention columns' reference, read at one row and one column. -/
module

public import proofs.«01_k».proof.Proof.Gen.ProjARefIdeal.Run
public import Idealize.ShloMosaic.Lib.Pipeline.ValueKit

@[expose] public section

set_option maxRecDepth 16384

noncomputable section

open Idealize.ShloMosaic Idealize.ShloMosaic.TcCoe Idealize.SL.Sem

namespace Cert.ProjARefIdeal.Rows

open Cert.ProjARefIdeal Cert.ProjARefIdeal.Gen

/-- The query columns' scale, one eighth over the natural logarithm of two. -/
def scale : EReal := (((1 / 8) * (Real.log 2)⁻¹ : ℝ) : EReal)

/-- One entry of the projection: the product of a row and a column, scaled in the query columns. -/
def entry (x w : Fin 2048 → EReal) (j : ℕ) : EReal := if j < 1024 then (∑ k, x k * w k) * scale else ∑ k, x k * w k

/-- The reference's result as one term of its arguments. -/
def whole (x : FVec Ideal S8192x2048 .f32) (w : FVec Ideal S1x2048x6432 .f32) : FVec Ideal S8192x3072 .bf16 :=
  truncf .bf16 (concatenate S8192x3072 1 [⟨S8192x1024, (Host.divf (mulf (extractStridedSlice S8192x1024 ![0, 0] (Host.dotGeneral dot_S8192x2048_S2048x6432_S8192x6432_1_0_0_1_n_n none x (shapeCast _ w shapeCasts_S1x2048x6432_S2048x6432)) slices_S8192x6432_S8192x1024_0_0) (broadcastInDim S8192x1024 ![] bcast_S_S8192x1024 (constant S_ .f32 0x3E000000#32))) (broadcastInDim S8192x1024 ![] bcast_S_S8192x1024 (id (Host.log (constant S_ .f32 0x40000000#32)))))⟩, ⟨S8192x2048, (extractStridedSlice S8192x2048 ![0, 1024] (Host.dotGeneral dot_S8192x2048_S2048x6432_S8192x6432_1_0_0_1_n_n none x (shapeCast _ w shapeCasts_S1x2048x6432_S2048x6432)) slices_S8192x6432_S8192x2048_0_1024)⟩] concatenates_S8192x1024_S8192x2048_S8192x3072_d1) bitsLt_bf16_f32

/-- Times one eighth over the logarithm of two is the product with the scale. -/
theorem scaled (s : EReal) : Ideal.div (s * Ideal.ofBits FTy.f32 0x3E000000#32) (id (Host.log (constant (F := Ideal) S_ FTy.f32 0x40000000#32)) ix0) = s * scale := by
  have e8 : Ideal.ofBits .f32 0x3E000000#32 = (((1 : ℝ) / 8 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  show Ideal.div _ (Ideal.log (Ideal.ofBits .f32 0x40000000#32)) = _
  rw [e8, e2, Ideal.log_coe, if_neg (by norm_num), Ideal.div_coe (Real.log_pos (by norm_num)).ne', mul_assoc, ← EReal.coe_mul, scale, one_div (Real.log 2)]

/-- The reference's result at each row and column. -/
theorem whole_at (x : FVec Ideal S8192x2048 .f32) (w : FVec Ideal S1x2048x6432 .f32) (i : Fin 8192) (j : Fin 3072) :
    whole x w (ix2 i j) = entry (fun k => x (ix2 i k)) (fun k => w (ix3 0 k ⟨j.val, by omega⟩)) j.val := by
  unfold entry
  split
  · pointwise [whole]
    rename_i h
    rw [dif_pos h]
    exact scaled _
  · pointwise [whole]
    rename_i h
    rw [dif_neg h]
    refine Finset.sum_congr rfl fun k _ => congrArg (fun n => x (ix2 i k) * w (ix3 0 k n)) (Fin.ext ?_)
    show 1024 + (j.val - 1024) = j.val
    omega

end Cert.ProjARefIdeal.Rows
-- ==== Proof.ProjAValue.lean ====
/- The attention columns' projection: its result is the reference's. -/
module

public import proofs.«01_k».proof.Defs
public import proofs.«01_k».proof.Proof.ProjAFrame
public import proofs.«01_k».proof.Proof.ProjARef

@[expose] public section

set_option maxRecDepth 16384

noncomputable section

open Idealize.ShloMosaic Idealize.ShloMosaic.TcCoe Idealize.SL.Sem

namespace Cert.ProjAIdeal.Whole

open Cert.ProjAIdeal Cert.ProjAIdeal.Gen Cert.ProjAIdeal.Stage
open Cert.ProjARefIdeal.Rows (scale entry)

/-- The named constant denotes the scale. -/
theorem named_scale : Named.named (F := Ideal) κ "scale" (φ := .f32) 0x3E38AA3B#32 = scale := rfl

/-- A multiplying point's output block, entry by entry: token rows against staged rows. -/
theorem tiles_at (x : Vec Ideal S512x2048 .f32) (xs : Vec Ideal S3072x2048 .bf16) (r : Fin 512) (j : Fin 3072) :
    (View.canon (tiles x xs) : FVec Ideal S512x3072 .bf16) (ix2 r j) = entry (fun k => x (ix2 r k)) (fun k => xs (ix2 j k)) j.val := by
  unfold tiles
  canon_tiles z h
  all_goals
    pointwise [k0_pay2, k0_pay3, k0_pay4, k0_pay5, k0_pay6, k0_pay7, k0_pay8]
    change (r : ℕ) = _ at h0
    change (j : ℕ) = _ at h1
    simp only [rows, named_scale]
    first
      | rw [entry, if_pos (by omega)]; refine congrArg (· * scale) ?_
      | rw [entry, if_neg (by omega)]
    blk_point

variable (m : (ℓ : Loc nD τ sig) → Buf (Elt Ideal) ℓ)

/-- The token rows. -/
abbrev X (c : Dev nD) : FVec Ideal S8192x2048 .f32 := m ((c : Thread nD τ).loc main_arg0)
/-- The input weights. -/
abbrev W (c : Dev nD) : FVec Ideal S1x2048x6432 .f32 := m ((c : Thread nD τ).loc main_arg1)

/-- The row of the whole array that row `r` of multiplying point `t`'s row block is. -/
def rowOf (t : Fin cfg0.N) (r : Fin 512) : Fin 8192 := ⟨(t.val - 6) * 512 + r.val, by
  have h : t.val < 22 := t.isLt
  have := r.isLt
  omega⟩

theorem idx0 : ∀ t : Fin cfg0.N, win0_0.index t = ![t.val - 6, 0] := (by decide +kernel : ∀ t : Fin grid0.N, _)
theorem idx1 : ∀ t : Fin cfg0.N, t.val < 6 → win0_1.index t = ![t.val, 0] := (by decide +kernel : ∀ t : Fin grid0.N, _)
theorem idx2 : ∀ t : Fin cfg0.N, win0_2.index t = ![t.val - 6, 0] := (by decide +kernel : ∀ t : Fin grid0.N, _)
theorem flush2 : ∀ t : Fin cfg0.N, (cfg0.win 2).flush t = true → 6 ≤ t.val := (by decide +kernel : ∀ t : Fin grid0.N, _)

/-- A point's token block. -/
theorem blk0 (c : Dev nD) (t : Fin cfg0.N) (r : Fin 512) (k : Fin 2048) :
    (show FVec Ideal S512x2048 .f32 from iblk m c 0 t) (ix2 r k) = X m c (ix2 (rowOf t r) k) := by
  blk_ext [iblk, V, idx0 t, rowOf]

/-- A staging point's weight tile: 512 columns of the weights, as rows. -/
theorem blk1 (c : Dev nD) (t : Fin cfg0.N) (ht : t.val < 6) (r : Fin 512) (k : Fin 2048) :
    (show FVec Ideal S512x2048 .f32 from X0_1 m c t) (ix2 r k) = W m c (ix3 0 k ⟨t.val * 512 + r.val, by omega⟩) := by
  unfold X0_1 Pipeline.Window.fill
  dsimp only
  rw [dif_pos (moved0_1 t _)]
  blk_simp [iblk]
  entry_read
  pointwise
  blk_ext [idx1 t ht]

/-- Every row a staging point stages is inside the weights. -/
theorem in_range : ∀ t : Fin cfg0.N, t.val < 6 → ∀ r : Fin 512, IntOp.cmpi CmpIPredicate.slt
    (IntOp.addi (Scalar.muli (Scalar.addi 0#32 (BitVec.ofNat 32 (grid0.coords t 0).val)) 512#32) (BitVec.ofNat 32 r.val)) 6432#32 = 1#1 :=
  (by decide +kernel : ∀ t : Fin grid0.N, _)

/-- The rows a staging point stages: every column is one of the weights'. -/
theorem pay1_at (t : Fin cfg0.N) (ht : t.val < 6) (x : Vec Ideal S512x2048 .f32) (r : Fin 512) (k : Fin 2048) :
    (k0_pay1 (grid0.coords t) x : FVec Ideal S512x2048 .bf16) (ix2 r k) = x (ix2 r k) := by
  pointwise [k0_pay1]
  rw [in_range t ht r]
  rfl

/-- The staged weights: column `n` of the weights, as row `n`. -/
theorem staged_at (c : Dev nD) (n : Fin 3072) (k : Fin 2048) : (staged m c : FVec Ideal S3072x2048 .bf16) (ix2 n k) = W m c (ix3 0 k ⟨n.val, by omega⟩) := by
  have hp : (ptOf n).val < 6 := by
    have := n.isLt
    show n.val / 512 < 6
    omega
  refine (pay1_at (ptOf n) hp _ ⟨n.val % 512, _⟩ k).trans ((blk1 m c (ptOf n) hp _ k).trans ?_)
  refine congrArg (fun z => W m c (ix3 0 k z)) (Fin.ext ?_)
  show n.val / 512 * 512 + n.val % 512 = n.val
  omega

/-- The array the kernel leaves, at each row and column. -/
def result (c : Dev nD) : FVec Ideal S8192x3072 .bf16 := fun y =>
  entry (fun k => X m c (ix2 (y 0) k)) (fun k => W m c (ix3 0 k ⟨(y 1).val, by have : (y 1).val < 3072 := (y 1).isLt; omega⟩)) (y 1).val

/-- The kernel's array is `result`. -/
theorem arr_eq (c : Dev nD) : (dats m 0 c).arrAt 2 cfg0.N = result m c := by
  refine (dats m 0 c).arrAt_eq_of_covers 2 _ (by decide +kernel) fun t hf y => ?_
  blk_simp
  rw [after2]
  obtain ⟨r, j, rfl⟩ : ∃ (r : Fin 512) (j : Fin 3072), y = ix2 r j := ⟨y 0, y 1, by funext a; fin_cases a <;> rfl⟩
  refine (tiles_at (iblk m c 0 t) (staged m c) r j).trans ?_
  have e : (win0_2.blk t).view.emb (ix2 r j) = ix2 (rowOf t r) j := by
    blk_ext [idx2 t, rowOf]
  rw [e]
  show entry _ _ _ = entry _ _ _
  rw [show (fun k => (show FVec Ideal S512x2048 .f32 from iblk m c 0 t) (ix2 r k)) = _ from funext (blk0 m c t r),
    show (fun k => (staged m c : FVec Ideal S3072x2048 .bf16) (ix2 j k)) = _ from funext (staged_at m c j)]
  rfl

theorem preserves : Cert.preserves_ProjA_ProjAIdeal := IdealRules.named_const.statement _ _ _ _ _ rfl

/-- The kernel and the attention columns of the reference's projection end with equal results. -/
theorem algebraic : Cert.algebraic_ProjAIdeal_ProjARefIdeal := by
  intro m g m' g' _ hagree
  refine ⟨fun c => result m c, ?_, ?_⟩
  · refine (θ_run Cert.ProjAIdeal.defs _ _).mono (fun r h c => ⟨((h.1 c).1 2).trans (arr_eq m c), h.2 c⟩)
      (θ_run_and (run m g) (frame_of m g (dats m) (A_eq m) (run m g)))
  · refine (θ_run Cert.ProjARefIdeal.defs _ _).mono (fun r h c => ⟨(h c).1.trans ?_, (h c).2⟩) (Cert.ProjARefIdeal.Value.run m' g')
    obtain ⟨h0, h1⟩ := hagree c
    rw [h0, h1]
    exact funext fun y => by
      obtain ⟨i, j, rfl⟩ : ∃ (i : Fin 8192) (j : Fin 3072), y = ix2 i j := ⟨y 0, y 1, by funext a; fin_cases a <;> rfl⟩
      exact Cert.ProjARefIdeal.Rows.whole_at _ _ i j

end Cert.ProjAIdeal.Whole
-- ==== Proof.ProjRFill.lean ====
/- One grid point of the projection feeding the recurrence: the points that stage a tile of the weights (the first nine), and the
   points that multiply a block of tokens by the staged weights (the other thirty-two). -/
module

public import proofs.«01_k».proof.Proof.Gen.ProjRIdeal.Skeleton
public import proofs.«01_k».proof.Proof.Gen.ProjRIdeal.Frame
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 16384

noncomputable section

namespace Cert.ProjRIdeal.Stage

open Cert.ProjRIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first point's test. -/
abbrev firstCond (i : grid0.Coords) : BitVec 1 :=
  Scalar.cmpi .ne (Scalar.extui (Scalar.cmpi .eq (BitVec.ofNat 32 (i 0).val) 0#32) : BitVec 32) 0#32

set_option maxHeartbeats 2000000 in
/-- The first point: as the other staging points, and the carried row is cleared. -/
def runFirst (c : Dev nD) (i : grid0.Coords) (arg1 : Memref sig .tc .vmem S256x2048 .f32) (harg1 : arg1.IsWhole) (arg2 : Memref sig .tc .vmem S384x2048 .f32) (harg2 : arg2.IsWhole) (arg3 : Memref sig .tc .vmem S1x3456 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x2048 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S3456x2048 .bf16) (harg17 : arg17.IsWhole) (arg18 : Memref sig .tc .vmem S256x3456 .f32) (harg18 : arg18.IsWhole) (arg19 : Memref sig .tc .vmem S8x3456 .f32) (harg19 : arg19.IsWhole) (hc0 : firstCond i = 1#1) (hc1 : k0_cond2 i = 1#1) (hc2 : ¬k0_cond3 i = 1#1)
    (x1 : Vec F S256x2048 .f32) (x2 : Vec F S384x2048 .f32) (x3 : Vec F S1x3456 .f32) (x4 : Vec F S1x1024 .f32) (x5 : Vec F S1x1024 .f32) (x6 : Vec F S1x1024 .f32) (x7 : Vec F S1x1024 .f32) (x8 : Vec F S128x2048 .bf16) (x9 : Vec F S256x1024 .bf16) (x10 : Vec F S256x1024 .f32) (x11 : Vec F S256x1024 .f32) (x12 : Vec F S256x1024 .f32) (x13 : Vec F S256x1024 .f32) (x14 : Vec F S256x1024 .f32) (x15 : Vec F S256x1024 .f32) (x16 : Vec F S256x1024 .f32) (xs : Vec F S3456x2048 .bf16) (x18 : Vec F S256x3456 .f32) (x19 : Vec F S8x3456 .f32) :
    { L : List (View.Piece (Elt F) S3456x2048 .bf16) × List (View.Piece (Elt F) S8x3456 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xs ∗ owns (c : Thread nD τ) arg18 fullShare x18 ∗ owns (c : Thread nD τ) arg19 fullShare x19
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread xs) L.1) ∗ owns (c : Thread nD τ) arg18 fullShare x18 ∗ (arg19.view.loc (c : Thread nD τ) ↦[arg19.view.set]{fullShare} arg19.view.writes (Elt F) (harg19.unread x19) L.2)) -∗ K ⟨⟩))
          ⊢ wp frame (wpE (defs₀ (F := F)) Variants.none c none) E
              (cc0__proj_rwkv_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?_, ?_), fun E K => ?run⟩
  case run =>
    simp only [cc0__proj_rwkv_kernel_eq_skeleton]; unfold cc0__proj_rwkv_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    iexact H19

set_option maxHeartbeats 2000000 in
/-- A staging point: the weights' tile goes into the scratch buffer, everything else stays. -/
def runFill (c : Dev nD) (i : grid0.Coords) (arg1 : Memref sig .tc .vmem S256x2048 .f32) (harg1 : arg1.IsWhole) (arg2 : Memref sig .tc .vmem S384x2048 .f32) (harg2 : arg2.IsWhole) (arg3 : Memref sig .tc .vmem S1x3456 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x2048 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S3456x2048 .bf16) (harg17 : arg17.IsWhole) (arg18 : Memref sig .tc .vmem S256x3456 .f32) (harg18 : arg18.IsWhole) (arg19 : Memref sig .tc .vmem S8x3456 .f32) (harg19 : arg19.IsWhole) (hc0 : ¬firstCond i = 1#1) (hc1 : k0_cond2 i = 1#1) (hc2 : ¬k0_cond3 i = 1#1)
    (x1 : Vec F S256x2048 .f32) (x2 : Vec F S384x2048 .f32) (x3 : Vec F S1x3456 .f32) (x4 : Vec F S1x1024 .f32) (x5 : Vec F S1x1024 .f32) (x6 : Vec F S1x1024 .f32) (x7 : Vec F S1x1024 .f32) (x8 : Vec F S128x2048 .bf16) (x9 : Vec F S256x1024 .bf16) (x10 : Vec F S256x1024 .f32) (x11 : Vec F S256x1024 .f32) (x12 : Vec F S256x1024 .f32) (x13 : Vec F S256x1024 .f32) (x14 : Vec F S256x1024 .f32) (x15 : Vec F S256x1024 .f32) (x16 : Vec F S256x1024 .f32) (xs : Vec F S3456x2048 .bf16) (x18 : Vec F S256x3456 .f32) (x19 : Vec F S8x3456 .f32) :
    { L : List (View.Piece (Elt F) S3456x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xs ∗ owns (c : Thread nD τ) arg18 fullShare x18 ∗ owns (c : Thread nD τ) arg19 fullShare x19
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread xs) L) ∗ owns (c : Thread nD τ) arg18 fullShare x18 ∗ owns (c : Thread nD τ) arg19 fullShare x19) -∗ K ⟨⟩))
          ⊢ wp frame (wpE (defs₀ (F := F)) Variants.none c none) E
              (cc0__proj_rwkv_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__proj_rwkv_kernel_eq_skeleton]; unfold cc0__proj_rwkv_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    iexists _; isplitr; · ipureintro; exact harg19.read_unread _
    iexact H19
end Cert.ProjRIdeal.Stage

end
-- ==== Proof.ProjRMul.lean ====
/- One grid point of the projection feeding the recurrence: the points that stage a tile of the weights (the first nine), and the
   points that multiply a block of tokens by the staged weights (the other thirty-two). -/
module

public import proofs.«01_k».proof.Proof.Gen.ProjRIdeal.Skeleton
public import proofs.«01_k».proof.Proof.Gen.ProjRIdeal.Frame
public import proofs.«01_k».proof.Proof.ProjRFill
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 16384

noncomputable section

namespace Cert.ProjRIdeal.Stage

open Cert.ProjRIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- A multiplying point: the products of the token block with the staged weights, mixed with the rows before them, go into the
    outputs' buffers, and the last row into the carried one, as the pieces found here. -/
def runMul (c : Dev nD) (i : grid0.Coords) (arg1 : Memref sig .tc .vmem S256x2048 .f32) (harg1 : arg1.IsWhole) (arg2 : Memref sig .tc .vmem S384x2048 .f32) (harg2 : arg2.IsWhole) (arg3 : Memref sig .tc .vmem S1x3456 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x2048 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S3456x2048 .bf16) (harg17 : arg17.IsWhole) (arg18 : Memref sig .tc .vmem S256x3456 .f32) (harg18 : arg18.IsWhole) (arg19 : Memref sig .tc .vmem S8x3456 .f32) (harg19 : arg19.IsWhole) (hc0 : ¬firstCond i = 1#1) (hc1 : ¬k0_cond2 i = 1#1) (hc2 : k0_cond3 i = 1#1)
    (x1 : Vec F S256x2048 .f32) (x2 : Vec F S384x2048 .f32) (x3 : Vec F S1x3456 .f32) (x4 : Vec F S1x1024 .f32) (x5 : Vec F S1x1024 .f32) (x6 : Vec F S1x1024 .f32) (x7 : Vec F S1x1024 .f32) (x8 : Vec F S128x2048 .bf16) (x9 : Vec F S256x1024 .bf16) (xs : Vec F S3456x2048 .bf16) (x19 : Vec F S8x3456 .f32) :
    { L : List (View.Piece (Elt F) S256x1024 .f32) × List (View.Piece (Elt F) S256x1024 .f32) × List (View.Piece (Elt F) S256x1024 .f32) × List (View.Piece (Elt F) S256x1024 .f32) × List (View.Piece (Elt F) S256x1024 .f32) × List (View.Piece (Elt F) S256x1024 .f32) × List (View.Piece (Elt F) S256x1024 .f32) × List (View.Piece (Elt F) S8x3456 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs ∗ (∃ d, owns (c : Thread nD τ) arg18 fullShare d) ∗ owns (c : Thread nD τ) arg19 fullShare x19
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, (arg10.view.loc (c : Thread nD τ) ↦[arg10.view.set]{fullShare} arg10.view.writes (Elt F) f L.1)) ∗ (∃ f, (arg11.view.loc (c : Thread nD τ) ↦[arg11.view.set]{fullShare} arg11.view.writes (Elt F) f L.2.1)) ∗ (∃ f, (arg12.view.loc (c : Thread nD τ) ↦[arg12.view.set]{fullShare} arg12.view.writes (Elt F) f L.2.2.1)) ∗ (∃ f, (arg13.view.loc (c : Thread nD τ) ↦[arg13.view.set]{fullShare} arg13.view.writes (Elt F) f L.2.2.2.1)) ∗ (∃ f, (arg14.view.loc (c : Thread nD τ) ↦[arg14.view.set]{fullShare} arg14.view.writes (Elt F) f L.2.2.2.2.1)) ∗ (∃ f, (arg15.view.loc (c : Thread nD τ) ↦[arg15.view.set]{fullShare} arg15.view.writes (Elt F) f L.2.2.2.2.2.1)) ∗ (∃ f, (arg16.view.loc (c : Thread nD τ) ↦[arg16.view.set]{fullShare} arg16.view.writes (Elt F) f L.2.2.2.2.2.2.1)) ∗ owns (c : Thread nD τ) arg17 fullShare xs ∗ (∃ d, owns (c : Thread nD τ) arg18 fullShare d) ∗ (arg19.view.loc (c : Thread nD τ) ↦[arg19.view.set]{fullShare} arg19.view.writes (Elt F) (harg19.unread x19) L.2.2.2.2.2.2.2)) -∗ K ⟨⟩))
          ⊢ wp frame (wpE (defs₀ (F := F)) Variants.none c none) E
              (cc0__proj_rwkv_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?_, ?_, ?_, ?_, ?_, ?_, ?_, ?_), fun E K => ?run⟩
  case run =>
    simp only [cc0__proj_rwkv_kernel_eq_skeleton]; unfold cc0__proj_rwkv_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg17.eq_unread hf17; obtain rfl := harg19.eq_unread hf19
    sl_exec_parts! (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg17.read_unread _
      iexact H17
    isplitl [H18]
    · iexists _; iexists _; isplitr
      swap; · iexact H18
      ipureintro; rfl
    iexact H19
end Cert.ProjRIdeal.Stage

end
-- ==== Proof.ProjRRun.lean ====
/- The projection feeding the recurrence, from one grid point to the whole grid: the products of a token block, what a multiplying
   point leaves in the outputs' buffers, the staged weights, the row carried from one token block to the next. -/
module

public import proofs.«01_k».proof.Proof.Gen.ProjRIdeal.Skeleton
public import proofs.«01_k».proof.Proof.Gen.ProjRIdeal.Frame
public import proofs.«01_k».proof.Proof.ProjRMul
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 16384

noncomputable section

namespace Cert.ProjRIdeal.Stage

open Cert.ProjRIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The part of an array a rectangle reads. -/
def at' {s : Shape} {e : EltTy} (x : Vec F s e) (B : Rect s) : Vec F B.shape e := fun y => x (B.toLoadRect.idx y)

theorem at_val {s : Shape} (off size : Fin s.rank → ℕ) (inb) (y : (Rect.unit (s := s) off size inb).shape.Idx) (a : Fin s.rank) :
    (((Rect.unit (s := s) off size inb).toLoadRect.idx y) a).val = off a + (y a).val := by
  show off a + 1 * (y a).val = _
  omega

/-- Read from the corner and in full size, an array is itself. -/
theorem at_whole {n k : ℕ} {e : EltTy} (x : Vec F ⟨2, ![n, k]⟩ e) (inb) (y) :
    at' x (Rect.unit (s := ⟨2, ![n, k]⟩) ![0, 0] ![n, k] inb) y = x y := by
  refine congrArg x (funext fun a => Fin.ext ?_)
  rw [at_val]
  fin_cases a <;> exact Nat.zero_add _

/-- A load of a whole buffer at a rectangle reads that part. -/
theorem load_at {s : Shape} {e : EltTy} {arg : Memref sig .tc .vmem s e} (harg : arg.IsWhole) (x : Vec F s e) (B : Rect s) :
    View.readAt (Elt F) arg.view B.toLoadRect (harg.unread x) = at' x B := funext fun y => harg.readAt_unread x _ y

/-- A load of a buffer at a rectangle, after a list of pieces was written to it, reads that part of what they leave. -/
theorem cov_at {s : Shape} {e : EltTy} (arg : Memref sig .tc .vmem s e) (L : List (View.Piece (Elt F) s e)) (B : Rect s) :
    arg.view.readCov L B.toLoadRect = at' (View.canon L) B := View.readCov_eq_canon' _ L _

/-- The products of a token block with the staged weights: the first two column tiles, -/
def prA (x1 : Vec F S256x2048 .f32) (xs : Vec F S3456x2048 .bf16) : List (View.Piece (Elt F) S256x3456 .f32) :=
  [⟨(Rect.unit (s := S256x3456) ![0, 1024] S256x1024.size inb_S256x3456_S256x1024_0_1024), k0_pay6 (at' x1 (Rect.unit (s := S256x2048) ![0, 0] S256x2048.size inb_S256x2048_S256x2048_0_0)) (at' xs (Rect.unit (s := S3456x2048) ![1024, 0] S1024x2048.size inb_S3456x2048_S1024x2048_1024_0))⟩,
   ⟨(Rect.unit (s := S256x3456) ![0, 3072] S256x384.size inb_S256x3456_S256x384_0_3072), k0_pay5 (at' x1 (Rect.unit (s := S256x2048) ![0, 0] S256x2048.size inb_S256x2048_S256x2048_0_0)) (at' xs (Rect.unit (s := S3456x2048) ![3072, 0] S384x2048.size inb_S3456x2048_S384x2048_3072_0))⟩]
/-- the first three, -/
def prB (x1 : Vec F S256x2048 .f32) (xs : Vec F S3456x2048 .bf16) : List (View.Piece (Elt F) S256x3456 .f32) :=
  ⟨(Rect.unit (s := S256x3456) ![0, 0] S256x1024.size inb_S256x3456_S256x1024_0_0), k0_pay15 (k0_pay4 (at' x1 (Rect.unit (s := S256x2048) ![0, 0] S256x2048.size inb_S256x2048_S256x2048_0_0))) (at' xs (Rect.unit (s := S3456x2048) ![0, 0] S1024x2048.size inb_S3456x2048_S1024x2048_0_0))⟩ :: prA x1 xs
/-- all four. -/
def prC (x1 : Vec F S256x2048 .f32) (xs : Vec F S3456x2048 .bf16) : List (View.Piece (Elt F) S256x3456 .f32) :=
  ⟨(Rect.unit (s := S256x3456) ![0, 2048] S256x1024.size inb_S256x3456_S256x1024_0_2048), k0_pay30 (k0_pay4 (at' x1 (Rect.unit (s := S256x2048) ![0, 0] S256x2048.size inb_S256x2048_S256x2048_0_0))) (at' xs (Rect.unit (s := S3456x2048) ![2048, 0] S1024x2048.size inb_S3456x2048_S1024x2048_2048_0))⟩ :: prB x1 xs
/-- The last token's row of them. -/
def lastRow (x1 : Vec F S256x2048 .f32) (xs : Vec F S3456x2048 .bf16) : Vec F S1x3456 .f32 := (at' (View.canon (prC x1 xs)) (Rect.unit (s := S256x3456) ![255, 0] S1x3456.size inb_S256x3456_S1x3456_255_0))

/-- The second layer of the two small networks. -/
def zOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x2048 .f32 :=
  k0_pay9 (at' (View.canon (prA x1 xs)) (Rect.unit (s := S256x3456) ![0, 3072] S256x128.size inb_S256x3456_S256x128_0_3072)) (k0_pay7 (BitVec.ofNat 32 (i 0).val) (at' p (Rect.unit (s := S8x3456) ![0, 3072] S1x128.size inb_S8x3456_S1x128_0_3072))) k0_pay8 1#32 (at' x3 (Rect.unit (s := S1x3456) ![0, 3072] S1x128.size inb_S1x3456_S1x128_0_3072)) (at' x8 (Rect.unit (s := S128x2048) ![0, 0] S128x2048.size inb_S128x2048_S128x2048_0_0))

/-- The rates. -/
def aOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay14 (zOf i x1 x3 x4 x5 x6 x7 x8 x9 xs p) (at' x5 (Rect.unit (s := S1x1024) ![0, 0] S1x1024.size inb_S1x1024_S1x1024_0_0))

/-- The keys scaled for the normalisation. -/
def kkOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay19 (at' (View.canon (prB x1 xs)) (Rect.unit (s := S256x3456) ![0, 1024] S256x1024.size inb_S256x3456_S256x1024_0_1024)) (k0_pay16 (runMul.sl.v22 i) runMul.sl.v23 (at' (View.canon (prB x1 xs)) (Rect.unit (s := S256x3456) ![0, 1024] S256x1024.size inb_S256x3456_S256x1024_0_1024)) (at' p (Rect.unit (s := S8x3456) ![0, 1024] S1x1024.size inb_S8x3456_S1x1024_0_1024))) (at' x3 (Rect.unit (s := S1x3456) ![0, 1024] S1x1024.size inb_S1x3456_S1x1024_0_1024)) (at' x6 (Rect.unit (s := S1x1024) ![0, 0] S1x1024.size inb_S1x1024_S1x1024_0_0))

/-- The output r, -/
def rOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay31 (runMul.sl.v22 i) runMul.sl.v23 (at' (View.canon (prC x1 xs)) (Rect.unit (s := S256x3456) ![0, 0] S256x1024.size inb_S256x3456_S256x1024_0_0)) (at' p (Rect.unit (s := S8x3456) ![0, 0] S1x1024.size inb_S8x3456_S1x1024_0_0)) (at' x3 (Rect.unit (s := S1x3456) ![0, 0] S1x1024.size inb_S1x3456_S1x1024_0_0))

/-- the decay, -/
def lwOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay13 (zOf i x1 x3 x4 x5 x6 x7 x8 x9 xs p) (at' x4 (Rect.unit (s := S1x1024) ![0, 0] S1x1024.size inb_S1x1024_S1x1024_0_0))

/-- the keys, -/
def kOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay18 (aOf i x1 x3 x4 x5 x6 x7 x8 x9 xs p) (at' (View.canon (prB x1 xs)) (Rect.unit (s := S256x3456) ![0, 1024] S256x1024.size inb_S256x3456_S256x1024_0_1024)) (k0_pay16 (runMul.sl.v22 i) runMul.sl.v23 (at' (View.canon (prB x1 xs)) (Rect.unit (s := S256x3456) ![0, 1024] S256x1024.size inb_S256x3456_S256x1024_0_1024)) (at' p (Rect.unit (s := S8x3456) ![0, 1024] S1x1024.size inb_S8x3456_S1x1024_0_1024))) (at' x3 (Rect.unit (s := S1x3456) ![0, 1024] S1x1024.size inb_S1x3456_S1x1024_0_1024)) (at' x7 (Rect.unit (s := S1x1024) ![0, 0] S1x1024.size inb_S1x1024_S1x1024_0_0))

/-- the values, -/
def vOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay32 (runMul.sl.v22 i) runMul.sl.v23 (at' (View.canon (prC x1 xs)) (Rect.unit (s := S256x3456) ![0, 2048] S256x1024.size inb_S256x3456_S256x1024_0_2048)) (at' p (Rect.unit (s := S8x3456) ![0, 2048] S1x1024.size inb_S8x3456_S1x1024_0_2048)) (at' x3 (Rect.unit (s := S1x3456) ![0, 2048] S1x1024.size inb_S1x3456_S1x1024_0_2048))

/-- the normalised keys, -/
def nOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay28 (kkOf i x1 x3 x4 x5 x6 x7 x8 x9 xs p) (k0_pay23 k0_pay20 k0_pay21 k0_pay22) (k0_pay24 (kkOf i x1 x3 x4 x5 x6 x7 x8 x9 xs p) k0_pay20 k0_pay21 k0_pay22) (k0_pay26 (kkOf i x1 x3 x4 x5 x6 x7 x8 x9 xs p)) (k0_pay27 (kkOf i x1 x3 x4 x5 x6 x7 x8 x9 xs p))

/-- their products with the rates, -/
def bOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay29 (aOf i x1 x3 x4 x5 x6 x7 x8 x9 xs p) (kkOf i x1 x3 x4 x5 x6 x7 x8 x9 xs p) (k0_pay23 k0_pay20 k0_pay21 k0_pay22) (k0_pay24 (kkOf i x1 x3 x4 x5 x6 x7 x8 x9 xs p) k0_pay20 k0_pay21 k0_pay22) (k0_pay26 (kkOf i x1 x3 x4 x5 x6 x7 x8 x9 xs p)) (k0_pay27 (kkOf i x1 x3 x4 x5 x6 x7 x8 x9 xs p))

/-- and the gate. -/
def gOf (i : grid0.Coords) (x1 : Vec F S256x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32) : FVec F S256x1024 .f32 :=
  k0_pay12 (k0_pay10 (runMul.sl.v22 i) runMul.sl.v23 (at' (View.canon (prA x1 xs)) (Rect.unit (s := S256x3456) ![0, 3200] S256x256.size inb_S256x3456_S256x256_0_3200)) (at' p (Rect.unit (s := S8x3456) ![0, 3200] S1x256.size inb_S8x3456_S1x256_0_3200)) (at' x3 (Rect.unit (s := S1x3456) ![0, 3200] S1x256.size inb_S1x3456_S1x256_0_3200))) (k0_pay11 (at' x9 (Rect.unit (s := S256x1024) ![0, 0] S256x1024.size inb_S256x1024_S256x1024_0_0)))

/-- One whole block written. -/
def one (x : FVec F S256x1024 .f32) : List (View.Piece (Elt F) S256x1024 .f32) := [⟨(Rect.unit (s := S256x1024) ![0, 0] S256x1024.size inb_S256x1024_S256x1024_0_0), x⟩]

theorem one_cover (x : FVec F S256x1024 .f32) (y : S256x1024.Idx) : ∃ pc ∈ one x, y ∈ pc.1.set :=
  View.cover_of_tiledL (one x) S256x1024.size (by sl_kernel_rfl) y

section

variable (c : Dev nD) (i : grid0.Coords) {arg1 : Memref sig .tc .vmem S256x2048 .f32} (harg1 : arg1.IsWhole) {arg2 : Memref sig .tc .vmem S384x2048 .f32} (harg2 : arg2.IsWhole) {arg3 : Memref sig .tc .vmem S1x3456 .f32} (harg3 : arg3.IsWhole) {arg4 : Memref sig .tc .vmem S1x1024 .f32} (harg4 : arg4.IsWhole) {arg5 : Memref sig .tc .vmem S1x1024 .f32} (harg5 : arg5.IsWhole) {arg6 : Memref sig .tc .vmem S1x1024 .f32} (harg6 : arg6.IsWhole) {arg7 : Memref sig .tc .vmem S1x1024 .f32} (harg7 : arg7.IsWhole) {arg8 : Memref sig .tc .vmem S128x2048 .bf16} (harg8 : arg8.IsWhole) {arg9 : Memref sig .tc .vmem S256x1024 .bf16} (harg9 : arg9.IsWhole) {arg10 : Memref sig .tc .vmem S256x1024 .f32} (harg10 : arg10.IsWhole) {arg11 : Memref sig .tc .vmem S256x1024 .f32} (harg11 : arg11.IsWhole) {arg12 : Memref sig .tc .vmem S256x1024 .f32} (harg12 : arg12.IsWhole) {arg13 : Memref sig .tc .vmem S256x1024 .f32} (harg13 : arg13.IsWhole) {arg14 : Memref sig .tc .vmem S256x1024 .f32} (harg14 : arg14.IsWhole) {arg15 : Memref sig .tc .vmem S256x1024 .f32} (harg15 : arg15.IsWhole) {arg16 : Memref sig .tc .vmem S256x1024 .f32} (harg16 : arg16.IsWhole) {arg17 : Memref sig .tc .vmem S3456x2048 .bf16} (harg17 : arg17.IsWhole) {arg18 : Memref sig .tc .vmem S256x3456 .f32} (harg18 : arg18.IsWhole) {arg19 : Memref sig .tc .vmem S8x3456 .f32} (harg19 : arg19.IsWhole)
  (x1 : Vec F S256x2048 .f32) (x2 : Vec F S384x2048 .f32) (x3 : Vec F S1x3456 .f32) (x4 x5 x6 x7 : Vec F S1x1024 .f32) (x8 : Vec F S128x2048 .bf16) (x9 : Vec F S256x1024 .bf16) (xs : Vec F S3456x2048 .bf16) (p : Vec F S8x3456 .f32)

set_option maxHeartbeats 4000000 in
/-- The multiplying point's pieces. -/
theorem mul_pieces (hc0 : ¬firstCond i = 1#1) (hc1 : ¬k0_cond2 i = 1#1) (hc2 : k0_cond3 i = 1#1) :
    (runMul c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x1 x2 x3 x4 x5 x6 x7 x8 x9 xs p).1
      = (one (rOf i x1 x3 x4 x5 x6 x7 x8 x9 xs p), one (lwOf i x1 x3 x4 x5 x6 x7 x8 x9 xs p), one (kOf i x1 x3 x4 x5 x6 x7 x8 x9 xs p), one (vOf i x1 x3 x4 x5 x6 x7 x8 x9 xs p), one (nOf i x1 x3 x4 x5 x6 x7 x8 x9 xs p), one (bOf i x1 x3 x4 x5 x6 x7 x8 x9 xs p), one (gOf i x1 x3 x4 x5 x6 x7 x8 x9 xs p), [⟨(Rect.unit (s := S8x3456) ![0, 0] S1x3456.size inb_S8x3456_S1x3456_0_0), k0_pay3 (lastRow x1 xs)⟩]) := by
  unfold runMul; dsimp only
  simp only [runMul.sl.H10_1, runMul.sl.H11_1, runMul.sl.H12_1, runMul.sl.H13_1, runMul.sl.H14_1, runMul.sl.H15_1, runMul.sl.H16_1, runMul.sl.r_10, runMul.sl.r_9, runMul.sl.r_8, runMul.sl.r_7, runMul.sl.r_6, runMul.sl.r_5, runMul.sl.r_4, runMul.sl.r_3, runMul.sl.r_2, runMul.sl.r_1, runMul.sl.v, runMul.sl.v34, runMul.sl.v61, runMul.sl.v105, runMul.sl.v245, runMul.sl.v264, runMul.sl.H18_4, runMul.sl.H18_3, runMul.sl.H18_2, runMul.sl.r, load_at, cov_at]
  rfl

/-- The first staging point's pieces. -/
theorem first_pieces (hc0 : firstCond i = 1#1) (hc1 : k0_cond2 i = 1#1) (hc2 : ¬k0_cond3 i = 1#1) (x10 x11 x12 x13 x14 x15 x16 : Vec F S256x1024 .f32) (x18 : Vec F S256x3456 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x1 x2 x3 x4 x5 x6 x7 x8 x9 x10 x11 x12 x13 x14 x15 x16 xs x18 p).1
      = ([⟨Rect.unit (k0_off1 i) S384x2048.size (k0_off1_inb i hc1), k0_pay2 i (at' x2 (Rect.unit (s := S384x2048) ![0, 0] S384x2048.size inb_S384x2048_S384x2048_0_0))⟩], [⟨(Rect.unit (s := S8x3456) ![0, 0] S8x3456.size inb_S8x3456_S8x3456_0_0), k0_pay1⟩]) := by
  unfold runFirst; dsimp only
  rw [load_at]

/-- The other staging points' pieces. -/
theorem fill_pieces (hc0 : ¬firstCond i = 1#1) (hc1 : k0_cond2 i = 1#1) (hc2 : ¬k0_cond3 i = 1#1) (x10 x11 x12 x13 x14 x15 x16 : Vec F S256x1024 .f32) (x18 : Vec F S256x3456 .f32) :
    (runFill c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x1 x2 x3 x4 x5 x6 x7 x8 x9 x10 x11 x12 x13 x14 x15 x16 xs x18 p).1
      = [⟨Rect.unit (k0_off1 i) S384x2048.size (k0_off1_inb i hc1), k0_pay2 i (at' x2 (Rect.unit (s := S384x2048) ![0, 0] S384x2048.size inb_S384x2048_S384x2048_0_0))⟩] := by
  unfold runFill; dsimp only
  rw [load_at]

end

variable (m : (ℓ : Loc nD τ sig) → Buf (Elt F) ℓ)

/-- What the weights' buffer holds inside the array, and zero past its end. -/
def wblk (c : Dev nD) (t : Fin cfg0.N) : Vec F S384x2048 .f32 := (cfg0.win 1).fill (grid0.coords t) (fun _ => Scalar.ofBits .f32 0#32) (iblk m c 1 t)

theorem in_rows : ∀ t : Fin cfg0.N, t.val < 9 → ∀ r : Fin 384,
    Scalar.cmpi .slt (Scalar.addi (Scalar.muli (Scalar.addi 8#32 (BitVec.ofNat 32 (grid0.coords t 0).val)) 384#32) (BitVec.ofNat 32 r.val)) 6432#32 = 1#1 →
    r.val < (cfg0.win 1).xsize (grid0.coords t) 0 := (by decide +kernel : ∀ t : Fin grid0.N, _)
theorem in_cols : ∀ t : Fin cfg0.N, t.val < 9 → (cfg0.win 1).xsize (grid0.coords t) 1 = 2048 := (by decide +kernel : ∀ t : Fin grid0.N, _)

/-- The staged tile does not depend on what the buffer holds past the array's end. -/
theorem tile_eq (c : Dev nD) (t : Fin cfg0.N) (ht : t.val < 9) (d : Vec F S384x2048 .f32) :
    k0_pay2 (grid0.coords t) (at' ((cfg0.win 1).fill (grid0.coords t) d (iblk m c 1 t) : Vec F S384x2048 .f32) (Rect.unit (s := S384x2048) ![0, 0] S384x2048.size inb_S384x2048_S384x2048_0_0)) = k0_pay2 (grid0.coords t) (at' (wblk m c t) (Rect.unit (s := S384x2048) ![0, 0] S384x2048.size inb_S384x2048_S384x2048_0_0)) := by
  have key : ∀ y : S384x2048.Idx, Scalar.cmpi .slt (Scalar.addi (Scalar.muli (Scalar.addi 8#32 (BitVec.ofNat 32 (grid0.coords t 0).val)) 384#32) (BitVec.ofNat 32 (y 0).val)) 6432#32 = 1#1 →
      ((cfg0.win 1).fill (grid0.coords t) d (iblk m c 1 t) : Vec F S384x2048 .f32) y = wblk m c t y := fun y h => by
    have hm : (cfg0.win 1).moved (grid0.coords t) y = true := ((cfg0.win 1).moved_iff _ _).mpr fun a => by
      fin_cases a
      · exact in_rows t ht (y 0) h
      · exact lt_of_lt_of_eq (y 1).isLt (in_cols t ht).symm
    unfold wblk Pipeline.Window.fill
    rw [dif_pos hm, dif_pos hm]
  funext y
  pointwise [k0_pay2]
  refine congrArg (FloatOps.truncf .bf16 bitsLt_bf16_f32) ?_
  unfold Scalar.select
  split
  · rename_i h
    exact (at_whole _ _ y).trans ((key y (by first | exact h | simpa using h)).trans (at_whole _ _ y).symm)
  · rfl

/-- The point that stages row `n` of the weights. -/
def ptOf (n : Fin 3456) : Fin cfg0.N := ⟨n.val / 384, by have : cfg0.N = 41 := N_0; have := n.isLt; omega⟩

/-- The tile staged at a point. -/
def tile (c : Dev nD) (t : Fin cfg0.N) : FVec F S384x2048 .bf16 := k0_pay2 (grid0.coords t) (at' (wblk m c t) (Rect.unit (s := S384x2048) ![0, 0] S384x2048.size inb_S384x2048_S384x2048_0_0))

/-- The staged weights, whole: row `n` from the tile of point `n / 384`. -/
def staged (c : Dev nD) : Vec F S3456x2048 .bf16 := fun y =>
  tile m c (ptOf (y 0)) (ix2 ⟨(y 0).val % 384, Nat.mod_lt _ (by omega)⟩ (y 1))

/-- The first `384 n` rows are staged. -/
def StagedTo (c : Dev nD) (n : ℕ) (f : Vec F S3456x2048 .bf16) : Prop := ∀ y : S3456x2048.Idx, (y 0).val < 384 * n → f y = staged m c y

theorem off1_eq : ∀ t : Fin cfg0.N, t.val < 9 → k0_off1 (grid0.coords t) = ![384 * t.val, 0] := (by decide +kernel : ∀ t : Fin grid0.N, _)

/-- A staging point stages 384 rows more. -/
theorem staged_step (c : Dev nD) (t : Fin cfg0.N) (ht : t.val < 9) {arg : Memref sig .tc .vmem S3456x2048 .bf16} (f : Vec F S3456x2048 .bf16)
    (g : arg.view.ty.Contents (Elt F)) (hg : arg.view.read (Elt F) g = f) (hf : StagedTo m c t.val f) (hc : k0_cond2 (grid0.coords t) = 1#1) :
    StagedTo m c (t.val + 1) (arg.view.read (Elt F) (arg.view.writes (Elt F) g
      [⟨Rect.unit (k0_off1 (grid0.coords t)) S384x2048.size (k0_off1_inb _ hc), tile m c t⟩])) := by
  intro y hy
  by_cases hlt : (y 0).val < 384 * t.val
  · refine (View.read_writes_cons_rows_of_not_mem arg.view g _ _ [] y (off1_eq t ht) rfl (.inl hlt)).trans ?_
    rw [View.writes_nil, hg]
    exact hf y hlt
  · have e : ptOf (y 0) = t := Fin.ext (by show (y 0).val / 384 = t.val; omega)
    refine (View.read_writes_cons_rows_of_mem arg.view g _ _ [] y (ix2 ⟨(y 0).val % 384, Nat.mod_lt _ (by omega)⟩ (y 1)) (off1_eq t ht) ?_ rfl).trans ?_
    · show (y 0).val = 384 * t.val + (y 0).val % 384
      omega
    · unfold staged; rw [e]; rfl

/-- The row carried into point `n`: the products' last row of the token block before, zero into the first. -/
def carried (c : Dev nD) : ℕ → Vec F S8x3456 .f32
  | 0 => k0_pay1
  | n + 1 => if h : 9 ≤ n ∧ n < cfg0.N then
      fun y => if (y 0).val = 0 then k0_pay3 (lastRow (iblk m c 0 ⟨n, h.2⟩) (staged m c)) (ix2 0 (y 1)) else carried c n y
    else carried c n

theorem carried_keep (c : Dev nD) (t : Fin cfg0.N) (ht : t.val < 9) : carried m c (t.val + 1) = carried m c t.val :=
  dif_neg fun h => absurd h.1 (by omega)

/-- A multiplying point carries its last row on. -/
theorem carried_step (c : Dev nD) (t : Fin cfg0.N) (ht : ¬t.val < 9) {arg : Memref sig .tc .vmem S8x3456 .f32}
    (g : arg.view.ty.Contents (Elt F)) (hg : arg.view.read (Elt F) g = carried m c t.val) :
    arg.view.read (Elt F) (arg.view.writes (Elt F) g
      [⟨(Rect.unit (s := S8x3456) ![0, 0] S1x3456.size inb_S8x3456_S1x3456_0_0), k0_pay3 (lastRow (iblk m c 0 t) (staged m c))⟩]) = carried m c (t.val + 1) := by
  funext y
  unfold carried
  rw [dif_pos ⟨not_lt.mp ht, t.isLt⟩]
  by_cases h0 : (y 0).val = 0
  · rw [if_pos h0]
    exact View.read_writes_cons_rows_of_mem arg.view g _ _ [] y (ix2 0 (y 1)) (o := 0) rfl h0 rfl
  · rw [if_neg h0]
    refine (View.read_writes_cons_rows_of_not_mem arg.view g _ _ [] y (o := 0) rfl rfl (.inr (by show 0 + 1 ≤ (y 0).val; omega))).trans ?_
    rw [View.writes_nil, hg]

end Cert.ProjRIdeal.Stage

end
-- ==== Proof.ProjRFrame.lean ====
/- The projection feeding the recurrence runs, leaves its arguments unchanged and every semaphore at zero; what its output arrays hold. -/
module

public import proofs.«01_k».proof.Proof.ProjRRun
public import Idealize.ShloMosaic.Lib.Claim

@[expose] public section

set_option maxRecDepth 16384

noncomputable section

namespace Cert.ProjRIdeal.Stage

open Cert.ProjRIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem fills : ∀ t : Fin cfg0.N, t.val < 9 → k0_cond2 (grid0.coords t) = 1#1 ∧ ¬k0_cond3 (grid0.coords t) = 1#1
    ∧ (firstCond (grid0.coords t) = 1#1 ↔ t.val = 0)
    ∧ ∀ w : Fin cfg0.W, 9 ≤ w.val → cfg0.idle w (grid0.coords t) = true ∧ (cfg0.win w).flush t = false := (by decide +kernel : ∀ t : Fin grid0.N, _)

theorem muls : ∀ t : Fin cfg0.N, ¬t.val < 9 → ¬firstCond (grid0.coords t) = 1#1 ∧ ¬k0_cond2 (grid0.coords t) = 1#1 ∧ k0_cond3 (grid0.coords t) = 1#1
    ∧ ∀ w : Fin cfg0.W, 9 ≤ w.val → cfg0.idle w (grid0.coords t) = false := (by decide +kernel : ∀ t : Fin grid0.N, _)

/-- The scratch buffer of the staged weights, -/
abbrev scrW : Memref sig .tc .vmem S3456x2048 .bf16 := Memref.whole cc0_scratch0
/-- of the products, -/
abbrev scrP : Memref sig .tc .vmem S256x3456 .f32 := Memref.whole cc0_scratch1
/-- of the carried row. -/
abbrev scrC : Memref sig .tc .vmem S8x3456 .f32 := Memref.whole cc0_scratch2

/-- What the launch hands over: the scratch buffers at anything, and the generator register. -/
theorem launch_eq (c : Dev nD) :
    (Pipeline.ΦA spec0 c : sProp 𝕄) = iprop(iprop((∃ d, owns (c : Thread nD τ) scrW fullShare d) ∗ (∃ d, owns (c : Thread nD τ) scrP fullShare d) ∗ (∃ d, owns (c : Thread nD τ) scrC fullShare d)) ∗ (∃ r, prngReg c r)) := by
  unfold Pipeline.ΦA; rw [scopedRest0_eq]; simp only [scrW, scrP, scrC, owns_whole]; try rfl

/-! ## The proof data -/

/-- Before point `n` the first scratch buffer holds the first `384 n` staged rows, the last the carried row. -/
def inv (c : Dev nD) (n : ℕ) : sProp 𝕄 :=
  iprop((∃ f, iprop(⌜StagedTo m c n f⌝ ∗ owns (c : Thread nD τ) scrW fullShare f)) ∗ (∃ d, owns (c : Thread nD τ) scrP fullShare d)
    ∗ (∃ f, iprop(⌜n = 0 ∨ f = carried m c n⌝ ∗ owns (c : Thread nD τ) scrC fullShare f)) ∗ (∃ r, prngReg c r))

/-- The proof data: inputs' buffers at their blocks, the outputs' at what a multiplying point leaves, the scratch buffers by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (one (rOf (grid0.coords t) (iblk m c 0 t) (iblk m c 2 t) (iblk m c 3 t) (iblk m c 4 t) (iblk m c 5 t) (iblk m c 6 t) (iblk m c 7 t) (iblk m c 8 t) (staged m c) (carried m c t.val)))
    | ⟨10, _⟩ => View.canon (one (lwOf (grid0.coords t) (iblk m c 0 t) (iblk m c 2 t) (iblk m c 3 t) (iblk m c 4 t) (iblk m c 5 t) (iblk m c 6 t) (iblk m c 7 t) (iblk m c 8 t) (staged m c) (carried m c t.val)))
    | ⟨11, _⟩ => View.canon (one (kOf (grid0.coords t) (iblk m c 0 t) (iblk m c 2 t) (iblk m c 3 t) (iblk m c 4 t) (iblk m c 5 t) (iblk m c 6 t) (iblk m c 7 t) (iblk m c 8 t) (staged m c) (carried m c t.val)))
    | ⟨12, _⟩ => View.canon (one (vOf (grid0.coords t) (iblk m c 0 t) (iblk m c 2 t) (iblk m c 3 t) (iblk m c 4 t) (iblk m c 5 t) (iblk m c 6 t) (iblk m c 7 t) (iblk m c 8 t) (staged m c) (carried m c t.val)))
    | ⟨13, _⟩ => View.canon (one (nOf (grid0.coords t) (iblk m c 0 t) (iblk m c 2 t) (iblk m c 3 t) (iblk m c 4 t) (iblk m c 5 t) (iblk m c 6 t) (iblk m c 7 t) (iblk m c 8 t) (staged m c) (carried m c t.val)))
    | ⟨14, _⟩ => View.canon (one (bOf (grid0.coords t) (iblk m c 0 t) (iblk m c 2 t) (iblk m c 3 t) (iblk m c 4 t) (iblk m c 5 t) (iblk m c 6 t) (iblk m c 7 t) (iblk m c 8 t) (staged m c) (carried m c t.val)))
    | ⟨15, _⟩ => View.canon (one (gOf (grid0.coords t) (iblk m c 0 t) (iblk m c 2 t) (iblk m c 3 t) (iblk m c 4 t) (iblk m c 5 t) (iblk m c 6 t) (iblk m c 7 t) (iblk m c 8 t) (staged m c) (carried m c t.val)))
    | ⟨n + 16, h⟩ => absurd h (Nat.not_lt.mpr (Nat.le_add_left 16 n))
  Φ t := inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = wblk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = View.canon (one (rOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after10 (c : Dev nD) (t : Fin cfg0.N) : (dats m 0 c).after 10 t = View.canon (one (lwOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after11 (c : Dev nD) (t : Fin cfg0.N) : (dats m 0 c).after 11 t = View.canon (one (kOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after12 (c : Dev nD) (t : Fin cfg0.N) : (dats m 0 c).after 12 t = View.canon (one (vOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after13 (c : Dev nD) (t : Fin cfg0.N) : (dats m 0 c).after 13 t = View.canon (one (nOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after14 (c : Dev nD) (t : Fin cfg0.N) : (dats m 0 c).after 14 t = View.canon (one (bOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem after15 (c : Dev nD) (t : Fin cfg0.N) : (dats m 0 c).after 15 t = View.canon (one (gOf (grid0.coords t) (iblk m c 0 t) (iblk m c 2 t) (iblk m c 3 t) (iblk m c 4 t) (iblk m c 5 t) (iblk m c 6 t) (iblk m c 7 t) (iblk m c 8 t) (staged m c) (carried m c t.val))) := by dsimp only [dats]
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem block1 (c : Dev nD) (t : Fin cfg0.N) : (dats m 0 c).blockOf 1 t = iblk m c 1 t := by
  unfold Dat.blockOf iblk; rw [A_eq]
theorem cut1 (c : Dev nD) (t : Fin cfg0.N) : (cfg0.win 1).cut (grid0.coords t) ((dats m 0 c).after 1 t) = iblk m c 1 t := by
  rw [after1]; exact (cfg0.win 1).cut_fill _ _ _
/-- The weights' buffer: the tile inside the array, anything past its end. -/
theorem before1 (c : Dev nD) (t : Fin cfg0.N) (d) : (dats m 0 c).before 1 t d = (cfg0.win 1).fill (grid0.coords t) d (iblk m c 1 t) := by
  refine ((dats m 0 c).before_in_eq_fetched 1 rfl (fun _ => rfl) (fun t t' h => funext fun a =>
    congrArg (fun n => Pipeline.Clip.of n ((cfg0.win 1).size a) (S6432x2048.size a)) (congrFun h a)) (fun t => (cut1 m c t).trans (block1 m c t).symm) t d).trans ?_
  unfold Dat.fetched; rw [block1]

theorem leaves_live (c : Dev nD) (w : Fin cfg0.W) (t : Fin cfg0.N) (hi : cfg0.idle w (grid0.coords t) = false) (hl : cfg0.loose w = false) :
    (dats m 0 c).leaves w t = owns (c : Thread nD τ) ((cfg0.win w).stage (cfg0.slots t w)) fullShare ((dats m 0 c).after w t) := by
  unfold Dat.leaves; rw [hi, hl]

theorem leaves1 (c : Dev nD) (t : Fin cfg0.N) : (dats m 0 c).leaves 1 t
    = iprop(∃ d, owns (c : Thread nD τ) (st0_1 t) fullShare ((cfg0.win 1).fill (grid0.coords t) d (iblk m c 1 t))) := by
  rw [← cut1]

/-! ## The body at a point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it hands back. -/
def post (c : Dev nD) (t : Fin cfg0.N) : sProp 𝕄 :=
  iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t)

set_option maxHeartbeats 12800000 in
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl,
    show (dats m 0 c).Φ t.succ = inv m c (t.val + 1) from rfl, show (dats m 0 c).Φ t.castSucc = inv m c t.val from rfl, leaves1,
    leaves_live m c 0 t rfl rfl, after0, leaves_live m c 2 t rfl rfl, after2, leaves_live m c 3 t rfl rfl, after3, leaves_live m c 4 t rfl rfl, after4, leaves_live m c 5 t rfl rfl, after5, leaves_live m c 6 t rfl rfl, after6, leaves_live m c 7 t rfl rfl, after7, leaves_live m c 8 t rfl rfl, after8]
  unfold inv
  by_cases ht : t.val < 9
  · obtain ⟨hc1, hc2, h0, hio⟩ := fills t ht
    rw [Dat.leaves_idle _ 9 t (hio 9 (by decide)).1 (hio 9 (by decide)).2, Dat.leaves_idle _ 10 t (hio 10 (by decide)).1 (hio 10 (by decide)).2, Dat.leaves_idle _ 11 t (hio 11 (by decide)).1 (hio 11 (by decide)).2, Dat.leaves_idle _ 12 t (hio 12 (by decide)).1 (hio 12 (by decide)).2, Dat.leaves_idle _ 13 t (hio 13 (by decide)).1 (hio 13 (by decide)).2, Dat.leaves_idle _ 14 t (hio 14 (by decide)).1 (hio 14 (by decide)).2, Dat.leaves_idle _ 15 t (hio 15 (by decide)).1 (hio 15 (by decide)).2]
    iintro ⟨⟨⟨%f, %hs, HS⟩, ⟨%dp, HP⟩, ⟨%fc, %hc, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    by_cases hz : t.val = 0
    · have hc0 := h0.mpr hz
      iapply ((runFirst c (grid0.coords t) _ _ _ _ _ _ _ _ _ _ _ _ _ _ _ _ _ _ _ _ _ _ _ _ _ _ _ _ _ _ _ _ _ _ _ _ _ _ hc0 hc1 hc2 (iblk m c 0 t) ((cfg0.win 1).fill (grid0.coords t) d1 (iblk m c 1 t)) (iblk m c 2 t) (iblk m c 3 t) (iblk m c 4 t) (iblk m c 5 t) (iblk m c 6 t) (iblk m c 7 t) (iblk m c 8 t) _ _ _ _ _ _ _ f dp fc).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      isplitl [HP]; · iexact HP
      isplitl [HC]; · iexact HC
      rw [first_pieces, tile_eq m c t ht]
      iintro ⟨H0, H1, H2, H3, H4, H5, H6, H7, H8, H9, H10, H11, H12, H13, H14, H15, HS, HP, HC⟩
      isplitl [HS HP HC Hg]
      · isplitl [HS]
        · iexists _; isplitr
          swap
          · unfold owns; iexists _; isplitr
            swap; · iexact HS
            ipureintro; rfl
          ipureintro
          exact staged_step m c t ht f _ (Memref.IsWhole.read_unread _ _) hs hc1
        isplitl [HP]; · iexists _; iexact HP
        isplitl [HC]
        · iexists _; isplitr
          swap
          · unfold owns; iexists _; isplitr
            swap; · iexact HC
            ipureintro; rfl
          ipureintro
          refine .inr ?_
          rw [carried_keep m c t ht, hz]
          exact funext fun y => View.read_writes_cons_rows_of_mem _ _ _ _ [] y y (o := 0) rfl (Nat.zero_add _).symm rfl
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15

    · have hc0 : ¬firstCond (grid0.coords t) = 1#1 := fun h => hz (h0.mp h)
      iapply ((runFill c (grid0.coords t) _ _ _ _ _ _ _ _ _ _ _ _ _ _ _ _ _ _ _ _ _ _ _ _ _ _ _ _ _ _ _ _ _ _ _ _ _ _ hc0 hc1 hc2 (iblk m c 0 t) ((cfg0.win 1).fill (grid0.coords t) d1 (iblk m c 1 t)) (iblk m c 2 t) (iblk m c 3 t) (iblk m c 4 t) (iblk m c 5 t) (iblk m c 6 t) (iblk m c 7 t) (iblk m c 8 t) _ _ _ _ _ _ _ f dp fc).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      isplitl [HP]; · iexact HP
      isplitl [HC]; · iexact HC
      rw [fill_pieces, tile_eq m c t ht]
      iintro ⟨H0, H1, H2, H3, H4, H5, H6, H7, H8, H9, H10, H11, H12, H13, H14, H15, HS, HP, HC⟩
      isplitl [HS HP HC Hg]
      · isplitl [HS]
        · iexists _; isplitr
          swap
          · unfold owns; iexists _; isplitr
            swap; · iexact HS
            ipureintro; rfl
          ipureintro
          exact staged_step m c t ht f _ (Memref.IsWhole.read_unread _ _) hs hc1
        isplitl [HP]; · iexists _; iexact HP
        isplitl [HC]
        · iexists _; isplitr
          swap
          · iexact HC
          ipureintro
          exact .inr ((hc.resolve_left hz).trans (carried_keep m c t ht).symm)
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15
  · obtain ⟨hc0, hc1, hc2, hio⟩ := muls t ht
    rw [leaves_live m c 9 t (hio 9 (by decide)) rfl, after9, leaves_live m c 10 t (hio 10 (by decide)) rfl, after10, leaves_live m c 11 t (hio 11 (by decide)) rfl, after11, leaves_live m c 12 t (hio 12 (by decide)) rfl, after12, leaves_live m c 13 t (hio 13 (by decide)) rfl, after13, leaves_live m c 14 t (hio 14 (by decide)) rfl, after14, leaves_live m c 15 t (hio 15 (by decide)) rfl, after15]
    iintro ⟨⟨⟨%f, %hs, HS⟩, ⟨%dp, HP⟩, ⟨%fc, %hc, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hall : f = staged m c := funext fun y => hs y (by have : (y 0).val < 3456 := (y 0).isLt; omega)
    subst hall
    obtain rfl := hc.resolve_left (fun h => ht (by omega))
    iapply ((runMul c (grid0.coords t) _ _ _ _ _ _ _ _ _ _ _ _ _ _ _ _ _ _ _ _ _ _ _ _ _ _ _ _ _ _ _ _ _ _ _ _ _ _ hc0 hc1 hc2 (iblk m c 0 t) ((cfg0.win 1).fill (grid0.coords t) d1 (iblk m c 1 t)) (iblk m c 2 t) (iblk m c 3 t) (iblk m c 4 t) (iblk m c 5 t) (iblk m c 6 t) (iblk m c 7 t) (iblk m c 8 t) (staged m c) (carried m c t.val)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [HP]; · iexists _; iexact HP
    isplitl [HC]; · iexact HC
    rw [mul_pieces]
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, HS, HP, HC⟩
    isplitl [HS HP HC Hg]
    · isplitl [HS]
      · iexists _; isplitr
        swap; · iexact HS
        ipureintro; exact fun _ _ => rfl
      isplitl [HP]; · iexact HP
      isplitl [HC]
      · iexists _; isplitr
        swap
        · unfold owns; iexists _; isplitr
          swap; · iexact HC
          ipureintro; rfl
        ipureintro
        exact .inr (carried_step m c t ht _ (Memref.IsWhole.read_unread _ _))
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro
      exact View.read_writes_eq_canon _ _ _ (one_cover _)
    isplitl [H10]
    · unfold owns; iexists _; isplitr
      swap; · iexact H10
      ipureintro
      exact View.read_writes_eq_canon _ _ _ (one_cover _)
    isplitl [H11]
    · unfold owns; iexists _; isplitr
      swap; · iexact H11
      ipureintro
      exact View.read_writes_eq_canon _ _ _ (one_cover _)
    isplitl [H12]
    · unfold owns; iexists _; isplitr
      swap; · iexact H12
      ipureintro
      exact View.read_writes_eq_canon _ _ _ (one_cover _)
    isplitl [H13]
    · unfold owns; iexists _; isplitr
      swap; · iexact H13
      ipureintro
      exact View.read_writes_eq_canon _ _ _ (one_cover _)
    isplitl [H14]
    · unfold owns; iexists _; isplitr
      swap; · iexact H14
      ipureintro
      exact View.read_writes_eq_canon _ _ _ (one_cover _)
    unfold owns; iexists _; isplitr
    swap; · iexact H15
    ipureintro
    exact View.read_writes_eq_canon _ _ _ (one_cover _)

theorem obligation (c : Dev nD) : BodyObligationLoose (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem hin (c : Dev nD) : Pipeline.ΦA spec0 c ⊢ (dats m 0 c).Φ 0 := by
  rw [show (dats m 0 c).Φ 0 = inv m c 0 from rfl, launch_eq]
  unfold inv
  iintro ⟨⟨⟨%f, HS⟩, HP, ⟨%fc, HC⟩⟩, Hg⟩
  isplitl [HS]
  · iexists _; isplitr
    swap; · iexact HS
    ipureintro; intro y hy; exact absurd hy (Nat.not_lt_zero _)
  isplitl [HP]; · iexact HP
  isplitl [HC]
  · iexists _; isplitr
    swap; · iexact HC
    ipureintro; exact .inl rfl
  iexact Hg

theorem hout (c : Dev nD) : (dats m 0 c).Φ (Fin.last cfg0.N) ⊢ Pipeline.ΦA spec0 c := by
  rw [show (dats m 0 c).Φ (Fin.last cfg0.N) = inv m c cfg0.N from rfl, launch_eq]
  unfold inv
  iintro ⟨⟨%f, -, HS⟩, HP, ⟨%fc, -, HC⟩, Hg⟩
  isplitl [HS HP HC]
  · isplitl [HS]; · iexists _; iexact HS
    isplitl [HP]; · iexact HP
    iexists _; iexact HC
  iexact Hg

/-! ## The run -/

set_option backward.isDefEq.respectTransparency.types false in
/-- The whole program: every array as the proof data says, every semaphore at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (runs m ρ)

/-- The program runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run m ρ)) ((θ_run defs _ _).mono (fun _ h => h.2) (runs m ρ))

end Cert.ProjRIdeal.Stage

end
-- ==== Proof.ProjRPay.lean ====
/- The projection feeding the recurrence, read at one entry: the products of a token block and what a multiplying point makes of them. -/
module

public import proofs.«01_k».proof.Proof.ProjRRun
public import Idealize.ShloMosaic.Lib.Claim

@[expose] public section

set_option maxRecDepth 16384

noncomputable section

open Idealize.ShloMosaic Idealize.ShloMosaic.TcCoe Idealize.SL.Sem

namespace Cert.ProjRIdeal.Entry

open Cert.ProjRIdeal Cert.ProjRIdeal.Gen Cert.ProjRIdeal.Stage

/-- The part of a matrix a rectangle reads, entry by entry. -/
theorem at_ix {a b h w : ℕ} {e : EltTy} (x : Vec Ideal ⟨2, ![a, b]⟩ e) (o1 o2 : ℕ) (inb) (r : Fin h) (j : Fin w) (i1 : Fin a) (i2 : Fin b)
    (e1 : i1.val = o1 + r.val) (e2 : i2.val = o2 + j.val) :
    at' x (Rect.unit (s := ⟨2, ![a, b]⟩) ![o1, o2] ![h, w] inb) (ix2 r j) = x (ix2 i1 i2) := by
  refine congrArg x (funext fun q => Fin.ext ?_)
  rw [at_val]
  fin_cases q
  · exact e1.symm
  · exact e2.symm

/-- One product: a token row against a staged row. -/
def prod (x1 : Vec Ideal S256x2048 .f32) (xs : Vec Ideal S3456x2048 .bf16) (r : Fin 256) (n : Fin 3456) : EReal :=
  ∑ k : Fin 2048, x1 (ix2 r k) * xs (ix2 n k)

theorem pay5_at (x1 : Vec Ideal S256x2048 .f32) (xs : Vec Ideal S384x2048 .bf16) (r : Fin 256) (j : Fin 384) :
    (k0_pay5 x1 xs : FVec Ideal S256x384 .f32) (ix2 r j) = ∑ k : Fin 2048, x1 (ix2 r k) * xs (ix2 j k) := by
  pointwise [k0_pay5, k0_pay4]
theorem pay6_at (x1 : Vec Ideal S256x2048 .f32) (xs : Vec Ideal S1024x2048 .bf16) (r : Fin 256) (j : Fin 1024) :
    (k0_pay6 x1 xs : FVec Ideal S256x1024 .f32) (ix2 r j) = ∑ k : Fin 2048, x1 (ix2 r k) * xs (ix2 j k) := by
  pointwise [k0_pay6, k0_pay4]
theorem pay15_at (x1 : Vec Ideal S256x2048 .f32) (xs : Vec Ideal S1024x2048 .bf16) (r : Fin 256) (j : Fin 1024) :
    (k0_pay15 (k0_pay4 x1) xs : FVec Ideal S256x1024 .f32) (ix2 r j) = ∑ k : Fin 2048, x1 (ix2 r k) * xs (ix2 j k) := by
  pointwise [k0_pay15, k0_pay4]
theorem pay30_at (x1 : Vec Ideal S256x2048 .f32) (xs : Vec Ideal S1024x2048 .bf16) (r : Fin 256) (j : Fin 1024) :
    (k0_pay30 (k0_pay4 x1) xs : FVec Ideal S256x1024 .f32) (ix2 r j) = ∑ k : Fin 2048, x1 (ix2 r k) * xs (ix2 j k) := by
  pointwise [k0_pay30, k0_pay4]

/-- A piece of columns, read inside -/
theorem col_hit {w : ℕ} (o : ℕ) (inb) (P : Vec Ideal ⟨2, ![256, w]⟩ .f32) (L : List (View.Piece (Elt Ideal) S256x3456 .f32)) (r : Fin 256) (n : Fin 3456)
    (h : o ≤ n.val ∧ n.val < o + w) :
    View.canon ((⟨Rect.unit (s := S256x3456) ![0, o] ![256, w] inb, P⟩ : View.Piece (Elt Ideal) S256x3456 .f32) :: L) (ix2 r n) = P (ix2 r ⟨n.val - o, by omega⟩) := by
  have e : ix2 r n = (Rect.unit (s := S256x3456) ![0, o] ![256, w] inb).emb (ix2 r (⟨n.val - o, by omega⟩ : Fin w)) := by
    refine funext fun q => Fin.ext ?_
    rw [Rect.emb_apply]
    fin_cases q
    · show r.val = 0 + 1 * r.val; omega
    · show n.val = o + 1 * (n.val - o); omega
  rw [e]
  exact View.canon_cons_emb _ _ _ _

/-- and outside. -/
theorem col_miss {w : ℕ} (o : ℕ) (inb) (P : Vec Ideal ⟨2, ![256, w]⟩ .f32) (L : List (View.Piece (Elt Ideal) S256x3456 .f32)) (r : Fin 256) (n : Fin 3456)
    (h : ¬(o ≤ n.val ∧ n.val < o + w)) :
    View.canon ((⟨Rect.unit (s := S256x3456) ![0, o] ![256, w] inb, P⟩ : View.Piece (Elt Ideal) S256x3456 .f32) :: L) (ix2 r n) = View.canon L (ix2 r n) :=
  View.canon_cons_of_not_mem _ _ fun hm => h ((Rect.mem_set_unit (s := S256x3456) (off := ![0, o]) (size := ![256, w]) (inb := inb) (i := ix2 r n)).mp hm 1)

/-- A tile's product is the whole product's entry. -/
theorem tile_prod {w o : ℕ} (x1 : Vec Ideal S256x2048 .f32) (xs : Vec Ideal S3456x2048 .bf16) (inb1 inb2) (r : Fin 256) (n : Fin 3456) (j : Fin w) (e : n.val = o + j.val) :
    ∑ k : Fin 2048, at' x1 (Rect.unit (s := S256x2048) ![0, 0] ![256, 2048] inb1) (ix2 r k)
      * at' xs (Rect.unit (s := S3456x2048) ![o, 0] ![w, 2048] inb2) (ix2 j k) = prod x1 xs r n :=
  Finset.sum_congr rfl fun k _ => congrArg₂ (· * ·) (at_ix x1 0 0 inb1 r k r k (by omega) (by omega)) (at_ix xs o 0 inb2 j k n k e (by omega))

theorem prA_at (x1 : Vec Ideal S256x2048 .f32) (xs : Vec Ideal S3456x2048 .bf16) (r : Fin 256) (n : Fin 3456) (hn : (1024 ≤ n.val ∧ n.val < 2048) ∨ 3072 ≤ n.val) :
    (View.canon (prA x1 xs) : FVec Ideal S256x3456 .f32) (ix2 r n) = prod x1 xs r n := by
  unfold prA
  by_cases h : 1024 ≤ n.val ∧ n.val < 1024 + 1024
  · refine (col_hit 1024 _ _ _ r n h).trans ((pay6_at _ _ _ _).trans (tile_prod x1 xs _ _ r n _ ?_))
    show n.val = 1024 + (n.val - 1024); omega
  · refine (col_miss 1024 _ _ _ r n h).trans ((col_hit 3072 _ _ _ r n ⟨by omega, by omega⟩).trans ((pay5_at _ _ _ _).trans (tile_prod x1 xs _ _ r n _ ?_)))
    show n.val = 3072 + (n.val - 3072); omega

theorem prB_at (x1 : Vec Ideal S256x2048 .f32) (xs : Vec Ideal S3456x2048 .bf16) (r : Fin 256) (n : Fin 3456) (hn : n.val < 2048 ∨ 3072 ≤ n.val) :
    (View.canon (prB x1 xs) : FVec Ideal S256x3456 .f32) (ix2 r n) = prod x1 xs r n := by
  unfold prB
  by_cases h : 0 ≤ n.val ∧ n.val < 0 + 1024
  · refine (col_hit 0 _ _ _ r n h).trans ((pay15_at _ _ _ _).trans (tile_prod x1 xs _ _ r n _ ?_))
    show n.val = 0 + (n.val - 0); omega
  · exact (col_miss 0 _ _ _ r n h).trans (prA_at x1 xs r n (by omega))

theorem prC_at (x1 : Vec Ideal S256x2048 .f32) (xs : Vec Ideal S3456x2048 .bf16) (r : Fin 256) (n : Fin 3456) :
    (View.canon (prC x1 xs) : FVec Ideal S256x3456 .f32) (ix2 r n) = prod x1 xs r n := by
  unfold prC
  by_cases h : 2048 ≤ n.val ∧ n.val < 2048 + 1024
  · refine (col_hit 2048 _ _ _ r n h).trans ((pay30_at _ _ _ _).trans (tile_prod x1 xs _ _ r n _ ?_))
    show n.val = 2048 + (n.val - 2048); omega
  · exact (col_miss 2048 _ _ _ r n h).trans (prB_at x1 xs r n (by omega))

/-- A product moved towards the row before's: zero before a sequence's first row, the carried row before a block's first. -/
def mixE (f : BitVec 1) (x1 : Vec Ideal S256x2048 .f32) (xs : Vec Ideal S3456x2048 .bf16) (p : Vec Ideal S8x3456 .f32) (mu : Vec Ideal S1x3456 .f32) (r : Fin 256) (n : Fin 3456) : EReal :=
  prod x1 xs r n + mu (ix2 0 n) * ((if r.val = 0 then (if f = 1 then 0 else p (ix2 0 n)) else prod x1 xs ⟨r.val - 1, by omega⟩ n) - prod x1 xs r n)

theorem first_row : ∀ r : Fin 256, IntOp.cmpi CmpIPredicate.eq (BitVec.ofNat 32 r.val) 0#32 = 1 ↔ r.val = 0 := by decide +kernel
theorem low_col : ∀ x : Fin 128, IntOp.cmpi CmpIPredicate.slt (BitVec.ofNat 32 x.val) 64#32 = 1 ↔ x.val < 64 := by decide +kernel

/-- What the kernel's mixture of rows comes to at one entry. -/
theorem mix_at (f : BitVec 1) (x1 : Vec Ideal S256x2048 .f32) (xs : Vec Ideal S3456x2048 .bf16) (p : Vec Ideal S8x3456 .f32) (mu : Vec Ideal S1x3456 .f32) {w : ℕ}
    (pr : Vec Ideal ⟨2, ![256, w]⟩ .f32) (pv mv : Vec Ideal ⟨2, ![1, w]⟩ .f32) (r : Fin 256) (j : Fin w) (n : Fin 3456) (h)
    (hpr : ∀ r, pr (ix2 r j) = prod x1 xs r n) (hp : pv (ix2 0 j) = p (ix2 0 n)) (hm : mv (ix2 0 j) = mu (ix2 0 n)) :
    (pr (ix2 r j) + mv (ix2 0 j) * (Scalar.select (IntOp.cmpi CmpIPredicate.eq (BitVec.ofNat 32 r.val) 0#32) (Scalar.select f (0 : EReal) (pv (ix2 0 j)))
      (pr (ix2 ⟨(r.val + 256 - 1) % 256, h⟩ j)) - pr (ix2 r j)) : EReal) = mixE f x1 xs p mu r n := by
  rw [hpr, hpr, hp, hm]
  unfold mixE
  refine congrArg (fun z => prod x1 xs r n + mu (ix2 0 n) * (z - prod x1 xs r n)) ?_
  unfold Scalar.select
  by_cases h0 : r.val = 0
  · rw [if_pos h0, if_pos ((first_row r).mpr h0)]
  · rw [if_neg h0, if_neg fun h' => h0 ((first_row r).mp h')]
    exact congrArg (fun z => prod x1 xs z n) (Fin.ext (by show (r.val + 256 - 1) % 256 = r.val - 1; omega))

/-- A sum whose first 64 terms of 128 are zero. -/
theorem sum_high (G : Fin 128 → EReal) (h : ∀ x : Fin 128, x.val < 64 → G x = 0) : ∑ x, G x = ∑ q : Fin 64, G ⟨64 + q.val, by omega⟩ := by
  refine (Fin.sum_univ_add (a := 64) (b := 64) G).trans ?_
  rw [Finset.sum_eq_zero fun q _ => h _ q.isLt, zero_add]
  rfl

/-- A sum whose last 96 terms of 256 are zero. -/
theorem sum_low (G : Fin 256 → EReal) (h : ∀ x : Fin 256, 160 ≤ x.val → G x = 0) : ∑ x, G x = ∑ q : Fin 160, G ⟨q.val, by omega⟩ := by
  refine (Fin.sum_univ_add (a := 160) (b := 96) G).trans ?_
  rw [Finset.sum_eq_zero (s := Finset.univ (α := Fin 96)) fun q _ => h _ (by show 160 ≤ 160 + q.val; omega), add_zero]
  rfl

section

variable (i : grid0.Coords) (x1 : Vec Ideal S256x2048 .f32) (x3 : Vec Ideal S1x3456 .f32) (x4 x5 x6 x7 : Vec Ideal S1x1024 .f32) (x8 : Vec Ideal S128x2048 .bf16) (x9 : Vec Ideal S256x1024 .bf16)
  (xs : Vec Ideal S3456x2048 .bf16) (p : Vec Ideal S8x3456 .f32) (r : Fin 256)

theorem rOf_at (j : Fin 1024) : (rOf i x1 x3 x4 x5 x6 x7 x8 x9 xs p : FVec Ideal S256x1024 .f32) (ix2 r j)
    = mixE (runMul.sl.v22 i) x1 xs p x3 r ⟨j.val, by omega⟩ := by
  unfold rOf
  pointwise [k0_pay31, runMul.sl.v23]
  exact mix_at _ x1 xs p x3 _ _ _ r j _ _ (fun r => (at_ix _ 0 0 _ r j r ⟨j.val, by omega⟩ (by omega) (by simp)).trans (prC_at x1 xs r _))
    (at_ix _ 0 0 _ _ j 0 ⟨j.val, by omega⟩ (by simp) (by simp)) (at_ix _ 0 0 _ _ j 0 ⟨j.val, by omega⟩ (by simp) (by simp))

theorem vOf_at (j : Fin 1024) : (vOf i x1 x3 x4 x5 x6 x7 x8 x9 xs p : FVec Ideal S256x1024 .f32) (ix2 r j)
    = mixE (runMul.sl.v22 i) x1 xs p x3 r ⟨2048 + j.val, by omega⟩ := by
  unfold vOf
  pointwise [k0_pay32, runMul.sl.v23]
  exact mix_at _ x1 xs p x3 _ _ _ r j _ _ (fun r => (at_ix _ 0 2048 _ r j r ⟨2048 + j.val, by omega⟩ (by omega) rfl).trans (prC_at x1 xs r _))
    (at_ix _ 0 2048 _ _ j 0 ⟨2048 + j.val, by omega⟩ (by simp) rfl) (at_ix _ 0 2048 _ _ j 0 ⟨2048 + j.val, by omega⟩ (by simp) rfl)

theorem gOf_at (j : Fin 1024) : (gOf i x1 x3 x4 x5 x6 x7 x8 x9 xs p : FVec Ideal S256x1024 .f32) (ix2 r j)
    = ∑ q : Fin 256, Ideal.logistic (mixE (runMul.sl.v22 i) x1 xs p x3 r ⟨3200 + q.val, by omega⟩) * x9 (ix2 q j) := by
  unfold gOf
  pointwise [k0_pay12, k0_pay10, k0_pay11, runMul.sl.v23]
  refine Finset.sum_congr rfl fun q _ => ?_
  refine congrArg₂ (fun y z => Ideal.logistic y * z) (mix_at _ x1 xs p x3 _ _ _ r q _ _ (fun r => (at_ix _ 0 3200 _ r q r ⟨3200 + q.val, by omega⟩ (by omega) rfl).trans (prA_at x1 xs r _ (.inr (by show 3072 ≤ 3200 + q.val; omega))))
    (at_ix _ 0 3200 _ _ q 0 ⟨3200 + q.val, by omega⟩ (by simp) rfl) (at_ix _ 0 3200 _ _ q 0 ⟨3200 + q.val, by omega⟩ (by simp) rfl)) (at_ix _ 0 0 _ q j q j (by omega) (by omega))

/-- The flag of a sequence's first block, as the second layer's term states it. -/
theorem pay7_eq (z : Vec Ideal S1x128 .f32) : (k0_pay7 (BitVec.ofNat 32 (i 0).val) z : FVec Ideal S1x128 .f32) = Scalar.select (runMul.sl.v22 i) (fun _ => 0) z := by
  funext y
  pointwise [k0_pay7]
  rfl

theorem kOf_at (j : Fin 1024) (h8 : ∀ x : Fin 128, x.val < 64 → x8 (ix2 x ⟨1024 + j.val, by omega⟩) = 0) :
    (kOf i x1 x3 x4 x5 x6 x7 x8 x9 xs p : FVec Ideal S256x1024 .f32) (ix2 r j)
      = mixE (runMul.sl.v22 i) x1 xs p x3 r ⟨1024 + j.val, by omega⟩ * (1 + (Ideal.logistic (x5 (ix2 0 j)
        + ∑ q : Fin 64, mixE (runMul.sl.v22 i) x1 xs p x3 r ⟨3136 + q.val, by omega⟩ * x8 (ix2 ⟨64 + q.val, by omega⟩ ⟨1024 + j.val, by omega⟩)) - 1) * x7 (ix2 0 j)) := by
  unfold kOf aOf zOf
  rw [pay7_eq]
  pointwise [k0_pay18, k0_pay17, k0_pay16, k0_pay14, k0_pay9, k0_pay8, runMul.sl.v23]
  refine congrArg₂ (· * ·) (mix_at _ x1 xs p x3 _ _ _ r j _ _ (fun r => (at_ix _ 0 1024 _ r j r ⟨1024 + j.val, by omega⟩ (by omega) rfl).trans (prB_at x1 xs r _ (.inl (by show 1024 + j.val < 2048; omega))))
    (at_ix _ 0 1024 _ _ j 0 ⟨1024 + j.val, by omega⟩ (by simp) rfl) (at_ix _ 0 1024 _ _ j 0 ⟨1024 + j.val, by omega⟩ (by simp) rfl)) ?_
  refine congrArg₂ (fun y z => 1 + (Ideal.logistic y - 1) * z) ?_ (at_ix _ 0 0 _ _ j 0 j (by simp) (by omega))
  refine congrArg₂ (· + ·) (at_ix _ 0 0 _ _ j 0 j (by simp) (by omega)) ?_
  refine (sum_high _ fun x hx => ?_).trans (Finset.sum_congr rfl fun q _ => ?_)
  · rw [show at' x8 _ _ = _ from at_ix x8 0 0 _ x _ x ⟨1024 + j.val, by omega⟩ (by omega) (by simp), h8 x hx, mul_zero]
  · refine congrArg₂ (· * ·) ?_ (at_ix x8 0 0 _ _ _ _ ⟨1024 + j.val, by omega⟩ (by simp) (by simp))
    unfold Scalar.select
    rw [if_neg fun h' => absurd ((low_col _).mp h') (by show ¬64 + q.val < 64; omega)]
    exact mix_at _ x1 xs p x3 _ _ _ r _ _ _ (fun r => (at_ix _ 0 3072 _ r _ r ⟨3136 + q.val, by omega⟩ (by omega) (by show 3136 + q.val = 3072 + (64 + q.val); omega)).trans (prA_at x1 xs r _ (.inr (by show 3072 ≤ 3136 + q.val; omega))))
      (at_ix _ 0 3072 _ _ _ 0 ⟨3136 + q.val, by omega⟩ (by simp) (by show 3136 + q.val = 3072 + (64 + q.val); omega)) (at_ix _ 0 3072 _ _ _ 0 ⟨3136 + q.val, by omega⟩ (by simp) (by show 3136 + q.val = 3072 + (64 + q.val); omega))

end

end Cert.ProjRIdeal.Entry

end
-- ==== Proof.ProjRRef.lean ====
/- The recurrence's inputs in the reference, read at one token and one column. -/
module

public import proofs.«01_k».proof.Proof.Gen.ProjRRefIdeal.Run
public import Idealize.ShloMosaic.Lib.Pipeline.ValueKit

@[expose] public section

set_option maxRecDepth 16384

noncomputable section

open Idealize.ShloMosaic Idealize.ShloMosaic.TcCoe Idealize.SL.Sem

namespace Cert.ProjRRefIdeal.Rows

open Cert.ProjRRefIdeal Cert.ProjRRefIdeal.Gen

/-- One entry of the projection, zero past the projection's last column. -/
def proj (x : FVec Ideal S8192x2048 .f32) (w : FVec Ideal S1x2048x6432 .f32) (i n : ℕ) : EReal :=
  if h : i < 8192 ∧ 3072 + n < 6432 then ∑ k : Fin 2048, x (ix2 ⟨i, h.1⟩ k) * w (ix3 0 k ⟨3072 + n, h.2⟩) else 0

/-- The entry of the token before, zero for a sequence's first token. -/
def prev (x : FVec Ideal S8192x2048 .f32) (w : FVec Ideal S1x2048x6432 .f32) (i n : ℕ) : EReal := if i % 2048 = 0 then 0 else proj x w (i - 1) n

/-- The entry moved towards the token before's. -/
def mixed (x : FVec Ideal S8192x2048 .f32) (w : FVec Ideal S1x2048x6432 .f32) (mu : FVec Ideal S1x3360 .f32) (i n : ℕ) : EReal :=
  proj x w i n + (if h : n < 3360 then mu (ix2 0 ⟨n, h⟩) else 0) * (prev x w i n - proj x w i n)

/-- The logistic function. -/
def sig (z : EReal) : EReal := Ideal.logistic z

/-- The reference's projection as one term of its arguments, -/
def projT (x : FVec Ideal S8192x2048 .f32) (w : FVec Ideal S1x2048x6432 .f32) : FVec Ideal S4x2048x3360 .f32 :=
  (extractStridedSlice S4x2048x3360 ![0, 0, 3072] (shapeCast _ (Host.dotGeneral dot_S8192x2048_S2048x6432_S8192x6432_1_0_0_1_n_n none x (shapeCast _ w shapeCasts_S1x2048x6432_S2048x6432)) shapeCasts_S8192x6432_S4x2048x6432) slices_S4x2048x6432_S4x2048x3360_0_0_3072)
/-- and the mixture of neighbouring tokens. -/
def mixT (x : FVec Ideal S8192x2048 .f32) (w : FVec Ideal S1x2048x6432 .f32) (mu : FVec Ideal S1x3360 .f32) : FVec Ideal S4x2048x3360 .f32 :=
  (addf (projT x w) (mulf (broadcastInDim S4x2048x3360 ![0, 1, 2] bcast_S1x1x3360_S4x2048x3360_0_1_2 (broadcastInDim S1x1x3360 ![2] bcast_S3360_S1x1x3360_2 (shapeCast _ mu shapeCasts_S1x3360_S3360))) (subf (extractStridedSlice S4x2048x3360 ![0, 0, 0] (pad S4x2049x3360 ![0, 1, 0] ![0, 0, 0] ![0, 0, 0] (projT x w) (sitofp .f32 (constantI S_ 32 0#32)) pads_S4x2048x3360_S4x2049x3360_000_100_000 h_S_) slices_S4x2049x3360_S4x2048x3360_0_0_0) (projT x w))))

theorem projT_at (x : FVec Ideal S8192x2048 .f32) (w : FVec Ideal S1x2048x6432 .f32) (b : Fin 4) (s : Fin 2048) (n : Fin 3360) : projT x w (ix3 b s n) = proj x w (b.val * 2048 + s.val) n.val := by
  unfold proj
  rw [dif_pos ⟨by omega, by omega⟩]
  pointwise [projT]

theorem mixT_at (x : FVec Ideal S8192x2048 .f32) (w : FVec Ideal S1x2048x6432 .f32) (mu : FVec Ideal S1x3360 .f32) (b : Fin 4) (s : Fin 2048) (n : Fin 3360) : mixT x w mu (ix3 b s n) = mixed x w mu (b.val * 2048 + s.val) n.val := by
  unfold mixed
  rw [dif_pos n.isLt, ← projT_at x w b s n]
  unfold mixT
  generalize hp : projT x w = p
  pointwise
  refine congrArg (fun z => p (ix3 b s n) + mu (ix2 0 n) * (z - p (ix3 b s n))) ?_
  unfold prev
  have hb : (b.val * 2048 + s.val) % 2048 = s.val := by omega
  rw [hb]
  by_cases h0 : s.val = 0
  · rw [if_pos h0, dif_neg (by omega)]
    show (((0#32 : BitVec 32).toInt : ℝ) : EReal) = 0
    simp
  · rw [if_neg h0, dif_pos ⟨by omega, by omega⟩, ← hp, projT_at]
    refine congrArg (fun z => proj x w z n.val) ?_
    show b.val * 2048 + (s.val - 1) = b.val * 2048 + s.val - 1
    omega

theorem mix_row (x : FVec Ideal S8192x2048 .f32) (w : FVec Ideal S1x2048x6432 .f32) (mu : FVec Ideal S1x3360 .f32) (i : Fin 8192) (n : Fin 3360) (h1) (h2) : mixT x w mu (ix3 ⟨i.val / 2048, h1⟩ ⟨i.val % 2048, h2⟩ n) = mixed x w mu i.val n.val :=
  (mixT_at x w mu _ _ n).trans (congrArg (fun z => mixed x w mu z n.val) (show i.val / 2048 * 2048 + i.val % 2048 = i.val by omega))

/-- The four results as terms of the arguments. -/
def rT (x : FVec Ideal S8192x2048 .f32) (w : FVec Ideal S1x2048x6432 .f32) (mu : FVec Ideal S1x3360 .f32) : FVec Ideal S8192x1024 .f32 := shapeCast _ (extractStridedSlice S4x2048x1024 ![0, 0, 0] (mixT x w mu) slices_S4x2048x3360_S4x2048x1024_0_0_0) shapeCasts_S4x2048x1024_S8192x1024
def vT (x : FVec Ideal S8192x2048 .f32) (w : FVec Ideal S1x2048x6432 .f32) (mu : FVec Ideal S1x3360 .f32) : FVec Ideal S8192x1024 .f32 := shapeCast _ (extractStridedSlice S4x2048x1024 ![0, 0, 2048] (mixT x w mu) slices_S4x2048x3360_S4x2048x1024_0_0_2048) shapeCasts_S4x2048x1024_S8192x1024
def gT (x : FVec Ideal S8192x2048 .f32) (w : FVec Ideal S1x2048x6432 .f32) (mu : FVec Ideal S1x3360 .f32) (g2 : FVec Ideal S1x160x1024 .f32) : FVec Ideal S8192x1024 .f32 := shapeCast _ (Host.dotGeneral dot_S4x2048x160_S160x1024_S4x2048x1024_2_0_01_1_n_n none (Host.divf (broadcastInDim S4x2048x160 ![] bcast_S_S4x2048x160 (constant S_ .f32 0x3F800000#32)) (addf (broadcastInDim S4x2048x160 ![] bcast_S_S4x2048x160 (constant S_ .f32 0x3F800000#32)) (Host.exp (Host.negf (extractStridedSlice S4x2048x160 ![0, 0, 3200] (mixT x w mu) slices_S4x2048x3360_S4x2048x160_0_0_3200))))) (shapeCast _ g2 shapeCasts_S1x160x1024_S160x1024)) shapeCasts_S4x2048x1024_S8192x1024
def kT (x : FVec Ideal S8192x2048 .f32) (w : FVec Ideal S1x2048x6432 .f32) (mu : FVec Ideal S1x3360 .f32) (a0 : FVec Ideal S1x1024 .f32) (a2 : FVec Ideal S1x64x1024 .f32) (ka : FVec Ideal S1x1024 .f32) : FVec Ideal S8192x1024 .f32 := shapeCast _ (mulf (extractStridedSlice S4x2048x1024 ![0, 0, 1024] (mixT x w mu) slices_S4x2048x3360_S4x2048x1024_0_0_1024) (addf (broadcastInDim S4x2048x1024 ![] bcast_S_S4x2048x1024 (constant S_ .f32 0x3F800000#32)) (mulf (subf (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (addf (broadcastInDim S4x2048x1024 ![0, 1, 2] bcast_S1x1x1024_S4x2048x1024_0_1_2 (broadcastInDim S1x1x1024 ![2] bcast_S1024_S1x1x1024_2 (shapeCast _ a0 shapeCasts_S1x1024_S1024))) (Host.dotGeneral dot_S4x2048x64_S64x1024_S4x2048x1024_2_0_01_1_n_n none (extractStridedSlice S4x2048x64 ![0, 0, 3136] (mixT x w mu) slices_S4x2048x3360_S4x2048x64_0_0_3136) (shapeCast _ a2 shapeCasts_S1x64x1024_S64x1024))))))) (broadcastInDim S4x2048x1024 ![] bcast_S_S4x2048x1024 (constant S_ .f32 0x3F800000#32))) (broadcastInDim S4x2048x1024 ![0, 1, 2] bcast_S1x1x1024_S4x2048x1024_0_1_2 (broadcastInDim S1x1x1024 ![2] bcast_S1024_S1x1x1024_2 (shapeCast _ ka shapeCasts_S1x1024_S1024)))))) shapeCasts_S4x2048x1024_S8192x1024

theorem rT_at (x : FVec Ideal S8192x2048 .f32) (w : FVec Ideal S1x2048x6432 .f32) (mu : FVec Ideal S1x3360 .f32) (i : Fin 8192) (j : Fin 1024) : rT x w mu (ix2 i j) = mixed x w mu i.val j.val := by
  unfold rT
  have key := mix_row x w mu
  generalize mixT x w mu = q at key
  pointwise
  simp only [key]
  try rfl
theorem vT_at (x : FVec Ideal S8192x2048 .f32) (w : FVec Ideal S1x2048x6432 .f32) (mu : FVec Ideal S1x3360 .f32) (i : Fin 8192) (j : Fin 1024) : vT x w mu (ix2 i j) = mixed x w mu i.val (2048 + j.val) := by
  unfold vT
  have key := mix_row x w mu
  generalize mixT x w mu = q at key
  pointwise
  simp only [key]
  try rfl
theorem gT_at (x : FVec Ideal S8192x2048 .f32) (w : FVec Ideal S1x2048x6432 .f32) (mu : FVec Ideal S1x3360 .f32) (g2 : FVec Ideal S1x160x1024 .f32) (i : Fin 8192) (j : Fin 1024) : gT x w mu g2 (ix2 i j) = ∑ q : Fin 160, sig (mixed x w mu i.val (3200 + q.val)) * g2 (ix3 0 q j) := by
  unfold gT
  have key := mix_row x w mu
  generalize mixT x w mu = q at key
  pointwise
  simp only [key]
  try rfl
theorem kT_at (x : FVec Ideal S8192x2048 .f32) (w : FVec Ideal S1x2048x6432 .f32) (mu : FVec Ideal S1x3360 .f32) (a0 : FVec Ideal S1x1024 .f32) (a2 : FVec Ideal S1x64x1024 .f32) (ka : FVec Ideal S1x1024 .f32) (i : Fin 8192) (j : Fin 1024) : kT x w mu a0 a2 ka (ix2 i j)
    = mixed x w mu i.val (1024 + j.val) * (1 + (sig (a0 (ix2 0 j) + ∑ q : Fin 64, mixed x w mu i.val (3136 + q.val) * a2 (ix3 0 q j)) - 1) * ka (ix2 0 j)) := by
  unfold kT
  have key := mix_row x w mu
  generalize mixT x w mu = q at key
  pointwise
  simp only [key]
  try rfl
end Cert.ProjRRefIdeal.Rows

end
-- ==== Proof.ProjRValue.lean ====
/- The projection feeding the recurrence: r, k, v and the gate are the reference's. -/
module

public import proofs.«01_k».proof.Defs
public import proofs.«01_k».proof.Proof.ProjRFrame
public import proofs.«01_k».proof.Proof.ProjRPay
public import proofs.«01_k».proof.Proof.ProjRRef
public import Idealize.ShloMosaic.Lib.Routing.OpsSet
public import Idealize.ShloMosaic.Lib.Routing.OpsPair
public import Idealize.ShloMosaic.Lib.Routing.OpsOne

@[expose] public section

set_option maxRecDepth 16384

noncomputable section

open Idealize.ShloMosaic Idealize.ShloMosaic.TcCoe Idealize.SL.Sem

namespace Cert.ProjRIdeal.Whole

open Cert.ProjRIdeal Cert.ProjRIdeal.Gen Cert.ProjRIdeal.Stage Cert.ProjRIdeal.Entry
open Cert.ProjRRefIdeal.Rows (proj prev mixed sig rT vT gT kT)

variable (m : (ℓ : Loc nD τ sig) → Buf (Elt Ideal) ℓ)

/-- The token rows, -/
abbrev X (c : Dev nD) : FVec Ideal S8192x2048 .f32 := m ((c : Thread nD τ).loc main_arg0)
/-- the input weights, -/
abbrev W (c : Dev nD) : FVec Ideal S1x2048x6432 .f32 := m ((c : Thread nD τ).loc main_arg1)
/-- the mixing weights, -/
abbrev MU (c : Dev nD) : FVec Ideal S1x3360 .f32 := m ((c : Thread nD τ).loc main_arg2)
/-- the rates' offset, -/
abbrev A0 (c : Dev nD) : FVec Ideal S1x1024 .f32 := m ((c : Thread nD τ).loc main_arg5)
/-- the rates' second layer, -/
abbrev A2 (c : Dev nD) : FVec Ideal S1x64x1024 .f32 := m ((c : Thread nD τ).loc main_arg6)
/-- the gate's second layer, -/
abbrev G2 (c : Dev nD) : FVec Ideal S1x160x1024 .f32 := m ((c : Thread nD τ).loc main_arg7)
/-- the keys' scale. -/
abbrev KA (c : Dev nD) : FVec Ideal S1x1024 .f32 := m ((c : Thread nD τ).loc main_arg9)

/-! ## What the host line leaves in the windows' arrays -/

theorem V21 (c : Dev nD) (j : Fin 1024) : (V m c main_v21 : FVec Ideal S1x1024 .f32) (ix2 0 j) = A0 m c (ix2 0 j) := by
  unfold V
  simp only [hostOps0, hostOps0_1, hostOps0_2, hostOps0_3, hostOps0_4, List.flatten_cons, List.flatten_nil, List.append_nil, List.cons_append, List.nil_append]
  after_results
  pointwise
theorem V25 (c : Dev nD) (j : Fin 1024) : (V m c main_v25 : FVec Ideal S1x1024 .f32) (ix2 0 j) = KA m c (ix2 0 j) := by
  unfold V
  simp only [hostOps0, hostOps0_1, hostOps0_2, hostOps0_3, hostOps0_4, List.flatten_cons, List.flatten_nil, List.append_nil, List.cons_append, List.nil_append]
  after_results
  pointwise
theorem V1 (c : Dev nD) (n : Fin 6432) (k : Fin 2048) : (V m c main_v1 : FVec Ideal S6432x2048 .f32) (ix2 n k) = W m c (ix3 0 k n) := by
  unfold V
  simp only [hostOps0, hostOps0_1, hostOps0_2, hostOps0_3, hostOps0_4, List.flatten_cons, List.flatten_nil, List.append_nil, List.cons_append, List.nil_append]
  after_results
  pointwise
theorem V17 (c : Dev nD) (n : Fin 3456) : (V m c main_v17 : FVec Ideal S1x3456 .f32) (ix2 0 n) = if h : n.val < 3360 then MU m c (ix2 0 ⟨n.val, h⟩) else 0 := by
  unfold V
  simp only [hostOps0, hostOps0_1, hostOps0_2, hostOps0_3, hostOps0_4, List.flatten_cons, List.flatten_nil, List.append_nil, List.cons_append, List.nil_append]
  after_results
  show (shapeCast S1x3456 (pad S3456 ![0] ![96] ![0] (shapeCast S3360 (MU m c) shapeCasts_S1x3360_S3360 : FVec Ideal S3360 .f32)
    (sitofp .f32 (constantI S_ 32 0#32) : FVec Ideal S_ .f32) pads_S3360_S3456_0960 h_S_ : FVec Ideal S3456 .f32) shapeCasts_S3456_S1x3456 : FVec Ideal S1x3456 .f32) (ix2 0 n) = _
  pointwise
  by_cases h : n.val < 3360
  · rw [dif_pos h, dif_pos h]
  · rw [dif_neg h, dif_neg h]
    show (((0#32 : BitVec 32).toInt : ℝ) : EReal) = 0
    simp
theorem V27 (c : Dev nD) (q : Fin 256) (j : Fin 1024) : (V m c main_v27 : FVec Ideal S256x1024 .bf16) (ix2 q j) = if h : q.val < 160 then G2 m c (ix3 0 ⟨q.val, h⟩ j) else 0 := by
  unfold V
  simp only [hostOps0, hostOps0_1, hostOps0_2, hostOps0_3, hostOps0_4, List.flatten_cons, List.flatten_nil, List.append_nil, List.cons_append, List.nil_append]
  after_results
  show (pad S256x1024 ![0, 0] ![96, 0] ![0, 0] (shapeCast S160x1024 (G2 m c) shapeCasts_S1x160x1024_S160x1024 : FVec Ideal S160x1024 .f32)
    (sitofp .f32 (constantI S_ 32 0#32) : FVec Ideal S_ .f32) pads_S160x1024_S256x1024_0960_000 h_S_ : FVec Ideal S256x1024 .f32) (ix2 q j) = _
  pointwise
  by_cases h : q.val < 160
  · rw [dif_pos h, dif_pos h]
  · rw [dif_neg h, dif_neg h]
    show (((0#32 : BitVec 32).toInt : ℝ) : EReal) = 0
    simp

/-- Part of a matrix set at literal indices, read at one entry. -/
theorem set_at (x : FVec Ideal S128x2048 .f32) (idx : IVec S2 32) (u : FVec Ideal S64x1024 .f32) (r0 c0 : ℕ) (h0 : (idx (ix1 0)).toInt = r0) (h1 : (idx (ix1 1)).toInt = c0)
    (r : Fin 128) (n : Fin 2048) :
    Host.scatter scatter_S128x2048_S2_S64x1024_01_n_01_0 (fun _ b => b) x idx u (ix2 r n)
      = if h : (r0 ≤ r.val ∧ r.val < r0 + 64) ∧ (c0 ≤ n.val ∧ n.val < c0 + 1024) then u (ix2 ⟨r.val - r0, by omega⟩ ⟨n.val - c0, by omega⟩) else x (ix2 r n) := by
  have land : ∀ k : S64x1024.Idx, scatter_S128x2048_S2_S64x1024_01_n_01_0.resultIdx? k idx = some (ix2 r n) ↔ r0 + (k 0).val = r.val ∧ c0 + (k 1).val = n.val := by
    intro k
    refine (Routing.resultIdx?_ix2 (R := 128) (C := 2048) scatter_S128x2048_S2_S64x1024_01_n_01_0 k idx r n).trans ?_
    have s0 : scatter_S128x2048_S2_S64x1024_01_n_01_0.start k idx 0 = r0 :=
      (Routing.start_pair (R := 128) (C := 2048) scatter_S128x2048_S2_S64x1024_01_n_01_0 rfl rfl idx k 0).trans h0
    have s1 : scatter_S128x2048_S2_S64x1024_01_n_01_0.start k idx 1 = c0 :=
      (Routing.start_pair (R := 128) (C := 2048) scatter_S128x2048_S2_S64x1024_01_n_01_0 rfl rfl idx k 1).trans h1
    have w0 : scatter_S128x2048_S2_S64x1024_01_n_01_0.window k 0 = (k 0).val := rfl
    have w1 : scatter_S128x2048_S2_S64x1024_01_n_01_0.window k 1 = (k 1).val := rfl
    rw [s0, s1, w0, w1]
    omega
  by_cases h : (r0 ≤ r.val ∧ r.val < r0 + 64) ∧ (c0 ≤ n.val ∧ n.val < c0 + 1024)
  · rw [dif_pos h]
    refine Routing.scatter_set_hit _ x idx u _ _ (fun k hk => ?_) (ix2 ⟨r.val - r0, by omega⟩ ⟨n.val - c0, by omega⟩) ((land _).mpr ⟨?_, ?_⟩)
    · have := (land k).mp hk
      refine congrArg u (funext fun a => Fin.ext ?_)
      fin_cases a
      · show (k 0).val = r.val - r0; omega
      · show (k 1).val = n.val - c0; omega
    · show r0 + (r.val - r0) = r.val; omega
    · show c0 + (n.val - c0) = n.val; omega
  · rw [dif_neg h]
    refine Routing.scatter_set_miss _ x idx u _ fun k hk => h ?_
    have := (land k).mp hk
    have h2 : (k 0).val < 64 := (k 0).isLt
    have h3 : (k 1).val < 1024 := (k 1).isLt
    omega

/-- A pair of literal indices as the host line makes it. -/
def idxT (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem idxT_at (a b : BitVec 32) : idxT a b (ix1 0) = a ∧ idxT a b (ix1 1) = b := by
  constructor <;> pointwise [idxT]

/-- The two second layers as the host line sets them into one matrix. -/
def w12T (w2 a2 : FVec Ideal S1x64x1024 .f32) : FVec Ideal S128x2048 .f32 :=
  Host.scatter scatter_S128x2048_S2_S64x1024_01_n_01_0 (fun _ b => b) (Host.scatter scatter_S128x2048_S2_S64x1024_01_n_01_0 (fun _ b => b)
      (broadcastInDim S128x2048 ![] bcast_S_S128x2048 (constant S_ .f32 0#32) : FVec Ideal S128x2048 .f32) (idxT 0#32 0#32)
      (shapeCast S64x1024 w2 shapeCasts_S1x64x1024_S64x1024 : FVec Ideal S64x1024 .f32))
    (idxT 64#32 1024#32) (shapeCast S64x1024 a2 shapeCasts_S1x64x1024_S64x1024 : FVec Ideal S64x1024 .f32)

theorem V26_eq (c : Dev nD) : (V m c main_v26 : FVec Ideal S128x2048 .bf16) = truncf .bf16 (w12T (m ((c : Thread nD τ).loc main_arg4)) (A2 m c)) bitsLt_bf16_f32 := by
  unfold V
  simp only [hostOps0, hostOps0_1, hostOps0_2, hostOps0_3, hostOps0_4, List.flatten_cons, List.flatten_nil, List.append_nil, List.cons_append, List.nil_append]
  after_results
  refine congrArg (fun z : FVec Ideal S128x2048 .f32 => (truncf .bf16 z bitsLt_bf16_f32 : FVec Ideal S128x2048 .bf16)) ?_
  unfold w12T idxT
  refine congrArg₂ (fun (a : FVec Ideal S128x2048 .f32) (b : FVec Ideal S64x1024 .f32) => Host.scatter scatter_S128x2048_S2_S64x1024_01_n_01_0 (fun _ b => b) a
    (concatenate S2 0 [⟨S1, broadcastInDim S1 ![] bcast_S_S1 (constantI S_ 32 64#32)⟩, ⟨S1, broadcastInDim S1 ![] bcast_S_S1 (constantI S_ 32 1024#32)⟩] concatenates_S1_S1_S2_d0) b) ?_ ?_
  · refine congrArg (fun (b : FVec Ideal S64x1024 .f32) => Host.scatter scatter_S128x2048_S2_S64x1024_01_n_01_0 (fun _ b => b) (broadcastInDim S128x2048 ![] bcast_S_S128x2048 (constant S_ .f32 0#32) : FVec Ideal S128x2048 .f32)
      (concatenate S2 0 [⟨S1, broadcastInDim S1 ![] bcast_S_S1 (constantI S_ 32 0#32)⟩, ⟨S1, broadcastInDim S1 ![] bcast_S_S1 (constantI S_ 32 0#32)⟩] concatenates_S1_S1_S2_d0) b) ?_
    rfl
  · rfl

theorem V26 (c : Dev nD) (q : Fin 128) (j : Fin 1024) : (V m c main_v26 : FVec Ideal S128x2048 .bf16) (ix2 q ⟨1024 + j.val, by omega⟩)
    = if h : 64 ≤ q.val then A2 m c (ix3 0 ⟨q.val - 64, by omega⟩ j) else 0 := by
  refine (congrFun (V26_eq m c) (ix2 q ⟨1024 + j.val, by omega⟩)).trans ?_
  refine Eq.trans (?_ : _ = w12T (m ((c : Thread nD τ).loc main_arg4)) (A2 m c) (ix2 q ⟨1024 + j.val, by omega⟩)) ?_
  · generalize w12T _ _ = z
    pointwise
  unfold w12T
  rw [set_at _ _ _ 64 1024 (by rw [(idxT_at _ _).1]; rfl) (by rw [(idxT_at _ _).2]; rfl)]
  by_cases h : 64 ≤ q.val
  · rw [dif_pos h, dif_pos ⟨⟨h, by omega⟩, by show 1024 ≤ 1024 + j.val; omega, by show 1024 + j.val < _; omega⟩]
    pointwise
  · rw [dif_neg h, dif_neg fun h' => h h'.1.1, set_at _ _ _ 0 0 (by rw [(idxT_at _ _).1]; rfl) (by rw [(idxT_at _ _).2]; rfl),
      dif_neg fun h' => absurd h'.2.2 (by show ¬1024 + j.val < _; omega)]
    pointwise

/-! ## The blocks -/

/-- The row of the whole array that row `r` of point `t`'s token block is. -/
def rowOf (t : Fin cfg0.N) (r : Fin 256) : Fin 8192 := ⟨(t.val - 9) * 256 + r.val, by
  have h : t.val < 41 := t.isLt
  have := r.isLt
  omega⟩

theorem idx0 : ∀ t : Fin cfg0.N, win0_0.index t = ![t.val - 9, 0] := (by decide +kernel : ∀ t : Fin grid0.N, _)
theorem idx1 : ∀ t : Fin cfg0.N, t.val < 9 → win0_1.index t = ![8 + t.val, 0] := (by decide +kernel : ∀ t : Fin grid0.N, _)
theorem idx2 : ∀ t : Fin cfg0.N, win0_2.index t = ![0, 0] := (by decide +kernel : ∀ t : Fin grid0.N, _)
theorem idx4 : ∀ t : Fin cfg0.N, win0_4.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem outs : ∀ t : Fin cfg0.N, win0_9.index t = ![t.val - 9, 0] ∧ win0_11.index t = ![t.val - 9, 0] ∧ win0_12.index t = ![t.val - 9, 0] ∧ win0_15.index t = ![t.val - 9, 0]
    ∧ ∀ w : Fin cfg0.W, 9 ≤ w.val → (cfg0.win w).flush t = true → 9 ≤ t.val := (by decide +kernel : ∀ t : Fin grid0.N, _)

theorem blk0 (c : Dev nD) (t : Fin cfg0.N) (r : Fin 256) (k : Fin 2048) :
    (show FVec Ideal S256x2048 .f32 from iblk m c 0 t) (ix2 r k) = X m c (ix2 (rowOf t r) k) := by
  blk_ext [iblk, V, idx0 t, rowOf]

theorem moved1 : ∀ t : Fin cfg0.N, t.val < 9 → ∀ r : Fin 384, (8 + t.val) * 384 + r.val < 6432 → r.val < (cfg0.win 1).xsize (grid0.coords t) 0 :=
  (by decide +kernel : ∀ t : Fin grid0.N, _)

/-- A staging point's weight rows: columns of the weights. -/
theorem blk1 (c : Dev nD) (t : Fin cfg0.N) (ht : t.val < 9) (r : Fin 384) (k : Fin 2048) (h : (8 + t.val) * 384 + r.val < 6432) :
    (wblk m c t : FVec Ideal S384x2048 .f32) (ix2 r k) = W m c (ix3 0 k ⟨(8 + t.val) * 384 + r.val, h⟩) := by
  unfold wblk Pipeline.Window.fill
  dsimp only
  rw [dif_pos (((cfg0.win 1).moved_iff _ _).mpr fun a => by
    fin_cases a
    · exact moved1 t ht r h
    · exact lt_of_lt_of_eq k.isLt (in_cols t ht).symm)]
  refine Eq.trans ?_ (V1 m c ⟨(8 + t.val) * 384 + r.val, h⟩ k)
  blk_ext [iblk, idx1 t ht]

theorem in_range : ∀ t : Fin cfg0.N, t.val < 9 → ∀ r : Fin 384, IntOp.cmpi CmpIPredicate.slt
    (IntOp.addi (Scalar.muli (Scalar.addi 8#32 (BitVec.ofNat 32 (grid0.coords t 0).val)) 384#32) (BitVec.ofNat 32 r.val)) 6432#32 = 1 ↔ (8 + t.val) * 384 + r.val < 6432 :=
  (by decide +kernel : ∀ t : Fin grid0.N, _)

theorem tile_at (c : Dev nD) (t : Fin cfg0.N) (ht : t.val < 9) (r : Fin 384) (k : Fin 2048) :
    (tile m c t : FVec Ideal S384x2048 .bf16) (ix2 r k) = if h : (8 + t.val) * 384 + r.val < 6432 then W m c (ix3 0 k ⟨(8 + t.val) * 384 + r.val, h⟩) else 0 := by
  unfold tile
  pointwise [k0_pay2]
  unfold Scalar.select
  by_cases h : (8 + t.val) * 384 + r.val < 6432
  · rw [dif_pos h, if_pos ((in_range t ht r).mpr h)]
    exact (at_ix (wblk m c t) 0 0 _ r k r k (by omega) (by omega)).trans (blk1 m c t ht r k h)
  · rw [dif_neg h, if_neg fun h' => h ((in_range t ht r).mp h')]

/-- The staged weights: column `3072 + n` of the weights, as row `n`; zero past the last. -/
theorem staged_at (c : Dev nD) (n : Fin 3456) (k : Fin 2048) :
    (staged m c : FVec Ideal S3456x2048 .bf16) (ix2 n k) = if h : 3072 + n.val < 6432 then W m c (ix3 0 k ⟨3072 + n.val, h⟩) else 0 := by
  have hp : (ptOf n).val < 9 := by
    have := n.isLt
    show n.val / 384 < 9
    omega
  have e : (8 + (ptOf n).val) * 384 + n.val % 384 = 3072 + n.val := by
    show (8 + n.val / 384) * 384 + n.val % 384 = 3072 + n.val
    omega
  refine (tile_at m c (ptOf n) hp ⟨n.val % 384, Nat.mod_lt _ (by omega)⟩ k).trans ?_
  by_cases h : 3072 + n.val < 6432
  · rw [dif_pos h, dif_pos (by rw [e]; exact h)]
    exact congrArg (fun z => W m c (ix3 0 k z)) (Fin.ext e)
  · rw [dif_neg h, dif_neg (by rw [e]; exact h)]

/-- A product is an entry of the projection. -/
theorem prod_proj (c : Dev nD) (t : Fin cfg0.N) (r : Fin 256) (n : Fin 3456) :
    prod (iblk m c 0 t) (staged m c) r n = proj (X m c) (W m c) ((t.val - 9) * 256 + r.val) n.val := by
  unfold prod proj
  by_cases h : 3072 + n.val < 6432
  · rw [dif_pos ⟨(rowOf t r).isLt, h⟩]
    refine Finset.sum_congr rfl fun k _ => congrArg₂ (· * ·) (blk0 m c t r k) ?_
    rw [staged_at, dif_pos h]
  · rw [dif_neg fun h' => h h'.2]
    exact Finset.sum_eq_zero fun k _ => by rw [staged_at, dif_neg h, mul_zero]

/-- The carried row is the projection's row of the token before. -/
theorem carried_at (c : Dev nD) (t : Fin cfg0.N) (ht : 9 < t.val) (n : Fin 3456) :
    (carried m c t.val : FVec Ideal S8x3456 .f32) (ix2 0 n) = proj (X m c) (W m c) ((t.val - 9) * 256 - 1) n.val := by
  obtain ⟨q, hq⟩ : ∃ q, t.val = q + 1 := ⟨t.val - 1, by omega⟩
  have hN : q < cfg0.N := by have := t.isLt; omega
  rw [hq]
  unfold carried
  rw [dif_pos ⟨by omega, hN⟩]
  refine (if_pos rfl).trans ?_
  show k0_pay3 (lastRow (iblk m c 0 ⟨q, hN⟩) (staged m c)) (ix2 0 n) = _
  pointwise [k0_pay3]
  unfold lastRow
  refine (at_ix _ 255 0 _ _ n 255 n (by simp) (by simp)).trans ((prC_at _ _ _ _).trans ((prod_proj m c ⟨q, hN⟩ 255 n).trans ?_))
  refine congrArg (fun z => proj (X m c) (W m c) z n.val) ?_
  show (q - 9) * 256 + 255 = (q + 1 - 9) * 256 - 1
  omega

theorem first_block : ∀ t : Fin cfg0.N, 9 ≤ t.val → (runMul.sl.v22 (grid0.coords t) = 1 ↔ (t.val - 9) % 8 = 0) := (by decide +kernel : ∀ t : Fin grid0.N, _)

/-- The mixing weights as the kernel has them: zero past the last. -/
theorem blk2 (c : Dev nD) (t : Fin cfg0.N) (n : Fin 3456) :
    (show FVec Ideal S1x3456 .f32 from iblk m c 2 t) (ix2 0 n) = if h : n.val < 3360 then MU m c (ix2 0 ⟨n.val, h⟩) else 0 := by
  refine Eq.trans ?_ (V17 m c n)
  blk_ext [iblk, idx2 t]

theorem blk4 (c : Dev nD) (t : Fin cfg0.N) (j : Fin 1024) : (show FVec Ideal S1x1024 .f32 from iblk m c 4 t) (ix2 0 j) = A0 m c (ix2 0 j) := by
  refine Eq.trans ?_ (V21 m c j)
  blk_ext [iblk, idx4 t]

theorem blk6 (c : Dev nD) (t : Fin cfg0.N) (j : Fin 1024) : (show FVec Ideal S1x1024 .f32 from iblk m c 6 t) (ix2 0 j) = KA m c (ix2 0 j) := by
  refine Eq.trans ?_ (V25 m c j)
  blk_ext [iblk, idx6 t]

theorem blk8 (c : Dev nD) (t : Fin cfg0.N) (q : Fin 256) (j : Fin 1024) :
    (show FVec Ideal S256x1024 .bf16 from iblk m c 8 t) (ix2 q j) = if h : q.val < 160 then G2 m c (ix3 0 ⟨q.val, h⟩ j) else 0 := by
  refine Eq.trans ?_ (V27 m c q j)
  blk_ext [iblk, idx8 t]

theorem win7 (c : Dev nD) (t : Fin cfg0.N) (q : Fin 128) (n : Fin 2048) :
    (show FVec Ideal S128x2048 .bf16 from iblk m c 7 t) (ix2 q n) = (V m c main_v26 : FVec Ideal S128x2048 .bf16) (ix2 q n) := by
  have e : (win0_7.blk t).view.emb (ix2 q n) = ix2 q n := by
    blk_ext [idx7 t]
  unfold iblk
  exact congrArg (V m c main_v26) e

theorem blk7 (c : Dev nD) (t : Fin cfg0.N) (q : Fin 128) (j : Fin 1024) :
    (show FVec Ideal S128x2048 .bf16 from iblk m c 7 t) (ix2 q ⟨1024 + j.val, by omega⟩) = if h : 64 ≤ q.val then A2 m c (ix3 0 ⟨q.val - 64, by omega⟩ j) else 0 :=
  (win7 m c t q _).trans (V26 m c q j)

/-- The kernel's mixture is the reference's. -/
theorem mixE_mixed (c : Dev nD) (t : Fin cfg0.N) (ht : 9 ≤ t.val) (r : Fin 256) (n : Fin 3456) :
    mixE (runMul.sl.v22 (grid0.coords t)) (iblk m c 0 t) (staged m c) (carried m c t.val) (iblk m c 2 t) r n = mixed (X m c) (W m c) (MU m c) ((t.val - 9) * 256 + r.val) n.val := by
  have hr := r.isLt
  unfold mixE mixed
  rw [prod_proj, prod_proj]
  refine congrArg₂ (fun y z => proj (X m c) (W m c) ((t.val - 9) * 256 + r.val) n.val + y * (z - proj (X m c) (W m c) ((t.val - 9) * 256 + r.val) n.val)) (blk2 m c t n) ?_
  unfold prev
  by_cases h0 : r.val = 0
  · rw [if_pos h0]
    by_cases hf : (t.val - 9) % 8 = 0
    · rw [if_pos ((first_block t ht).mpr hf), if_pos (by omega)]
    · rw [if_neg fun h' => hf ((first_block t ht).mp h'), if_neg (by omega)]
      refine (carried_at m c t (by omega) n).trans ?_
      rw [h0]; rfl
  · rw [if_neg h0, if_neg (by omega)]
    refine congrArg (fun z => proj (X m c) (W m c) z n.val) ?_
    show (t.val - 9) * 256 + (r.val - 1) = (t.val - 9) * 256 + r.val - 1
    omega

theorem one_at (x : FVec Ideal S256x1024 .f32) : View.canon (one x) = x := by
  unfold one
  exact View.canon_cons_unit_zero (by funext a; fin_cases a <;> rfl) _ _ _

/-- The array of the rows r. -/
theorem arr9 (c : Dev nD) : (dats m 0 c).arrAt 9 cfg0.N = rT (X m c) (W m c) (MU m c) := by
  refine (dats m 0 c).arrAt_eq_of_covers 9 _ (by decide +kernel) fun t hf y => ?_
  have ht : 9 ≤ t.val := (outs t).2.2.2.2 9 (by decide) hf
  blk_simp
  rw [after9, one_at]
  obtain ⟨r, j, rfl⟩ : ∃ (r : Fin 256) (j : Fin 1024), y = ix2 r j := ⟨y 0, y 1, by funext a; fin_cases a <;> rfl⟩
  have e : (win0_9.blk t).view.emb (ix2 r j) = ix2 (rowOf t r) j := by
    blk_ext [(outs t).1, rowOf]
  rw [e]
  exact (rOf_at _ _ _ _ _ _ _ _ _ _ _ r j).trans ((mixE_mixed m c t ht r _).trans (Cert.ProjRRefIdeal.Rows.rT_at _ _ _ (rowOf t r) j).symm)
/-- The array of the values. -/
theorem arr12 (c : Dev nD) : (dats m 0 c).arrAt 12 cfg0.N = vT (X m c) (W m c) (MU m c) := by
  refine (dats m 0 c).arrAt_eq_of_covers 12 _ (by decide +kernel) fun t hf y => ?_
  have ht : 9 ≤ t.val := (outs t).2.2.2.2 12 (by decide) hf
  blk_simp
  rw [after12, one_at]
  obtain ⟨r, j, rfl⟩ : ∃ (r : Fin 256) (j : Fin 1024), y = ix2 r j := ⟨y 0, y 1, by funext a; fin_cases a <;> rfl⟩
  have e : (win0_12.blk t).view.emb (ix2 r j) = ix2 (rowOf t r) j := by
    blk_ext [(outs t).2.2.1, rowOf]
  rw [e]
  exact (vOf_at _ _ _ _ _ _ _ _ _ _ _ r j).trans ((mixE_mixed m c t ht r _).trans (Cert.ProjRRefIdeal.Rows.vT_at _ _ _ (rowOf t r) j).symm)
/-- The array of the gate. -/
theorem arr15 (c : Dev nD) : (dats m 0 c).arrAt 15 cfg0.N = gT (X m c) (W m c) (MU m c) (G2 m c) := by
  refine (dats m 0 c).arrAt_eq_of_covers 15 _ (by decide +kernel) fun t hf y => ?_
  have ht : 9 ≤ t.val := (outs t).2.2.2.2 15 (by decide) hf
  blk_simp
  rw [after15, one_at]
  obtain ⟨r, j, rfl⟩ : ∃ (r : Fin 256) (j : Fin 1024), y = ix2 r j := ⟨y 0, y 1, by funext a; fin_cases a <;> rfl⟩
  have e : (win0_15.blk t).view.emb (ix2 r j) = ix2 (rowOf t r) j := by
    blk_ext [(outs t).2.2.2.1, rowOf]
  rw [e]
  refine (gOf_at _ _ _ _ _ _ _ _ _ _ _ r j).trans (Eq.trans ?_ (Cert.ProjRRefIdeal.Rows.gT_at _ _ _ _ (rowOf t r) j).symm)
  refine (sum_low _ fun q hq => ?_).trans (Finset.sum_congr rfl fun q _ => ?_)
  · rw [show (iblk m c 8 t : FVec Ideal S256x1024 .bf16) (ix2 q j) = _ from blk8 m c t q j, dif_neg (by omega), mul_zero]
  · exact congrArg₂ (fun y z => Ideal.logistic y * z) (mixE_mixed m c t ht r _) ((blk8 m c t _ j).trans (dif_pos q.isLt))
/-- The array of the keys. -/
theorem arr11 (c : Dev nD) : (dats m 0 c).arrAt 11 cfg0.N = kT (X m c) (W m c) (MU m c) (A0 m c) (A2 m c) (KA m c) := by
  refine (dats m 0 c).arrAt_eq_of_covers 11 _ (by decide +kernel) fun t hf y => ?_
  have ht : 9 ≤ t.val := (outs t).2.2.2.2 11 (by decide) hf
  blk_simp
  rw [after11, one_at]
  obtain ⟨r, j, rfl⟩ : ∃ (r : Fin 256) (j : Fin 1024), y = ix2 r j := ⟨y 0, y 1, by funext a; fin_cases a <;> rfl⟩
  have e : (win0_11.blk t).view.emb (ix2 r j) = ix2 (rowOf t r) j := by
    blk_ext [(outs t).2.1, rowOf]
  rw [e]
  refine (kOf_at _ _ _ _ _ _ _ _ _ _ _ r j fun x hx => (blk7 m c t x j).trans (dif_neg (by omega))).trans (Eq.trans ?_ (Cert.ProjRRefIdeal.Rows.kT_at _ _ _ _ _ _ (rowOf t r) j).symm)
  refine congrArg₂ (· * ·) (mixE_mixed m c t ht r _) (congrArg₂ (fun y z => 1 + (Ideal.logistic y - 1) * z) (congrArg₂ (· + ·) (blk4 m c t j) (Finset.sum_congr rfl fun q _ => ?_)) (blk6 m c t j))
  refine congrArg₂ (· * ·) (mixE_mixed m c t ht r _) ((blk7 m c t _ j).trans ((dif_pos (by show 64 ≤ 64 + q.val; omega)).trans ?_))
  exact congrArg (fun z => A2 m c (ix3 0 z j)) (Fin.ext (by show 64 + q.val - 64 = q.val; omega))

theorem preserves : Cert.preserves_ProjR_ProjRIdeal := trivial

/-- The kernel and the reference end with equal r, k, v and gate. -/
theorem algebraic : Cert.algebraic_ProjRIdeal_ProjRRefIdeal := by
  intro m g m' g' _ hagree
  refine ⟨fun c => rT (X m c) (W m c) (MU m c), fun c => kT (X m c) (W m c) (MU m c) (A0 m c) (A2 m c) (KA m c), fun c => vT (X m c) (W m c) (MU m c),
    fun c => gT (X m c) (W m c) (MU m c) (G2 m c), ?_, ?_⟩
  · refine (θ_run Cert.ProjRIdeal.defs _ _).mono (fun r h c => ⟨((h.1 c).1 9).trans (arr9 m c), ((h.1 c).1 11).trans (arr11 m c), ((h.1 c).1 12).trans (arr12 m c), ((h.1 c).1 15).trans (arr15 m c), h.2 c⟩)
      (θ_run_and (run m g) (frame_of m g (dats m) (A_eq m) (run m g)))
  · refine (θ_run Cert.ProjRRefIdeal.defs _ _).mono (fun r h c => ?_) (Cert.ProjRRefIdeal.Value.run m' g')
    obtain ⟨e0, e1, e2, _, _, e5, e6, e7, _, e9⟩ := hagree c
    refine ⟨(h c).1.trans ?_, (h c).2.1.trans ?_, (h c).2.2.1.trans ?_, (h c).2.2.2.1.trans ?_, (h c).2.2.2.2⟩
    · rw [e0, e1, e2]; rfl
    · unfold Cert.ProjRRefIdeal.Value.res_main_v47
      rw [e0, e1, e2, e5, e6, e9]; rfl
    · rw [e0, e1, e2]; rfl
    · rw [e0, e1, e2, e7]; rfl

end Cert.ProjRIdeal.Whole

end
-- ==== Proof.ProjRBits.lean ====
/- The recurrence's columns' program at machine floats has the same text as the one at the reals: the one run serves both. -/
module

public import proofs.«01_k».proof.Defs
public import proofs.«01_k».proof.Proof.ProjRFrame
public import proofs.«01_k».proof.Proof.Gen.ProjR.Frame

@[expose] public section

set_option maxRecDepth 16384
set_option maxHeartbeats 4000000

noncomputable section

namespace Cert.ProjR.Stage

open Idealize.ShloMosaic Idealize.SL.Sem

set_option backward.isDefEq.respectTransparency.types false

/-- The two programs' kernel bodies are the same. -/
theorem body_eq : (Cert.ProjR.defs₀ (F := Bits)) = (Cert.ProjRIdeal.defs₀ (F := Bits)) := by
  unfold Cert.ProjR.defs₀ Cert.ProjRIdeal.defs₀
  refine congrArg Defs.onTc ?_
  funext l x
  match l, x with
  | 0, (t, s) => rfl

/-- So are the tables of their bodies. -/
theorem defs_eq : (Cert.ProjR.defs (F := Bits)) = (Cert.ProjRIdeal.defs (F := Bits)) :=
  congrArg (Pipeline.defs (Cert.ProjRIdeal.pcfgs (F := Bits))) body_eq

/-- So is the host code around the call. -/
theorem main_eq (c : Dev Cert.ProjR.nD) : (Cert.ProjR.main (F := Bits)) c = (Cert.ProjRIdeal.main (F := Bits)) c := by
  unfold Cert.ProjR.main Cert.ProjRIdeal.main
  rfl

/-- A run of the one is a run of the other. -/
theorem run_of {s} {Q}
    (h : θ_run (Cert.ProjRIdeal.defs (F := Bits)) (onTc (τ := Cert.ProjRIdeal.τ) (Cert.ProjRIdeal.main (F := Bits))) s Q) :
    ∀ d p, d = Cert.ProjRIdeal.defs (F := Bits) → p = Cert.ProjRIdeal.main (F := Bits) →
      θ_run d (onTc (τ := Cert.ProjRIdeal.τ) p) s Q := by
  intro d p hd hp
  subst hd hp
  exact h

/-- The program runs, its arguments end unchanged and every semaphore at zero. -/
theorem frame : Cert.quiescent_ProjR := fun m ρ _ =>
  run_of (Cert.ProjRIdeal.Stage.frame (F := Bits) m ρ) _ _ defs_eq (funext main_eq)

end Cert.ProjR.Stage

end
-- ==== Proof.AttnEven.lean ====
/- One grid point of the differential attention, run once for each shape of point: the first block of queries of a batch, which fills
   the scratch buffers of keys and values, and the even and odd blocks after it. -/
module

public import proofs.«01_k».proof.Proof.Gen.AttnIdeal.Skeleton
public import proofs.«01_k».proof.Proof.Gen.AttnIdeal.Loops
public import proofs.«01_k».proof.Proof.Gen.AttnIdeal.Frame
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 65536

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of filling the scratch buffers: the point is a batch's first. -/
abbrev firstCond (i : grid0.Coords) : BitVec 1 := Scalar.cmpi .ne (Scalar.extui (Scalar.cmpi .eq (BitVec.ofNat 32 (i 2).val) 0#32) : BitVec 32) 0#32

set_option maxHeartbeats 4000000 in
/-- An even block of queries after the first. -/
def runEven (c : Dev nD) (i : grid0.Coords)
    (arg3 : Memref sig .tc .smem S8x8 .f32) (harg3 : arg3.IsWhole)
    (arg4 : Memref sig .tc .vmem S256x1024 .bf16) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S2048x128 .bf16) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x128 .f32) (harg12 : arg12.IsWhole)
    (arg13 : Memref sig .tc .vmem S256x1024 .bf16) (harg13 : arg13.IsWhole)
    (arg14 : Memref sig .tc .vmem S8x2048x256 .bf16) (harg14 : arg14.IsWhole)
    (arg15 : Memref sig .tc .vmem S32x144x512 .bf16) (harg15 : arg15.IsWhole)
    (arg16 : Memref sig .tc .vmem S8x512x256 .bf16) (harg16 : arg16.IsWhole)
    (arg17 : Memref sig .tc .vmem S8x144x512 .f32) (harg17 : arg17.IsWhole)
    (arg18 : Memref sig .tc .vmem S8x1x512 .f32) (harg18 : arg18.IsWhole)
    (hc1 : ¬firstCond i = 1#1) (hc2 : ¬k0_cond2 i = 1#1) (htr : (k0_t2_loop i).trips = 0)
    (x0 : Vec F S8x8 .f32) (x1 : Vec F S256x1024 .bf16) (x2 x3 : Vec F S2048x1024 .bf16) (x4 : Vec F S2048x128 .bf16)
    (x5 x6 x7 x8 : Vec F S1x64 .f32) (x9 : Vec F S1x128 .f32) (ka : Vec F S8x2048x256 .bf16) (vt : Vec F S32x144x512 .bf16) :
    { L : List (View.Piece (Elt F) S256x1024 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ (∃ d, owns (c : Thread nD τ) arg13 fullShare d)
            ∗ owns (c : Thread nD τ) arg14 fullShare ka
            ∗ owns (c : Thread nD τ) arg15 fullShare vt
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare x6
                ∗ owns (c : Thread nD τ) arg10 fullShare x7
                ∗ owns (c : Thread nD τ) arg11 fullShare x8
                ∗ owns (c : Thread nD τ) arg12 fullShare x9
                ∗ (∃ f, arg13.view.loc (c : Thread nD τ) ↦[arg13.view.set]{fullShare} arg13.view.writes (Elt F) f L)
                ∗ owns (c : Thread nD τ) arg14 fullShare ka
                ∗ owns (c : Thread nD τ) arg15 fullShare vt
                ∗ (∃ d, owns (c : Thread nD τ) arg16 fullShare d)
                ∗ (∃ d, owns (c : Thread nD τ) arg17 fullShare d)
                ∗ (∃ d, owns (c : Thread nD τ) arg18 fullShare d)) -∗ K ⟨⟩))
          ⊢ wp frame (wpE (defs₀ (F := F)) Variants.none c none) E
              (cc0__diff_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__diff_attn_kernel_eq_skeleton]; unfold cc0__diff_attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%d17, %f17, -, H17⟩, ⟨%d18, %f18, -, H18⟩, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg14.eq_unread hf14
    obtain rfl := harg15.eq_unread hf15
    sl_exec_parts! (disch := first | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.AttnIdeal.Point

end
-- ==== Proof.AttnOdd.lean ====
/- One grid point of the differential attention, run once for each shape of point: the first block of queries of a batch, which fills
   the scratch buffers of keys and values, and the even and odd blocks after it. -/
module

public import proofs.«01_k».proof.Proof.Gen.AttnIdeal.Skeleton
public import proofs.«01_k».proof.Proof.Gen.AttnIdeal.Loops
public import proofs.«01_k».proof.Proof.Gen.AttnIdeal.Frame
public import proofs.«01_k».proof.Proof.AttnEven
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 65536

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- An odd block of queries. -/
def runOdd (c : Dev nD) (i : grid0.Coords)
    (arg3 : Memref sig .tc .smem S8x8 .f32) (harg3 : arg3.IsWhole)
    (arg4 : Memref sig .tc .vmem S256x1024 .bf16) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S2048x128 .bf16) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x128 .f32) (harg12 : arg12.IsWhole)
    (arg13 : Memref sig .tc .vmem S256x1024 .bf16) (harg13 : arg13.IsWhole)
    (arg14 : Memref sig .tc .vmem S8x2048x256 .bf16) (harg14 : arg14.IsWhole)
    (arg15 : Memref sig .tc .vmem S32x144x512 .bf16) (harg15 : arg15.IsWhole)
    (arg16 : Memref sig .tc .vmem S8x512x256 .bf16) (harg16 : arg16.IsWhole)
    (arg17 : Memref sig .tc .vmem S8x144x512 .f32) (harg17 : arg17.IsWhole)
    (arg18 : Memref sig .tc .vmem S8x1x512 .f32) (harg18 : arg18.IsWhole)
    (hc1 : ¬firstCond i = 1#1) (hc2 : k0_cond2 i = 1#1) (htr : (k0_t2_loop i).trips = 0)
    (x0 : Vec F S8x8 .f32) (x1 : Vec F S256x1024 .bf16) (x2 x3 : Vec F S2048x1024 .bf16) (x4 : Vec F S2048x128 .bf16)
    (x5 x6 x7 x8 : Vec F S1x64 .f32) (x9 : Vec F S1x128 .f32) (ka : Vec F S8x2048x256 .bf16) (vt : Vec F S32x144x512 .bf16) :
    { L : List (View.Piece (Elt F) S256x1024 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ (∃ d, owns (c : Thread nD τ) arg13 fullShare d)
            ∗ owns (c : Thread nD τ) arg14 fullShare ka
            ∗ owns (c : Thread nD τ) arg15 fullShare vt
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare x6
                ∗ owns (c : Thread nD τ) arg10 fullShare x7
                ∗ owns (c : Thread nD τ) arg11 fullShare x8
                ∗ owns (c : Thread nD τ) arg12 fullShare x9
                ∗ (∃ f, arg13.view.loc (c : Thread nD τ) ↦[arg13.view.set]{fullShare} arg13.view.writes (Elt F) f L)
                ∗ owns (c : Thread nD τ) arg14 fullShare ka
                ∗ owns (c : Thread nD τ) arg15 fullShare vt
                ∗ (∃ d, owns (c : Thread nD τ) arg16 fullShare d)
                ∗ (∃ d, owns (c : Thread nD τ) arg17 fullShare d)
                ∗ (∃ d, owns (c : Thread nD τ) arg18 fullShare d)) -∗ K ⟨⟩))
          ⊢ wp frame (wpE (defs₀ (F := F)) Variants.none c none) E
              (cc0__diff_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__diff_attn_kernel_eq_skeleton]; unfold cc0__diff_attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%d17, %f17, -, H17⟩, ⟨%d18, %f18, -, H18⟩, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg14.eq_unread hf14
    obtain rfl := harg15.eq_unread hf15
    sl_exec_parts! (disch := first | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.AttnIdeal.Point

end
-- ==== Proof.AttnFirst.lean ====
/- One grid point of the differential attention, run once for each shape of point: the first block of queries of a batch, which fills
   the scratch buffers of keys and values, and the even and odd blocks after it. -/
module

public import proofs.«01_k».proof.Proof.Gen.AttnIdeal.Skeleton
public import proofs.«01_k».proof.Proof.Gen.AttnIdeal.Loops
public import proofs.«01_k».proof.Proof.Gen.AttnIdeal.Frame
public import proofs.«01_k».proof.Proof.AttnEven
public import Idealize.ShloMosaic.Lib.Exec
public import Idealize.ShloMosaic.Lib.WholeRead
public import Idealize.ShloMosaic.Lib.WritesUnit
public import Idealize.ShloMosaic.Lib.Pipeline.ValueKit

@[expose] public section

set_option maxRecDepth 65536

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer whose listed writes cover it, restated at the array they leave. -/
theorem restate {s : Shape} {e : EltTy} {sp : Space} (a : Memref sig .tc sp s e) (h : a.IsWhole) (f : BufTy.Contents (Elt F) a.view.ty)
    (L : List (View.Piece (Elt F) s e)) (hc : ∀ y, ∃ p ∈ L, y ∈ p.1.set) : a.view.writes (Elt F) f L = h.unread (View.canon L) :=
  h.eq_unread (View.read_writes_eq_canon a.view f L hc)

set_option maxHeartbeats 4000000 in
/-- A batch's first block of queries: it fills the two scratch buffers of keys and values, then goes on as an even block. -/
def runFirst (c : Dev nD) (i : grid0.Coords)
    (arg3 : Memref sig .tc .smem S8x8 .f32) (harg3 : arg3.IsWhole)
    (arg4 : Memref sig .tc .vmem S256x1024 .bf16) (harg4 : arg4.IsWhole)
    (arg5 : Memref sig .tc .vmem S2048x1024 .bf16) (harg5 : arg5.IsWhole)
    (arg6 : Memref sig .tc .vmem S2048x1024 .bf16) (harg6 : arg6.IsWhole)
    (arg7 : Memref sig .tc .vmem S2048x128 .bf16) (harg7 : arg7.IsWhole)
    (arg8 : Memref sig .tc .vmem S1x64 .f32) (harg8 : arg8.IsWhole)
    (arg9 : Memref sig .tc .vmem S1x64 .f32) (harg9 : arg9.IsWhole)
    (arg10 : Memref sig .tc .vmem S1x64 .f32) (harg10 : arg10.IsWhole)
    (arg11 : Memref sig .tc .vmem S1x64 .f32) (harg11 : arg11.IsWhole)
    (arg12 : Memref sig .tc .vmem S1x128 .f32) (harg12 : arg12.IsWhole)
    (arg13 : Memref sig .tc .vmem S256x1024 .bf16) (harg13 : arg13.IsWhole)
    (arg14 : Memref sig .tc .vmem S8x2048x256 .bf16) (harg14 : arg14.IsWhole)
    (arg15 : Memref sig .tc .vmem S32x144x512 .bf16) (harg15 : arg15.IsWhole)
    (arg16 : Memref sig .tc .vmem S8x512x256 .bf16) (harg16 : arg16.IsWhole)
    (arg17 : Memref sig .tc .vmem S8x144x512 .f32) (harg17 : arg17.IsWhole)
    (arg18 : Memref sig .tc .vmem S8x1x512 .f32) (harg18 : arg18.IsWhole)
    (hc1 : firstCond i = 1#1) (hc2 : ¬k0_cond2 i = 1#1) (htr : (k0_t2_loop i).trips = 0)
    (x0 : Vec F S8x8 .f32) (x1 : Vec F S256x1024 .bf16) (x2 x3 : Vec F S2048x1024 .bf16) (x4 : Vec F S2048x128 .bf16)
    (x5 x6 x7 x8 : Vec F S1x64 .f32) (x9 : Vec F S1x128 .f32) :
    { L : List (View.Piece (Elt F) S256x1024 .bf16) × List (View.Piece (Elt F) S8x2048x256 .bf16) × List (View.Piece (Elt F) S32x144x512 .bf16) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare x6
                ∗ owns (c : Thread nD τ) arg10 fullShare x7
                ∗ owns (c : Thread nD τ) arg11 fullShare x8
                ∗ owns (c : Thread nD τ) arg12 fullShare x9
                ∗ (∃ f, arg13.view.loc (c : Thread nD τ) ↦[arg13.view.set]{fullShare} arg13.view.writes (Elt F) f L.1)
                ∗ owns (c : Thread nD τ) arg14 fullShare (View.canon L.2.1)
                ∗ owns (c : Thread nD τ) arg15 fullShare (View.canon L.2.2)
                ∗ (∃ d, owns (c : Thread nD τ) arg16 fullShare d)
                ∗ (∃ d, owns (c : Thread nD τ) arg17 fullShare d)
                ∗ (∃ d, owns (c : Thread nD τ) arg18 fullShare d)) -∗ K ⟨⟩))
          ⊢ wp frame (wpE (defs₀ (F := F)) Variants.none c none) E
              (cc0__diff_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨(?_, ?_, ?_), fun E K => ?run⟩
  case run =>
    simp only [cc0__diff_attn_kernel_eq_skeleton]; unfold cc0__diff_attn_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    set_option sl_exec.stopBefore "k0_part39" in sl_exec_parts! (disch := first | sl_exact hc1 | sl_exact hc2)
    rw [restate arg14 harg14 f14 _ ?c14, restate arg15 harg15 f15 _ ?c15]
    sl_exec_parts! (disch := first | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; swap; · iexact H14
      ipureintro; exact harg14.read_unread _
    isplitl [H15]
    · iexists _; isplitr; swap; · iexact H15
      ipureintro; exact harg15.read_unread _
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
    case c14 => exact View.cover_of_tiledL _ ![1, 2048, 128] (by sl_kernel_rfl)
    case c15 => exact View.cover_of_tiledBy _ ![1, 16, 512] (by sl_kernel_rfl)

end Cert.AttnIdeal.Point

end
-- ==== Proof.AttnFrame.lean ====
/- The attention runs, leaves its arguments unchanged and every semaphore at zero; what its output array holds. -/
module

public import proofs.«01_k».proof.Proof.AttnEven
public import proofs.«01_k».proof.Proof.AttnOdd
public import proofs.«01_k».proof.Proof.AttnFirst
public import Idealize.ShloMosaic.Lib.Claim

@[expose] public section

set_option maxRecDepth 65536

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: eight blocks of queries to a batch -/

theorem noTrips : ∀ t : Fin cfg0.N, (k0_t2_loop (grid0.coords t)).trips = 0 := (by decide +kernel : ∀ t : Fin grid0.N, _)
theorem firsts : ∀ t : Fin cfg0.N, t.val % 8 = 0 → firstCond (grid0.coords t) = 1#1 ∧ ¬k0_cond2 (grid0.coords t) = 1#1 :=
  (by decide +kernel : ∀ t : Fin grid0.N, _)
theorem evens : ∀ t : Fin cfg0.N, ¬t.val % 8 = 0 → t.val % 2 = 0 → ¬firstCond (grid0.coords t) = 1#1 ∧ ¬k0_cond2 (grid0.coords t) = 1#1 :=
  (by decide +kernel : ∀ t : Fin grid0.N, _)
theorem odds : ∀ t : Fin cfg0.N, ¬t.val % 2 = 0 → ¬firstCond (grid0.coords t) = 1#1 ∧ k0_cond2 (grid0.coords t) = 1#1 :=
  (by decide +kernel : ∀ t : Fin grid0.N, _)

/-- The scratch buffers: keys, values, queries, the sums and the maxima. -/
abbrev scrK : Memref sig .tc .vmem S8x2048x256 .bf16 := Memref.whole cc0_scratch0
abbrev scrV : Memref sig .tc .vmem S32x144x512 .bf16 := Memref.whole cc0_scratch1
abbrev scrQ : Memref sig .tc .vmem S8x512x256 .bf16 := Memref.whole cc0_scratch2
abbrev scrA : Memref sig .tc .vmem S8x144x512 .f32 := Memref.whole cc0_scratch3
abbrev scrM : Memref sig .tc .vmem S8x1x512 .f32 := Memref.whole cc0_scratch4

/-- What the launch hands over: the scratch buffers at anything, and the generator register. -/
theorem launch_eq (c : Dev nD) :
    (Pipeline.ΦA spec0 c : sProp 𝕄) = iprop(iprop((∃ d, owns (c : Thread nD τ) scrK fullShare d) ∗ (∃ d, owns (c : Thread nD τ) scrV fullShare d)
      ∗ (∃ d, owns (c : Thread nD τ) scrQ fullShare d) ∗ (∃ d, owns (c : Thread nD τ) scrA fullShare d) ∗ (∃ d, owns (c : Thread nD τ) scrM fullShare d)) ∗ (∃ r, prngReg c r)) := by
  unfold Pipeline.ΦA; rw [scopedRest0_eq]; simp only [scrK, scrV, scrQ, scrA, scrM, owns_whole]; try rfl

/-! ## The proof data -/

/-- Point `t`'s run at its blocks. -/
abbrev firstRun (c : Dev nD) (t : Fin cfg0.N) (h : t.val % 8 = 0) :=
  runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (firsts t h).1 (firsts t h).2 (noTrips t) (iblk m c 0 t) (iblk m c 1 t) (iblk m c 2 t) (iblk m c 3 t) (iblk m c 4 t) (iblk m c 5 t) (iblk m c 6 t) (iblk m c 7 t) (iblk m c 8 t) (iblk m c 9 t)

/-- Point `t`'s run at its blocks. -/
abbrev evenRun (c : Dev nD) (t : Fin cfg0.N) (h : ¬t.val % 8 = 0) (h2 : t.val % 2 = 0) (ka : Vec F S8x2048x256 .bf16) (vt : Vec F S32x144x512 .bf16) :=
  runEven c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (evens t h h2).1 (evens t h h2).2 (noTrips t) (iblk m c 0 t) (iblk m c 1 t) (iblk m c 2 t) (iblk m c 3 t) (iblk m c 4 t) (iblk m c 5 t) (iblk m c 6 t) (iblk m c 7 t) (iblk m c 8 t) (iblk m c 9 t) ka vt

/-- Point `t`'s run at its blocks. -/
abbrev oddRun (c : Dev nD) (t : Fin cfg0.N) (h2 : ¬t.val % 2 = 0) (ka : Vec F S8x2048x256 .bf16) (vt : Vec F S32x144x512 .bf16) :=
  runOdd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (odds t h2).1 (odds t h2).2 (noTrips t) (iblk m c 0 t) (iblk m c 1 t) (iblk m c 2 t) (iblk m c 3 t) (iblk m c 4 t) (iblk m c 5 t) (iblk m c 6 t) (iblk m c 7 t) (iblk m c 8 t) (iblk m c 9 t) ka vt

/-- A batch's first point. -/
def start (n : ℕ) (h : n < 32) : Fin cfg0.N := ⟨n / 8 * 8, by show n / 8 * 8 < 32; omega⟩
theorem start_mod (n : ℕ) (h : n < 32) : (start n h).val % 8 = 0 := by show n / 8 * 8 % 8 = 0; omega

theorem first_congr (c : Dev nD) (t t' : Fin cfg0.N) (h : t.val % 8 = 0) (h' : t'.val % 8 = 0) (e : t = t') :
    (firstRun m c t h).1.2 = (firstRun m c t' h').1.2 := by subst e; rfl

/-- The keys' buffer of the batch of point `n`, once its first point has run. -/
def keys (c : Dev nD) (n : ℕ) (h : n < 32) : Vec F S8x2048x256 .bf16 := View.canon (firstRun m c (start n h) (start_mod n h)).1.2.1
/-- The values' buffer. -/
def vals (c : Dev nD) (n : ℕ) (h : n < 32) : Vec F S32x144x512 .bf16 := View.canon (firstRun m c (start n h) (start_mod n h)).1.2.2

theorem keys_congr (c : Dev nD) (n n' : ℕ) (h : n < 32) (h' : n' < 32) (e : n / 8 = n' / 8) : keys m c n h = keys m c n' h' := by
  unfold keys; rw [first_congr m c _ _ (start_mod n h) (start_mod n' h') (Fin.ext (by show n / 8 * 8 = n' / 8 * 8; rw [e]))]
theorem vals_congr (c : Dev nD) (n n' : ℕ) (h : n < 32) (h' : n' < 32) (e : n / 8 = n' / 8) : vals m c n h = vals m c n' h' := by
  unfold vals; rw [first_congr m c _ _ (start_mod n h) (start_mod n' h') (Fin.ext (by show n / 8 * 8 = n' / 8 * 8; rw [e]))]

/-- Before point `n` the two buffers of keys and values hold the batch's, unless the batch has yet to start. -/
def inv (c : Dev nD) (n : ℕ) : sProp 𝕄 :=
  iprop(((∃ f, iprop(⌜∀ h : n < 32, ¬n % 8 = 0 → f = keys m c n h⌝ ∗ owns (c : Thread nD τ) scrK fullShare f))
    ∗ (∃ f, iprop(⌜∀ h : n < 32, ¬n % 8 = 0 → f = vals m c n h⌝ ∗ owns (c : Thread nD τ) scrV fullShare f))
    ∗ (∃ d, owns (c : Thread nD τ) scrQ fullShare d) ∗ (∃ d, owns (c : Thread nD τ) scrA fullShare d) ∗ (∃ d, owns (c : Thread nD τ) scrM fullShare d)) ∗ (∃ r, prngReg c r))

/-- What a point leaves in the output's buffer. -/
def outBlk (c : Dev nD) (t : Fin cfg0.N) : Vec F S256x1024 .bf16 :=
  if h : t.val % 8 = 0 then View.canon (firstRun m c t h).1.1
  else if h2 : t.val % 2 = 0 then View.canon (evenRun m c t h h2 (keys m c t.val t.isLt) (vals m c t.val t.isLt)).1
  else View.canon (oddRun m c t h2 (keys m c t.val t.isLt) (vals m c t.val t.isLt)).1

/-- The proof data: inputs' buffers at their blocks, the output's at `outBlk`, the scratch buffers by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ t := inv m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outBlk m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body at a point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

theorem first_cover (c : Dev nD) (t : Fin cfg0.N) (h : t.val % 8 = 0) : ∀ y : S256x1024.Idx, ∃ p ∈ (firstRun m c t h).1.1, y ∈ p.1.set := by
  unfold firstRun runFirst; dsimp only
  exact View.cover_of_tiledL _ ![256, 128] (by sl_kernel_rfl)

theorem even_cover (c : Dev nD) (t : Fin cfg0.N) (h : ¬t.val % 8 = 0) (h2 : t.val % 2 = 0) (ka : Vec F S8x2048x256 .bf16) (vt : Vec F S32x144x512 .bf16) : ∀ y : S256x1024.Idx, ∃ p ∈ (evenRun m c t h h2 ka vt).1, y ∈ p.1.set := by
  unfold evenRun runEven; dsimp only
  exact View.cover_of_tiledL _ ![256, 128] (by sl_kernel_rfl)

theorem odd_cover (c : Dev nD) (t : Fin cfg0.N) (h2 : ¬t.val % 2 = 0) (ka : Vec F S8x2048x256 .bf16) (vt : Vec F S32x144x512 .bf16) : ∀ y : S256x1024.Idx, ∃ p ∈ (oddRun m c t h2 ka vt).1, y ∈ p.1.set := by
  unfold oddRun runOdd; dsimp only
  exact View.cover_of_tiledL _ ![256, 128] (by sl_kernel_rfl)

set_option maxHeartbeats 6400000 in
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9]
  have ht : t.val < 32 := t.isLt
  rw [show (dats m 0 c).owesAt () t.succ = (dats m 0 c).owesAt () t.castSucc from rfl,
    show (dats m 0 c).Φ t.succ = inv m c (t.val + 1) from rfl, show (dats m 0 c).Φ t.castSucc = inv m c t.val from rfl,
    show (dats m 0 c).leavesExact 0 t = owns (c : Thread nD τ) (st0_0 t) fullShare (iblk m c 0 t) from by rw [← after0],
    show (dats m 0 c).leavesExact 1 t = owns (c : Thread nD τ) (st0_1 t) fullShare (iblk m c 1 t) from by rw [← after1],
    show (dats m 0 c).leavesExact 2 t = owns (c : Thread nD τ) (st0_2 t) fullShare (iblk m c 2 t) from by rw [← after2],
    show (dats m 0 c).leavesExact 3 t = owns (c : Thread nD τ) (st0_3 t) fullShare (iblk m c 3 t) from by rw [← after3],
    show (dats m 0 c).leavesExact 4 t = owns (c : Thread nD τ) (st0_4 t) fullShare (iblk m c 4 t) from by rw [← after4],
    show (dats m 0 c).leavesExact 5 t = owns (c : Thread nD τ) (st0_5 t) fullShare (iblk m c 5 t) from by rw [← after5],
    show (dats m 0 c).leavesExact 6 t = owns (c : Thread nD τ) (st0_6 t) fullShare (iblk m c 6 t) from by rw [← after6],
    show (dats m 0 c).leavesExact 7 t = owns (c : Thread nD τ) (st0_7 t) fullShare (iblk m c 7 t) from by rw [← after7],
    show (dats m 0 c).leavesExact 8 t = owns (c : Thread nD τ) (st0_8 t) fullShare (iblk m c 8 t) from by rw [← after8],
    show (dats m 0 c).leavesExact 9 t = owns (c : Thread nD τ) (st0_9 t) fullShare (iblk m c 9 t) from by rw [← after9],
    show (dats m 0 c).leavesExact 10 t = owns (c : Thread nD τ) (st0_10 t) fullShare (outBlk m c t) from by rw [← after10]]
  unfold inv
  by_cases h : t.val % 8 = 0
  · iintro ⟨⟨⟨⟨%fk, %hk, HK⟩, ⟨%fv, %hv, HV⟩, ⟨%dq, HQ⟩, ⟨%da, HA⟩, ⟨%dm, HM⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstRun m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HK]; · iexists _; iexact HK
    isplitl [HV]; · iexists _; iexact HV
    isplitl [HQ]; · iexists _; iexact HQ
    isplitl [HA]; · iexists _; iexact HA
    isplitl [HM]; · iexists _; iexact HM
    iintro ⟨H0, H1, H2, H3, H4, H5, H6, H7, H8, H9, ⟨%e, H10⟩, HK, HV, ⟨%dq', HQ⟩, ⟨%da', HA⟩, ⟨%dm', HM⟩⟩
    isplitl [HK HV HQ HA HM Hg]
    · isplitl [HK HV HQ HA HM]
      · isplitl [HK]
        · iexists _; isplitr; swap; · iexact HK
          ipureintro; intro h' hn; rw [keys_congr m c (t.val + 1) t.val h' ht (by omega)]; unfold keys; rw [first_congr m c _ t (start_mod t.val ht) h (Fin.ext (by show t.val / 8 * 8 = t.val; omega))]
        isplitl [HV]
        · iexists _; isplitr; swap; · iexact HV
          ipureintro; intro h' hn; rw [vals_congr m c (t.val + 1) t.val h' ht (by omega)]; unfold vals; rw [first_congr m c _ t (start_mod t.val ht) h (Fin.ext (by show t.val / 8 * 8 = t.val; omega))]
        isplitl [HQ]; · iexists _; iexact HQ
        isplitl [HA]; · iexists _; iexact HA
        iexists _; iexact HM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; unfold outBlk; rw [dif_pos h]
    exact View.read_writes_eq_canon _ _ _ (first_cover m c t h)
  by_cases h2 : t.val % 2 = 0
  · iintro ⟨⟨⟨⟨%fk, %hk, HK⟩, ⟨%fv, %hv, HV⟩, ⟨%dq, HQ⟩, ⟨%da, HA⟩, ⟨%dm, HM⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := hk ht h
    obtain rfl := hv ht h
    iapply ((evenRun m c t h h2 (keys m c t.val ht) (vals m c t.val ht)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HK]; · iexact HK
    isplitl [HV]; · iexact HV
    isplitl [HQ]; · iexists _; iexact HQ
    isplitl [HA]; · iexists _; iexact HA
    isplitl [HM]; · iexists _; iexact HM
    iintro ⟨H0, H1, H2, H3, H4, H5, H6, H7, H8, H9, ⟨%e, H10⟩, HK, HV, ⟨%dq', HQ⟩, ⟨%da', HA⟩, ⟨%dm', HM⟩⟩
    isplitl [HK HV HQ HA HM Hg]
    · isplitl [HK HV HQ HA HM]
      · isplitl [HK]
        · iexists _; isplitr; swap; · iexact HK
          ipureintro; intro h' hn; exact keys_congr m c t.val (t.val + 1) ht h' (by omega)
        isplitl [HV]
        · iexists _; isplitr; swap; · iexact HV
          ipureintro; intro h' hn; exact vals_congr m c t.val (t.val + 1) ht h' (by omega)
        isplitl [HQ]; · iexists _; iexact HQ
        isplitl [HA]; · iexists _; iexact HA
        iexists _; iexact HM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; unfold outBlk; rw [dif_neg h, dif_pos h2]
    exact View.read_writes_eq_canon _ _ _ (even_cover m c t h h2 _ _)
  · iintro ⟨⟨⟨⟨%fk, %hk, HK⟩, ⟨%fv, %hv, HV⟩, ⟨%dq, HQ⟩, ⟨%da, HA⟩, ⟨%dm, HM⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := hk ht h
    obtain rfl := hv ht h
    iapply ((oddRun m c t h2 (keys m c t.val ht) (vals m c t.val ht)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HK]; · iexact HK
    isplitl [HV]; · iexact HV
    isplitl [HQ]; · iexists _; iexact HQ
    isplitl [HA]; · iexists _; iexact HA
    isplitl [HM]; · iexists _; iexact HM
    iintro ⟨H0, H1, H2, H3, H4, H5, H6, H7, H8, H9, ⟨%e, H10⟩, HK, HV, ⟨%dq', HQ⟩, ⟨%da', HA⟩, ⟨%dm', HM⟩⟩
    isplitl [HK HV HQ HA HM Hg]
    · isplitl [HK HV HQ HA HM]
      · isplitl [HK]
        · iexists _; isplitr; swap; · iexact HK
          ipureintro; intro h' hn; exact keys_congr m c t.val (t.val + 1) ht h' (by omega)
        isplitl [HV]
        · iexists _; isplitr; swap; · iexact HV
          ipureintro; intro h' hn; exact vals_congr m c t.val (t.val + 1) ht h' (by omega)
        isplitl [HQ]; · iexists _; iexact HQ
        isplitl [HA]; · iexists _; iexact HA
        iexists _; iexact HM
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; unfold outBlk; rw [dif_neg h, dif_neg h2]
    exact View.read_writes_eq_canon _ _ _ (odd_cover m c t h2 _ _)

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem hin (c : Dev nD) : Pipeline.ΦA spec0 c ⊢ (dats m 0 c).Φ 0 := by
  rw [show (dats m 0 c).Φ 0 = inv m c 0 from rfl, launch_eq]
  unfold inv
  iintro ⟨⟨⟨%f, HK⟩, ⟨%g, HV⟩, HQ, HA, HM⟩, Hg⟩
  isplitl [HK HV HQ HA HM]
  · isplitl [HK]
    · iexists _; isplitr
      swap; · iexact HK
      ipureintro; intro _ h; exact absurd rfl h
    isplitl [HV]
    · iexists _; isplitr
      swap; · iexact HV
      ipureintro; intro _ h; exact absurd rfl h
    isplitl [HQ]; · iexact HQ
    isplitl [HA]; · iexact HA
    iexact HM
  iexact Hg

theorem hout (c : Dev nD) : (dats m 0 c).Φ (Fin.last cfg0.N) ⊢ Pipeline.ΦA spec0 c := by
  rw [show (dats m 0 c).Φ (Fin.last cfg0.N) = inv m c cfg0.N from rfl, launch_eq]
  unfold inv
  iintro ⟨⟨⟨%f, -, HK⟩, ⟨%g, -, HV⟩, HQ, HA, HM⟩, Hg⟩
  isplitl [HK HV HQ HA HM]
  · isplitl [HK]; · iexists _; iexact HK
    isplitl [HV]; · iexists _; iexact HV
    isplitl [HQ]; · iexact HQ
    isplitl [HA]; · iexact HA
    iexact HM
  iexact Hg

/-! ## The run -/

set_option backward.isDefEq.respectTransparency.types false in
/-- The whole program: every array as the proof data says, every semaphore at zero. -/
theorem runs : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (runs m ρ)

/-- The program runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (runs m ρ))

end Cert.AttnIdeal.Point

end
-- ==== Proof.lean ====
/- The claims of the feed-forward blocks, the input and output projections and the attention: each program runs, leaves its arguments unchanged and every semaphore at zero; each kernel's result equals the reference's. -/
module

public import proofs.«01_k».proof.Defs
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnIdeal.Value
public import proofs.«01_k».proof.Proof.Gen.OutLnRefIdeal
public import proofs.«01_k».proof.Proof.Gen.OutLnRefIdeal.Run
public import proofs.«01_k».proof.Proof.Gen.ProjA
public import proofs.«01_k».proof.Proof.Gen.ProjAIdeal
public import proofs.«01_k».proof.Proof.Gen.ProjARefIdeal
public import proofs.«01_k».proof.Proof.Gen.ProjARefIdeal.Run
public import proofs.«01_k».proof.Proof.Gen.ProjR
public import proofs.«01_k».proof.Proof.Gen.ProjR.Frame
public import proofs.«01_k».proof.Proof.Gen.ProjRIdeal
public import proofs.«01_k».proof.Proof.Gen.ProjRIdeal.Frame
public import proofs.«01_k».proof.Proof.Gen.ProjRRefIdeal
public import proofs.«01_k».proof.Proof.Gen.ProjRRefIdeal.Run
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.FfnA
public import proofs.«01_k».proof.Proof.Gen.FfnA.Frame
public import proofs.«01_k».proof.Proof.Gen.FfnAIdeal
public import proofs.«01_k».proof.Proof.Gen.FfnAIdeal.Frame
public import proofs.«01_k».proof.Proof.Gen.FfnAIdeal.Value
public import proofs.«01_k».proof.Proof.Gen.FfnB
public import proofs.«01_k».proof.Proof.Gen.FfnB.Frame
public import proofs.«01_k».proof.Proof.Gen.FfnBIdeal
public import proofs.«01_k».proof.Proof.Gen.FfnBIdeal.Frame
public import proofs.«01_k».proof.Proof.Gen.FfnBIdeal.Value
public import proofs.«01_k».proof.Proof.Gen.FfnRefIdeal
public import proofs.«01_k».proof.Proof.Gen.FfnRefIdeal.Run
public import proofs.«01_k».proof.Proof.FfnAValue
public import proofs.«01_k».proof.Proof.FfnBValue
public import proofs.«01_k».proof.Proof.OutLn
public import proofs.«01_k».proof.Proof.ProjAValue
public import proofs.«01_k».proof.Proof.ProjABitsFrame
public import proofs.«01_k».proof.Proof.ProjRValue
public import proofs.«01_k».proof.Proof.ProjRBits
public import proofs.«01_k».proof.Proof.AttnFrame
public import proofs.«01_k».proof.Proof.AttnBitsFrame

@[expose] public section

noncomputable section

namespace Cert.Proof

open Idealize.ShloMosaic Idealize.SL.Sem

/-- The feed-forward reference runs and leaves its arguments unchanged; it has no semaphore. -/
theorem frame_ffnRef : Cert.quiescent_FfnRefIdeal := fun m ρ _ =>
  (θ_run Cert.FfnRefIdeal.defs _ _).mono (fun _ h => ⟨fun c => (h c).2, sem_eq_zero_of_no_sems (by decide) _⟩) (Cert.FfnRefIdeal.Value.run m ρ)

/-- So does the output projection's reference. -/
theorem frame_outLnRef : Cert.quiescent_OutLnRefIdeal := fun m ρ _ =>
  (θ_run Cert.OutLnRefIdeal.defs _ _).mono (fun _ h => ⟨fun c => (h c).2, sem_eq_zero_of_no_sems (by decide) _⟩) (Cert.OutLnRefIdeal.Value.run m ρ)

/-- So does the attention columns' reference. -/
theorem frame_projARef : Cert.quiescent_ProjARefIdeal := fun m ρ _ =>
  (θ_run Cert.ProjARefIdeal.defs _ _).mono (fun _ h => ⟨fun c => (h c).2, sem_eq_zero_of_no_sems (by decide) _⟩) (Cert.ProjARefIdeal.Value.run m ρ)

/-- So does the attention's reference. -/
theorem frame_attnRef : Cert.quiescent_AttnRefIdeal := fun m ρ _ =>
  (θ_run Cert.AttnRefIdeal.defs _ _).mono (fun _ h => ⟨fun c => (h c).2, sem_eq_zero_of_no_sems (by decide) _⟩) (Cert.AttnRefIdeal.Value.run m ρ)

/-- So does the recurrence's columns' reference. -/
theorem frame_projRRef : Cert.quiescent_ProjRRefIdeal := fun m ρ _ =>
  (θ_run Cert.ProjRRefIdeal.defs _ _).mono (fun _ h => ⟨fun c => (h c).2.2.2.2, sem_eq_zero_of_no_sems (by decide) _⟩) (Cert.ProjRRefIdeal.Value.run m ρ)

/-- All the claims. -/
theorem claim : Cert.Claim := ⟨Cert.FfnA.Gen.facts, Cert.FfnAIdeal.Gen.facts, Cert.FfnRefIdeal.Gen.facts, Cert.FfnB.Gen.facts, Cert.FfnBIdeal.Gen.facts,
  Cert.OutLn.Gen.facts, Cert.OutLnIdeal.Gen.facts, Cert.OutLnRefIdeal.Gen.facts, Cert.ProjA.Gen.facts, Cert.ProjAIdeal.Gen.facts, Cert.ProjARefIdeal.Gen.facts, Cert.Attn.Gen.facts, Cert.AttnIdeal.Gen.facts, Cert.AttnRefIdeal.Gen.facts,
  Cert.ProjR.Gen.facts, Cert.ProjRIdeal.Gen.facts, Cert.ProjRRefIdeal.Gen.facts,
  fun m ρ _ => Cert.FfnA.Gen.frame m ρ, fun m ρ _ => Cert.FfnAIdeal.Gen.frame m ρ, frame_ffnRef, fun m ρ _ => Cert.FfnB.Gen.frame m ρ, fun m ρ _ => Cert.FfnBIdeal.Gen.frame m ρ,
  fun m ρ _ => Cert.OutLn.Gen.frame m ρ, fun m ρ _ => Cert.OutLnIdeal.Gen.frame m ρ, frame_outLnRef,
  fun m ρ _ => Cert.ProjA.Stage.frame m ρ, fun m ρ _ => Cert.ProjAIdeal.Stage.frame m ρ, frame_projARef,
  fun m ρ _ => Cert.Attn.Point.frame m ρ, fun m ρ _ => Cert.AttnIdeal.Point.frame m ρ, frame_attnRef,
  Cert.ProjR.Stage.frame, fun m ρ _ => Cert.ProjRIdeal.Stage.frame m ρ, frame_projRRef,
  trivial, Cert.FfnAIdeal.Whole.algebraic, trivial, Cert.FfnBIdeal.Whole.algebraic,
  trivial, Cert.OutLnIdeal.Rows.algebraic, Cert.ProjAIdeal.Whole.preserves, Cert.ProjAIdeal.Whole.algebraic,
  trivial, Cert.ProjRIdeal.Whole.preserves, Cert.ProjRIdeal.Whole.algebraic⟩

end Cert.Proof

end
